-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_expert_in_range : Cert.Pre_expert_in_range.Facts] (m : (ℓ : Loc Cert.Kernel2.nD Cert.Kernel2.τ Cert.Kernel2.sig) → Buf (Elt Bits) ℓ) : Prop :=
  ∀ c : Dev Cert.Kernel2.nD,
    (Cert.Pre_expert_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_expert_in_range : Cert.Pre_expert_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_in_range [hPre_expert_in_range : Cert.Pre_expert_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_expert_in_range : Cert.Pre_expert_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_expert_in_range : Cert.Pre_expert_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_expert_in_range [hReference2Ideal : Cert.Reference2Ideal.Facts] [hPre_expert_in_range : Cert.Pre_expert_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_expert_in_range : Cert.Pre_expert_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v14) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v0_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_expert_in_range : Cert.Pre_expert_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_expert_in_range := hPre_expert_in_range)
    ∧ quiescent_Kernel2Ideal (hKernel2Ideal := hKernel2Ideal) (hPre_expert_in_range := hPre_expert_in_range)
    ∧ quiescent_Reference2Ideal (hReference2Ideal := hReference2Ideal)
    ∧ quiescent_Reference2Ideal_pre_expert_in_range (hReference2Ideal := hReference2Ideal) (hPre_expert_in_range := hPre_expert_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_expert_in_range := hPre_expert_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_expert_in_range.lean ====
abbrev S80 : Shape := ⟨1, ![80]⟩
abbrev S1 : Shape := ⟨1, ![1]⟩
abbrev S40960x1024 : Shape := ⟨2, ![40960, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S80 : S_.BroadcastsInDim S80 (![] : Fin 0 → Fin S80.rank)

variable [Facts]

def fn {F : FTy → Type} [FloatOps F] (main_arg0 : IVec S80 32) (main_arg1 : IVec S1 32) (main_arg2 : FVec F S40960x1024 .f32) (main_arg3 : FVec F S32x1024x512 .f32) (main_arg4 : FVec F S32x1024x512 .f32) (main_arg5 : FVec F S32x512x1024 .f32) : IVec S80 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 32#32
  let main_v2 : IVec S80 32 := broadcastInDim S80 ![] bcast_S_S80 main_c_0
  let main_v3 : IVec S80 1 := cmpi .slt main_arg0 main_v2
  let main_v4 : IVec S80 1 := andi main_v1 main_v3
  main_v4
-- ==== Pre_finite_scores.lean ====
abbrev S1024x16384 : Shape := ⟨2, ![1024, 16384]⟩
abbrev S16384x1024 : Shape := ⟨2, ![16384, 1024]⟩
abbrev S64x512x256 : Shape := ⟨3, ![64, 512, 256]⟩
abbrev S_ : Shape := ⟨0, ![]⟩

class Facts : Prop where
  bitsLt_bf16_f32 : FTy.bits .bf16 < FTy.bits .f32
  bcast_S_S1024x16384 : S_.BroadcastsInDim S1024x16384 (![] : Fin 0 → Fin S1024x16384.rank)
  bcast_S_S16384x1024 : S_.BroadcastsInDim S16384x1024 (![] : Fin 0 → Fin S16384x1024.rank)
  transposes_S16384x1024_S1024x16384_1_0 : S16384x1024.Transposes [1, 0] S1024x16384

variable [Facts]

def fn {F : FTy → Type} [FloatOps F] (main_arg0 : FVec F S1024x16384 .bf16) (main_arg1 : FVec F S16384x1024 .bf16) (main_arg2 : FVec F S64x512x256 .bf16) : IVec S1024x16384 1 :=
  let main_v0 : FVec F S1024x16384 .f32 := (extf .f32 · bitsLt_bf16_f32) main_arg0
  let main_v1 : FVec F S1024x16384 .f32 := Host.absf main_v0
  let main_cst : FVec F S_ .f32 := constant S_ .f32 0x7F800000#32
  let main_v2 : FVec F S1024x16384 .f32 := broadcastInDim S1024x16384 ![] bcast_S_S1024x16384 main_cst
  let main_v3 : IVec S1024x16384 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : IVec S1024x16384 1 := (transpose S1024x16384 [1, 0] · transposes_S16384x1024_S1024x16384_1_0) main_v7
  let main_v9 : IVec S1024x16384 1 := andi main_v3 main_v8
  main_v9
-- ==== Kernel.lean ====
abbrev S1024x16384 : Shape := ⟨2, ![1024, 16384]⟩
abbrev S16384x1024 : Shape := ⟨2, ![16384, 1024]⟩
abbrev S64x512x256 : Shape := ⟨3, ![64, 512, 256]⟩
abbrev S16384x512 : Shape := ⟨2, ![16384, 512]⟩
abbrev S1024x256 : Shape := ⟨2, ![1024, 256]⟩
abbrev S2048x1024 : Shape := ⟨2, ![2048, 1024]⟩
abbrev S8x512x256 : Shape := ⟨3, ![8, 512, 256]⟩
abbrev S256x512 : Shape := ⟨2, ![256, 512]⟩
abbrev S8x1x256 : Shape := ⟨3, ![8, 1, 256]⟩
abbrev S8x64x256 : Shape := ⟨3, ![8, 64, 256]⟩
abbrev S256x256 : Shape := ⟨2, ![256, 256]⟩
abbrev S1x512x256 : Shape := ⟨3, ![1, 512, 256]⟩
abbrev S512x256 : Shape := ⟨2, ![512, 256]⟩
abbrev S256x128 : Shape := ⟨2, ![256, 128]⟩
abbrev S128x256 : Shape := ⟨2, ![128, 256]⟩
abbrev S64x256 : Shape := ⟨2, ![64, 256]⟩
abbrev S1x1x128 : Shape := ⟨3, ![1, 1, 128]⟩
abbrev S1x128 : Shape := ⟨2, ![1, 128]⟩
abbrev S128 : Shape := ⟨1, ![128]⟩
abbrev S1x64x128 : Shape := ⟨3, ![1, 64, 128]⟩
abbrev S64x128 : Shape := ⟨2, ![64, 128]⟩
abbrev S1x64x256 : Shape := ⟨3, ![1, 64, 256]⟩
abbrev S1x1x256 : Shape := ⟨3, ![1, 1, 256]⟩
abbrev S1x256 : Shape := ⟨2, ![1, 256]⟩

abbrev nBuf : Space → Nat
  | .hbm => 4
  | .vmem => 11
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S64x512x256, .bf16⟩
  | .hbm, ⟨3, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x256, .bf16⟩
  | .local _ .vmem, ⟨5, _⟩ => ⟨S8x512x256, .bf16⟩
  | .local _ .vmem, ⟨6, _⟩ => ⟨S256x512, .bf16⟩
  | .local _ .vmem, ⟨7, _⟩ => ⟨S256x512, .bf16⟩
  | .local _ .vmem, ⟨8, _⟩ => ⟨S8x1x256, .f32⟩
  | .local _ .vmem, ⟨9, _⟩ => ⟨S8x1x256, .f32⟩
  | .local _ .vmem, ⟨10, _⟩ => ⟨S8x64x256, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_12 : BitVec 32 := 1#32
  ⟨c0_i32_11, v23, c1_i32_12⟩
def k0_mult1 (i : grid0.Coords) (k0_t1 : Fin (k0_t1_loop i).trips) : BitVec 32 :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  v677
def k0_off1 (i : grid0.Coords) (k0_t1 : Fin (k0_t1_loop i).trips) : Fin 3 → Nat :=
  let c0_i32_11 : BitVec 32 := 0#32
  let c1_i32_12 : BitVec 32 := 1#32
  let arg9 : BitVec 32 := Scf.iv c0_i32_11 c1_i32_12 k0_t1
  let v679 : Index := Scalar.indexCast arg9
  let c0_435 : Index := 0#32
  let c0_436 : Index := 0#32
  ![v679.toNat, 0, 0]
def k0_off2 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v682 : Index := Scalar.indexCast v678
  let c0_437 : Index := 0#32
  ![v682.toNat, 0]
def k0_off3 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v686 : Index := Scalar.indexCast v678
  let c128_441 : Index := 128#32
  ![v686.toNat, 128]
def k0_off4 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v690 : Index := Scalar.indexCast v678
  let c256_445 : Index := 256#32
  ![v690.toNat, 256]
def k0_off5 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v694 : Index := Scalar.indexCast v678
  let c384_449 : Index := 384#32
  ![v694.toNat, 384]
def k0_off6 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v698 : Index := Scalar.indexCast v678
  let c512_453 : Index := 512#32
  ![v698.toNat, 512]
def k0_off7 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v702 : Index := Scalar.indexCast v678
  let c640_457 : Index := 640#32
  ![v702.toNat, 640]
def k0_off8 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v706 : Index := Scalar.indexCast v678
  let c768_461 : Index := 768#32
  ![v706.toNat, 768]
def k0_off9 (i : grid0.Coords) (k0_t1 : Fin (k0_t1_loop i).trips) : Fin 2 → Nat :=
  let c0_i32_11 : BitVec 32 := 0#32
  let c1_i32_12 : BitVec 32 := 1#32
  let arg9 : BitVec 32 := Scf.iv c0_i32_11 c1_i32_12 k0_t1
  let c256_i32_434 : BitVec 32 := 256#32
  let v677 : BitVec 32 := Scalar.muli arg9 c256_i32_434
  let v678 : BitVec 32 := v677
  let v710 : Index := Scalar.indexCast v678
  let c896_465 : Index := 896#32
  ![v710.toNat, 896]
@[reducible] def k0_t2_loop (i : grid0.Coords) : Scf.Loop 32 :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let v20 : BitVec 32 := Scalar.addi c0_i32_11 v19
  let c1_i32_13 : BitVec 32 := 1#32
  ⟨v23, v20, c1_i32_13⟩
def k0_mult2 (i : grid0.Coords) (k0_t2 : Fin (k0_t2_loop i).trips) : BitVec 32 :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  v677
def k0_off10 (i : grid0.Coords) (k0_t2 : Fin (k0_t2_loop i).trips) : Fin 3 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let v679 : Index := Scalar.indexCast arg9
  let c0_435 : Index := 0#32
  let c0_436 : Index := 0#32
  ![v679.toNat, 0, 0]
def k0_off11 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v682 : Index := Scalar.indexCast v678
  let c0_437 : Index := 0#32
  ![v682.toNat, 0]
def k0_off12 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v686 : Index := Scalar.indexCast v678
  let c128_441 : Index := 128#32
  ![v686.toNat, 128]
def k0_off13 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v690 : Index := Scalar.indexCast v678
  let c256_445 : Index := 256#32
  ![v690.toNat, 256]
def k0_off14 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v694 : Index := Scalar.indexCast v678
  let c384_449 : Index := 384#32
  ![v694.toNat, 384]
def k0_off15 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v698 : Index := Scalar.indexCast v678
  let c512_453 : Index := 512#32
  ![v698.toNat, 512]
def k0_off16 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v702 : Index := Scalar.indexCast v678
  let c640_457 : Index := 640#32
  ![v702.toNat, 640]
def k0_off17 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v706 : Index := Scalar.indexCast v678
  let c768_461 : Index := 768#32
  ![v706.toNat, 768]
def k0_off18 (i : grid0.Coords) (k0_t2 : Fin (k0_t2_loop i).trips) : Fin 2 → Nat :=
  let c0_i32_11 : BitVec 32 := 0#32
  let arg1 : BitVec 32 := BitVec.ofNat 32 (i 1).val
  let v19 : BitVec 32 := Scalar.subi arg1 c0_i32_11
  let c1_i32 : BitVec 32 := 1#32
  let v21 : BitVec 32 := Scalar.divsi v19 c1_i32
  let v22 : BitVec 32 := Scalar.muli v21 c1_i32
  let v23 : BitVec 32 := Scalar.addi c0_i32_11 v22
  let c1_i32_13 : BitVec 32 := 1#32
  let arg9 : BitVec 32 := Scf.iv v23 c1_i32_13 k0_t2
  let c256_i32_434 : BitVec 32 := 256#32
  let v677 : BitVec 32 := Scalar.muli arg9 c256_i32_434
  let v678 : BitVec 32 := v677
  let v710 : Index := Scalar.indexCast v678
  let c896_465 : Index := 896#32
  ![v710.toNat, 896]
def k0_mult3 (i : grid0.Coords) : BitVec 32 :=
  let arg1 : BitVec 32 := BitVec.ofNat 32 (i 1).val
  let c256_i32 : BitVec 32 := 256#32
  let v24 : BitVec 32 := Scalar.muli arg1 c256_i32
  v24
def k0_off19 (i : grid0.Coords) : Fin 3 → Nat :=
  let arg1 : BitVec 32 := BitVec.ofNat 32 (i 1).val
  let v26 : Index := Scalar.indexCast arg1
  let c0_14 : Index := 0#32
  let c0_15 : Index := 0#32
  ![v26.toNat, 0, 0]
def k0_off20 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v29 : Index := Scalar.indexCast v25
  let c0_16 : Index := 0#32
  ![v29.toNat, 0]
def k0_off21 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v33 : Index := Scalar.indexCast v25
  let c128 : Index := 128#32
  ![v33.toNat, 128]
def k0_off22 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v37 : Index := Scalar.indexCast v25
  let c256 : Index := 256#32
  ![v37.toNat, 256]
def k0_off23 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v41 : Index := Scalar.indexCast v25
  let c384 : Index := 384#32
  ![v41.toNat, 384]
def k0_off24 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v45 : Index := Scalar.indexCast v25
  let c512 : Index := 512#32
  ![v45.toNat, 512]
def k0_off25 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v49 : Index := Scalar.indexCast v25
  let c640 : Index := 640#32
  ![v49.toNat, 640]
def k0_off26 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v53 : Index := Scalar.indexCast v25
  let c768 : Index := 768#32
  ![v53.toNat, 768]
def k0_off27 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v57 : Index := Scalar.indexCast v25
  let c896 : Index := 896#32
  ![v57.toNat, 896]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1024x16384 : Shape := ⟨2, ![1024, 16384]⟩
abbrev S16384x1024 : Shape := ⟨2, ![16384, 1024]⟩
abbrev S64x512x256 : Shape := ⟨3, ![64, 512, 256]⟩
abbrev S8x2048x8x128 : Shape := ⟨4, ![8, 2048, 8, 128]⟩
abbrev S8x8x8x64x256 : Shape := ⟨5, ![8, 8, 8, 64, 256]⟩
abbrev S8x8x256x8x64 : Shape := ⟨5, ![8, 8, 256, 8, 64]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 64
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S64x512x256, .bf16⟩
  | .hbm, ⟨3, _⟩ => ⟨S16384x1024, .bf16⟩
  | .hbm, ⟨4, _⟩ => ⟨S8x2048x8x128, .bf16⟩
  | .hbm, ⟨5, _⟩ => ⟨S8x2048x8x128, .bf16⟩
  | .hbm, ⟨6, _⟩ => ⟨S8x8x8x64x256, .bf16⟩
  | .hbm, ⟨7, _⟩ => ⟨S8x8x256x8x64, .bf16⟩
  | .hbm, ⟨8, _⟩ => ⟨S8x2048x8x64, .bf16⟩
  | .hbm, ⟨9, _⟩ => ⟨S8x8x2048x2048, .f32⟩
  | .hbm, ⟨10, _⟩ => ⟨S8x8x2048x2048, .bf16⟩
  | .hbm, ⟨11, _⟩ => ⟨S8x8x2048x2048, .f32⟩
  | .hbm, ⟨12, _⟩ => ⟨S_, .f32⟩
  | .hbm, ⟨13, _⟩ => ⟨S_, .f32⟩
  | .hbm, ⟨14, _⟩ => ⟨S8x8x2048x2048, .f32⟩
  | .hbm, ⟨15, _⟩ => ⟨S8x8x2048x2048, .f32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S8x8x2048x2048, .i1⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S8x8x2048, .f32⟩
  | .hbm, ⟨47, _⟩ => ⟨S_, .f32⟩
  | .hbm, ⟨48, _⟩ => ⟨S8x8x2048, .f32⟩
  | .hbm, ⟨49, _⟩ => ⟨S8x8x2048, .f32⟩
  | .hbm, ⟨50, _⟩ => ⟨S8x8x2048x1, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S_, .f32⟩
  | .hbm, ⟨55, _⟩ => ⟨S8x8x2048, .f32⟩
  | .hbm, ⟨56, _⟩ => ⟨S8x8x2048x1, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .bf16⟩
  | .hbm, ⟨60, _⟩ => ⟨S8x8x64x2048, .f32⟩
  | .hbm, ⟨61, _⟩ => ⟨S8x2048x8x64, .f32⟩
  | .hbm, ⟨62, _⟩ => ⟨S8x2048x8x64, .bf16⟩
  | .hbm, ⟨63, _⟩ => ⟨S16384x512, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== Kernel2.lean ====
abbrev S80 : Shape := ⟨1, ![80]⟩
abbrev S1 : Shape := ⟨1, ![1]⟩
abbrev S40960x1024 : Shape := ⟨2, ![40960, 1024]⟩
abbrev S32x1024x512 : Shape := ⟨3, ![32, 1024, 512]⟩
abbrev S32x512x1024 : Shape := ⟨3, ![32, 512, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S40960x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S40960x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S80, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v13 : BitVec 32 := Scalar.extui v1
  let c0_i32_2 : BitVec 32 := 0#32
  let v14 : BitVec 1 := Scalar.cmpi .ne v13 c0_i32_2
  v14

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v15 : BitVec 1 := Scalar.xori v1 v_true
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S80 : Shape := ⟨1, ![80]⟩
abbrev S1 : Shape := ⟨1, ![1]⟩
abbrev S40960x1024 : Shape := ⟨2, ![40960, 1024]⟩
abbrev S32x1024x512 : Shape := ⟨3, ![32, 1024, 512]⟩
abbrev S32x512x1024 : Shape := ⟨3, ![32, 512, 1024]⟩
abbrev S_ : Shape := ⟨0, ![]⟩
abbrev S80x1 : Shape := ⟨2, ![80, 1]⟩
abbrev S1x32 : Shape := ⟨2, ![1, 32]⟩
abbrev S80x32 : Shape := ⟨2, ![80, 32]⟩
abbrev S80x1x32 : Shape := ⟨3, ![80, 1, 32]⟩
abbrev S80x512x32 : Shape := ⟨3, ![80, 512, 32]⟩
abbrev S40960x32 : Shape := ⟨2, ![40960, 32]⟩
abbrev S40960x32x512 : Shape := ⟨3, ![40960, 32, 512]⟩
abbrev S40960x32x1 : Shape := ⟨3, ![40960, 32, 1]⟩

abbrev nBuf : Space → Nat
  | .hbm => 39
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S40960x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S80, .i32⟩
  | .hbm, ⟨7, _⟩ => ⟨S_, .i32⟩
  | .hbm, ⟨8, _⟩ => ⟨S80, .i32⟩
  | .hbm, ⟨9, _⟩ => ⟨S80, .i1⟩
  | .hbm, ⟨10, _⟩ => ⟨S80, .f32⟩
  | .hbm, ⟨11, _⟩ => ⟨S80x1, .i32⟩
  | .hbm, ⟨12, _⟩ => ⟨S1x32, .i32⟩
  | .hbm, ⟨13, _⟩ => ⟨S80x32, .i32⟩
  | .hbm, ⟨14, _⟩ => ⟨S80x32, .i32⟩
  | .hbm, ⟨15, _⟩ => ⟨S80x32, .i1⟩
  | .hbm, ⟨16, _⟩ => ⟨S80x32, .f32⟩
  | .hbm, ⟨17, _⟩ => ⟨S80x1, .f32⟩
  | .hbm, ⟨18, _⟩ => ⟨S80x32, .f32⟩
  | .hbm, ⟨19, _⟩ => ⟨S80x32, .f32⟩
  | .hbm, ⟨20, _⟩ => ⟨S80x1x32, .f32⟩
  | .hbm, ⟨21, _⟩ => ⟨S80x512x32, .f32⟩
  | .hbm, ⟨22, _⟩ => ⟨S40960x32, .f32⟩
  | .hbm, ⟨23, _⟩ => ⟨S40960x32x512, .f32⟩
  | .hbm, ⟨24, _⟩ => ⟨S40960x32x512, .f32⟩
  | .hbm, ⟨25, _⟩ => ⟨S40960x32x512, .f32⟩
  | .hbm, ⟨26, _⟩ => ⟨S_, .f32⟩
  | .hbm, ⟨27, _⟩ => ⟨S40960x32x512, .f32⟩
  | .hbm, ⟨28, _⟩ => ⟨S40960x32x512, .f32⟩
  | .hbm, ⟨29, _⟩ => ⟨S_, .f32⟩
  | .hbm, ⟨30, _⟩ => ⟨S40960x32x512, .f32⟩
  | .hbm, ⟨31, _⟩ => ⟨S40960x32x512, .f32⟩
  | .hbm, ⟨32, _⟩ => ⟨S40960x32x512, .f32⟩
  | .hbm, ⟨33, _⟩ => ⟨S40960x32x512, .f32⟩
  | .hbm, ⟨34, _⟩ => ⟨S40960x32x512, .f32⟩
  | .hbm, ⟨35, _⟩ => ⟨S40960x32x1, .f32⟩
  | .hbm, ⟨36, _⟩ => ⟨S40960x32x512, .f32⟩
  | .hbm, ⟨37, _⟩ => ⟨S40960x32x512, .f32⟩
  | .hbm, ⟨38, _⟩ => ⟨S40960x1024, .f32⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1024x3072 : Shape := ⟨2, ![1024, 3072]⟩
abbrev S512x1024 : Shape := ⟨2, ![512, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .f32⟩
  | .hbm, ⟨3, _⟩ => ⟨S16384x3072, .f32⟩
  | .hbm, ⟨4, _⟩ => ⟨S16384x3072, .f32⟩
  | .hbm, ⟨5, _⟩ => ⟨S_, .f32⟩
  | .hbm, ⟨6, _⟩ => ⟨S16384x3072, .f32⟩
  | .hbm, ⟨7, _⟩ => ⟨S16384x3072, .f32⟩
  | .hbm, ⟨8, _⟩ => ⟨S_, .f32⟩
  | .hbm, ⟨9, _⟩ => ⟨S16384x3072, .f32⟩
  | .hbm, ⟨10, _⟩ => ⟨S16384x3072, .f32⟩
  | .hbm, ⟨11, _⟩ => ⟨S16384x3072, .bf16⟩
  | .hbm, ⟨12, _⟩ => ⟨S16384x3x1024, .bf16⟩
  | .hbm, ⟨13, _⟩ => ⟨S16384x1x1024, .bf16⟩
  | .hbm, ⟨14, _⟩ => ⟨S16384x1024, .bf16⟩
  | .hbm, ⟨15, _⟩ => ⟨S16384x1x1024, .bf16⟩
  | .hbm, ⟨16, _⟩ => ⟨S16384x1024, .bf16⟩
  | .hbm, ⟨17, _⟩ => ⟨S16384x1x1024, .bf16⟩
  | .hbm, ⟨18, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1x1024 : Shape := ⟨2, ![1, 1024]⟩
abbrev S16x1024 : Shape := ⟨2, ![16, 1024]⟩
abbrev S16x1 : Shape := ⟨2, ![16, 1]⟩
abbrev S8x16384 : Shape := ⟨2, ![8, 16384]⟩
abbrev S16x128 : Shape := ⟨2, ![16, 128]⟩
abbrev S512x512 : Shape := ⟨2, ![512, 512]⟩
abbrev S8x512 : Shape := ⟨2, ![8, 512]⟩
abbrev S16x512 : Shape := ⟨2, ![16, 512]⟩
abbrev S512 : Shape := ⟨1, ![512]⟩
abbrev S512x1 : Shape := ⟨2, ![512, 1]⟩
abbrev S1x512 : Shape := ⟨2, ![1, 512]⟩
abbrev S16 : Shape := ⟨1, ![16]⟩

abbrev nBuf : Space → Nat
  | .hbm => 19
  | .vmem => 31
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S16x1024, .f32⟩
  | .hbm, ⟨14, _⟩ => ⟨S16x1, .f32⟩
  | .hbm, ⟨15, _⟩ => ⟨S16384x1024, .f32⟩
  | .hbm, ⟨16, _⟩ => ⟨S8x16384, .i32⟩
  | .hbm, ⟨17, _⟩ => ⟨S8x16384, .f32⟩
  | .hbm, ⟨18, _⟩ => ⟨S16x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S16x1024, .f32⟩
  | .local _ .vmem, ⟨21, _⟩ => ⟨S16x1, .f32⟩
  | .local _ .vmem, ⟨22, _⟩ => ⟨S512x1024, .f32⟩
  | .local _ .vmem, ⟨23, _⟩ => ⟨S512x1024, .f32⟩
  | .local _ .vmem, ⟨24, _⟩ => ⟨S8x512, .i32⟩
  | .local _ .vmem, ⟨25, _⟩ => ⟨S8x512, .i32⟩
  | .local _ .vmem, ⟨26, _⟩ => ⟨S8x512, .f32⟩
  | .local _ .vmem, ⟨27, _⟩ => ⟨S8x512, .f32⟩
  | .local _ .vmem, ⟨28, _⟩ => ⟨S16x128, .f32⟩
  | .local _ .vmem, ⟨29, _⟩ => ⟨S16x512, .f32⟩
  | .local _ .vmem, ⟨30, _⟩ => ⟨S16x1, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference4Ideal.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1x1024 : Shape := ⟨2, ![1, 1024]⟩
abbrev S16x1024 : Shape := ⟨2, ![16, 1024]⟩
abbrev S16x1 : Shape := ⟨2, ![16, 1]⟩
abbrev S_ : Shape := ⟨0, ![]⟩
abbrev S16384 : Shape := ⟨1, ![16384]⟩
abbrev S16384x1 : Shape := ⟨2, ![16384, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S16x1024, .f32⟩
  | .hbm, ⟨14, _⟩ => ⟨S16x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel5.lean ====
abbrev S16384x1024 : Shape := ⟨2, ![16384, 1024]⟩
abbrev S1024x768 : Shape := ⟨2, ![1024, 768]⟩
abbrev S1x384 : Shape := ⟨2, ![1, 384]⟩
abbrev S1x256 : Shape := ⟨2, ![1, 256]⟩
abbrev S1024x384 : Shape := ⟨2, ![1024, 384]⟩
abbrev S256x1024 : Shape := ⟨2, ![256, 1024]⟩
abbrev S512x256 : Shape := ⟨2, ![512, 256]⟩
abbrev S16x2048 : Shape := ⟨2, ![16, 2048]⟩
abbrev S2048x128 : Shape := ⟨2, ![2048, 128]⟩
abbrev S1024x16384 : Shape := ⟨2, ![1024, 16384]⟩
abbrev S64x512x256 : Shape := ⟨3, ![64, 512, 256]⟩
abbrev S512x1024 : Shape := ⟨2, ![512, 1024]⟩
abbrev S16x512 : Shape := ⟨2, ![16, 512]⟩
abbrev S512x128 : Shape := ⟨2, ![512, 128]⟩
abbrev S1024x512 : Shape := ⟨2, ![1024, 512]⟩
abbrev S2x512x256 : Shape := ⟨3, ![2, 512, 256]⟩
abbrev S512x768 : Shape := ⟨2, ![512, 768]⟩
abbrev S512x384 : Shape := ⟨2, ![512, 384]⟩
abbrev S512 : Shape := ⟨1, ![512]⟩
abbrev S512x1 : Shape := ⟨2, ![512, 1]⟩
abbrev S64x512 : Shape := ⟨2, ![64, 512]⟩
abbrev S32x512 : Shape := ⟨2, ![32, 512]⟩
abbrev S512x512 : Shape := ⟨2, ![512, 512]⟩
abbrev S1x512x256 : Shape := ⟨3, ![1, 512, 256]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S1024x768, .bf16⟩
  | .hbm, ⟨2, _⟩ => ⟨S1x384, .f32⟩
  | .hbm, ⟨3, _⟩ => ⟨S1x256, .f32⟩
  | .hbm, ⟨4, _⟩ => ⟨S1024x384, .bf16⟩
  | .hbm, ⟨5, _⟩ => ⟨S256x1024, .bf16⟩
  | .hbm, ⟨6, _⟩ => ⟨S512x256, .bf16⟩
  | .hbm, ⟨7, _⟩ => ⟨S16x2048, .f32⟩
  | .hbm, ⟨8, _⟩ => ⟨S16x2048, .f32⟩
  | .hbm, ⟨9, _⟩ => ⟨S2048x128, .f32⟩
  | .hbm, ⟨10, _⟩ => ⟨S2048x128, .f32⟩
  | .hbm, ⟨11, _⟩ => ⟨S1024x16384, .bf16⟩
  | .hbm, ⟨12, _⟩ => ⟨S16384x1024, .bf16⟩
  | .hbm, ⟨13, _⟩ => ⟨S64x512x256, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1x384, .f32⟩
  | .local _ .vmem, ⟨4, _⟩ => ⟨S1x256, .f32⟩
  | .local _ .vmem, ⟨5, _⟩ => ⟨S1024x384, .bf16⟩
  | .local _ .vmem, ⟨6, _⟩ => ⟨S256x1024, .bf16⟩
  | .local _ .vmem, ⟨7, _⟩ => ⟨S512x256, .bf16⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .vmem, ⟨19, _⟩ => ⟨S512x1024, .bf16⟩
  | .local _ .vmem, ⟨20, _⟩ => ⟨S2x512x256, .bf16⟩
  | .local _ .vmem, ⟨21, _⟩ => ⟨S2x512x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x1024 : Shape := ⟨2, ![16384, 1024]⟩
abbrev S1024x768 : Shape := ⟨2, ![1024, 768]⟩
abbrev S1x384 : Shape := ⟨2, ![1, 384]⟩
abbrev S1x256 : Shape := ⟨2, ![1, 256]⟩
abbrev S1024x384 : Shape := ⟨2, ![1024, 384]⟩
abbrev S256x1024 : Shape := ⟨2, ![256, 1024]⟩
abbrev S512x256 : Shape := ⟨2, ![512, 256]⟩
abbrev S16x2048 : Shape := ⟨2, ![16, 2048]⟩
abbrev S2048x128 : Shape := ⟨2, ![2048, 128]⟩
abbrev S16384x384 : Shape := ⟨2, ![16384, 384]⟩
abbrev S1024x256 : Shape := ⟨2, ![1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S384x1024 : Shape := ⟨2, ![384, 1024]⟩
abbrev S8x2048x8x128 : Shape := ⟨4, ![8, 2048, 8, 128]⟩
abbrev S2048x16 : Shape := ⟨2, ![2048, 16]⟩
abbrev S2048x1x16 : Shape := ⟨3, ![2048, 1, 16]⟩
abbrev S8x2048x8x16 : Shape := ⟨4, ![8, 2048, 8, 16]⟩
abbrev S8x2048x8x64 : Shape := ⟨4, ![8, 2048, 8, 64]⟩
abbrev S1x2048x1x16 : Shape := ⟨4, ![1, 2048, 1, 16]⟩
abbrev S8x2048x8x32 : Shape := ⟨4, ![8, 2048, 8, 32]⟩
abbrev S256x512 : Shape := ⟨2, ![256, 512]⟩
abbrev S16384x512 : Shape := ⟨2, ![16384, 512]⟩
abbrev S1024x16384 : Shape := ⟨2, ![1024, 16384]⟩
abbrev S64x256x512 : Shape := ⟨3, ![64, 256, 512]⟩
abbrev S64x512x256 : Shape := ⟨3, ![64, 512, 256]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x768, .bf16⟩
  | .hbm, ⟨2, _⟩ => ⟨S1x384, .f32⟩
  | .hbm, ⟨3, _⟩ => ⟨S1x256, .f32⟩
  | .hbm, ⟨4, _⟩ => ⟨S1024x384, .bf16⟩
  | .hbm, ⟨5, _⟩ => ⟨S256x1024, .bf16⟩
  | .hbm, ⟨6, _⟩ => ⟨S512x256, .bf16⟩
  | .hbm, ⟨7, _⟩ => ⟨S16x2048, .f32⟩
  | .hbm, ⟨8, _⟩ => ⟨S16x2048, .f32⟩
  | .hbm, ⟨9, _⟩ => ⟨S2048x128, .f32⟩
  | .hbm, ⟨10, _⟩ => ⟨S2048x128, .f32⟩
  | .hbm, ⟨11, _⟩ => ⟨S1024x384, .bf16⟩
  | .hbm, ⟨12, _⟩ => ⟨S16384x384, .f32⟩
  | .hbm, ⟨13, _⟩ => ⟨S1024x256, .bf16⟩
  | .hbm, ⟨14, _⟩ => ⟨S16384x256, .f32⟩
  | .hbm, ⟨15, _⟩ => ⟨S16384x384, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x384, .f32⟩
  | .hbm, ⟨27, _⟩ => ⟨S16384x384, .f32⟩
  | .hbm, ⟨28, _⟩ => ⟨S16384x384, .f32⟩
  | .hbm, ⟨29, _⟩ => ⟨S16384x384, .f32⟩
  | .hbm, ⟨30, _⟩ => ⟨S384x1024, .bf16⟩
  | .hbm, ⟨31, _⟩ => ⟨S384x1024, .f32⟩
  | .hbm, ⟨32, _⟩ => ⟨S16384x1024, .f32⟩
  | .hbm, ⟨33, _⟩ => ⟨S8x2048x8x128, .f32⟩
  | .hbm, ⟨34, _⟩ => ⟨S2048x16, .f32⟩
  | .hbm, ⟨35, _⟩ => ⟨S2048x1x16, .f32⟩
  | .hbm, ⟨36, _⟩ => ⟨S2048x16, .f32⟩
  | .hbm, ⟨37, _⟩ => ⟨S2048x1x16, .f32⟩
  | .hbm, ⟨38, _⟩ => ⟨S8x2048x8x16, .f32⟩
  | .hbm, ⟨39, _⟩ => ⟨S8x2048x8x16, .f32⟩
  | .hbm, ⟨40, _⟩ => ⟨S8x2048x8x64, .f32⟩
  | .hbm, ⟨41, _⟩ => ⟨S1x2048x1x16, .f32⟩
  | .hbm, ⟨42, _⟩ => ⟨S8x2048x8x16, .f32⟩
  | .hbm, ⟨43, _⟩ => ⟨S8x2048x8x16, .f32⟩
  | .hbm, ⟨44, _⟩ => ⟨S1x2048x1x16, .f32⟩
  | .hbm, ⟨45, _⟩ => ⟨S8x2048x8x16, .f32⟩
  | .hbm, ⟨46, _⟩ => ⟨S8x2048x8x16, .f32⟩
  | .hbm, ⟨47, _⟩ => ⟨S8x2048x8x16, .f32⟩
  | .hbm, ⟨48, _⟩ => ⟨S1x2048x1x16, .f32⟩
  | .hbm, ⟨49, _⟩ => ⟨S8x2048x8x16, .f32⟩
  | .hbm, ⟨50, _⟩ => ⟨S8x2048x8x16, .f32⟩
  | .hbm, ⟨51, _⟩ => ⟨S1x2048x1x16, .f32⟩
  | .hbm, ⟨52, _⟩ => ⟨S8x2048x8x16, .f32⟩
  | .hbm, ⟨53, _⟩ => ⟨S8x2048x8x16, .f32⟩
  | .hbm, ⟨54, _⟩ => ⟨S8x2048x8x16, .f32⟩
  | .hbm, ⟨55, _⟩ => ⟨S8x2048x8x32, .f32⟩
  | .hbm, ⟨56, _⟩ => ⟨S8x2048x8x128, .f32⟩
  | .hbm, ⟨57, _⟩ => ⟨S16384x256, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x256, .f32⟩
  | .hbm, ⟨69, _⟩ => ⟨S16384x256, .f32⟩
  | .hbm, ⟨70, _⟩ => ⟨S16384x256, .f32⟩
  | .hbm, ⟨71, _⟩ => ⟨S16384x256, .f32⟩
  | .hbm, ⟨72, _⟩ => ⟨S256x512, .bf16⟩
  | .hbm, ⟨73, _⟩ => ⟨S256x512, .f32⟩
  | .hbm, ⟨74, _⟩ => ⟨S16384x512, .f32⟩
  | .hbm, ⟨75, _⟩ => ⟨S16384x1024, .f32⟩
  | .hbm, ⟨76, _⟩ => ⟨S1024x16384, .f32⟩
  | .hbm, ⟨77, _⟩ => ⟨S1024x16384, .bf16⟩
  | .hbm, ⟨78, _⟩ => ⟨S64x256x512, .f32⟩
  | .hbm, ⟨79, _⟩ => ⟨S64x512x256, .f32⟩
  | .hbm, ⟨80, _⟩ => ⟨S64x512x256, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Proof.Step.lean ====
/-
  One step of the running softmax as the kernel computes it: for one head and one half of the 256 queries, the new
  largest score, the new sum of weights and the new weighted sum, from a block of 256 scores per query, the head's
  values and what the three buffers held.
-/
module

public import proofs.«01_k».proof.Proof.Gen.KernelIdeal.Frame

@[expose] public section

set_option maxRecDepth 16384

noncomputable section

namespace Cert.KernelIdeal.Attn

open Idealize.ShloMosaic Idealize.ShloMosaic.TcCoe Cert.KernelIdeal.Gen

variable {F : FTy → Type} [FloatOps F] [Named F]

/-- The scores of a block of keys against the queries, one head. -/
def score (keys : Vec F S256x128 .bf16) (qs : Vec F S128x256 .bf16) : FVec F S256x256 .f32 :=
  matmul dot_S256x128_S128x256_S256x256_1_0_0_1_n_n none keys qs (constant S256x256 .f32 0x00000000#32)

/-- The columns `[128 c, 128 c + 128)` of a head's block of scores. -/
def half (S : FVec F S256x256 .f32) (c : Fin 2) : FVec F S256x128 .f32 :=
  match c with
  | 0 => extractStridedSlice S256x128 ![0, 0] S slices_S256x256_o0_0_S256x128
  | 1 => extractStridedSlice S256x128 ![0, 128] S slices_S256x256_o0_128_S256x128

/-- The new largest score of each query. -/
def newTop (sc : FVec F S256x128 .f32) (m : Vec F S1x1x128 .f32) : FVec F S1x128 .f32 :=
  maximumf (shapeCast S1x128 m shapeCasts_S1x1x128_S1x128)
    (shapeCast S1x128 (multiReduction .maximumf [0] S128 sc 0xFF800000#32 reduces_S256x128_S128 (.inl rfl) rfl)
      shapeCasts_S128_S1x128)

/-- What the old sums are multiplied by. -/
def alpha (sc : FVec F S256x128 .f32) (m : Vec F S1x1x128 .f32) : FVec F S1x128 .f32 :=
  exp2 (subf (shapeCast S1x128 m shapeCasts_S1x1x128_S1x128) (newTop sc m))

/-- The weights of the block's keys. -/
def weights (sc : FVec F S256x128 .f32) (m : Vec F S1x1x128 .f32) : FVec F S256x128 .f32 :=
  exp2 (subf sc (broadcastTo S256x128 (newTop sc m) broadcasts_S1x128_S256x128))

/-- What the step stores as the largest score. -/
def topOut (sc : FVec F S256x128 .f32) (m : Vec F S1x1x128 .f32) : Vec F S1x1x128 .f32 :=
  shapeCast S1x1x128 (newTop sc m) shapeCasts_S1x128_S1x1x128

/-- What the step stores as the sum of the weights. -/
def massOut (sc : FVec F S256x128 .f32) (m l : Vec F S1x1x128 .f32) : Vec F S1x1x128 .f32 :=
  shapeCast S1x1x128
    (addf (mulf (alpha sc m) (shapeCast S1x128 l shapeCasts_S1x1x128_S1x128))
      (shapeCast S1x128 (multiReduction .add [0] S128 (weights sc m) 0x00000000#32 reduces_S256x128_S128 (.inl rfl) rfl)
        shapeCasts_S128_S1x128))
    shapeCasts_S1x128_S1x1x128

/-- What the step stores as the weighted sum of the values. -/
def accOut (sc : FVec F S256x128 .f32) (v : FVec F S64x256 .bf16) (m : Vec F S1x1x128 .f32) (a : Vec F S1x64x128 .f32) :
    Vec F S1x64x128 .f32 :=
  shapeCast S1x64x128
    (addf (mulf (broadcastTo S64x128 (alpha sc m) broadcasts_S1x128_S64x128)
        (shapeCast S64x128 a shapeCasts_S1x64x128_S64x128))
      (matmul dot_S64x256_S256x128_S64x128_1_0_0_1_n_n none v (truncf .bf16 (weights sc m) bitsLt_bf16_f32)
        (constant S64x128 .f32 0x00000000#32)))
    shapeCasts_S64x128_S1x64x128

/-! ### Where a step reads and writes -/

/-- The half-rows of the buffers of largest scores and of sums of weights. -/
def rowBox (h : Fin 8) (c : Fin 2) : Rect S8x1x256 :=
  Rect.unit (s := S8x1x256) ![h.val, 0, 128 * c.val] S1x1x128.size (by revert h c; decide)

/-- The half-blocks of the buffer of weighted sums. -/
def accBox (h : Fin 8) (c : Fin 2) : Rect S8x64x256 :=
  Rect.unit (s := S8x64x256) ![h.val, 0, 128 * c.val] S1x64x128.size (by revert h c; decide)

/-- The head's rows of a block of values. -/
def headRows (V : FVec F S512x256 .bf16) (h : Fin 8) : FVec F S64x256 .bf16 :=
  extractStridedSlice S64x256 ![64 * h.val, 0] V (by revert h; decide)

/-- The head's rows of the queries. -/
def queryBox (h : Fin 8) : Rect S1024x256 :=
  Rect.unit (s := S1024x256) ![128 * h.val, 0] S128x256.size (by revert h; decide)

/-- The heads and halves in the order the kernel takes them, the last one first. -/
def order : List (Fin 8 × Fin 2) :=
  [(7, 1), (7, 0), (6, 1), (6, 0), (5, 1), (5, 0), (4, 1), (4, 0), (3, 1), (3, 0), (2, 1), (2, 0), (1, 1), (1, 0), (0, 1), (0, 0)]

theorem mem_order : ∀ p : Fin 8 × Fin 2, p ∈ order := by decide

end Cert.KernelIdeal.Attn
-- ==== Proof.Trip.lean ====
/-
  One trip of the kernel's loop over the blocks of keys before the diagonal: the sixteen writes it makes to each of the
  three buffers are the steps of `Step.lean`, one for each head and half.
-/
module

public import proofs.«01_k».proof.Proof.Step

@[expose] public section

set_option maxRecDepth 65536

noncomputable section

namespace Cert.KernelIdeal.Attn

open Idealize.ShloMosaic Idealize.ShloMosaic.TcCoe Cert.KernelIdeal.Gen

variable {F : FTy → Type} [FloatOps F] [Named F]

/-- Where the trip reads head `h`'s keys. -/
def keyOff (i : grid0.Coords) (k : Fin (k0_t1_loop i).trips) (h : Fin 8) : Fin 2 → ℕ :=
  match h with
  | 0 => k0_off2 i k
  | 1 => k0_off3 i k
  | 2 => k0_off4 i k
  | 3 => k0_off5 i k
  | 4 => k0_off6 i k
  | 5 => k0_off7 i k
  | 6 => k0_off8 i k
  | 7 => k0_off9 i k

theorem keyOff_inb (i : grid0.Coords) (k : Fin (k0_t1_loop i).trips) :
    ∀ (h : Fin 8) (a : Fin 2), keyOff i k h a + S256x128.size a ≤ S2048x1024.size a
  | 0 => k0_off2_inb i k
  | 1 => k0_off3_inb i k
  | 2 => k0_off4_inb i k
  | 3 => k0_off5_inb i k
  | 4 => k0_off6_inb i k
  | 5 => k0_off7_inb i k
  | 6 => k0_off8_inb i k
  | 7 => k0_off9_inb i k

/-- The scores of head `h`: the block's keys times the queries. -/
def tripScore (i : grid0.Coords) (arg2 : Memref sig .tc .vmem S1024x256 .bf16) (arg3 : Memref sig .tc .vmem S2048x1024 .bf16)
    (X2 : BufTy.Contents (Elt F) arg2.view.ty) (X3 : BufTy.Contents (Elt F) arg3.view.ty)
    (k : Fin (k0_t1_loop i).trips) (h : Fin 8) : FVec F S256x256 .f32 :=
  score (arg3.view.readAt (Elt F) (Rect.unit (s := S2048x1024) (keyOff i k h) S256x128.size (keyOff_inb i k h)).toLoadRect X3)
    (arg2.view.readAt (Elt F) (queryBox h).toLoadRect X2)

/-- The block's values. -/
def tripValues (i : grid0.Coords) (arg4 : Memref sig .tc .vmem S8x512x256 .bf16) (X4 : BufTy.Contents (Elt F) arg4.view.ty)
    (k : Fin (k0_t1_loop i).trips) : FVec F S512x256 .bf16 :=
  shapeCast S512x256 (arg4.view.readAt (Elt F)
    (Rect.unit (s := S8x512x256) (k0_off1 i k) S1x512x256.size (k0_off1_inb i k)).toLoadRect X4) shapeCasts_S1x512x256_S512x256

variable (𝒱 : Variants) (c : Dev nD) (bd : Option 𝒱.V) (i : grid0.Coords) (arg2 : Memref sig .tc .vmem S1024x256 .bf16)
  (harg2 : arg2.IsWhole) (arg3 : Memref sig .tc .vmem S2048x1024 .bf16) (harg3 : arg3.IsWhole)
  (arg4 : Memref sig .tc .vmem S8x512x256 .bf16) (harg4 : arg4.IsWhole) (arg5 : Memref sig .tc .vmem S256x512 .bf16)
  (harg5 : arg5.IsWhole) (arg6 : Memref sig .tc .vmem S8x1x256 .f32) (harg6 : arg6.IsWhole)
  (arg7 : Memref sig .tc .vmem S8x1x256 .f32) (harg7 : arg7.IsWhole) (arg8 : Memref sig .tc .vmem S8x64x256 .f32)
  (harg8 : arg8.IsWhole)
  (X2 : BufTy.Contents (Elt F) arg2.view.ty) (X3 : BufTy.Contents (Elt F) arg3.view.ty)
  (X4 : BufTy.Contents (Elt F) arg4.view.ty) (k : Fin (k0_t1_loop i).trips)
  (f6 : BufTy.Contents (Elt F) arg6.view.ty) (f7 : BufTy.Contents (Elt F) arg7.view.ty)
  (f8 : BufTy.Contents (Elt F) arg8.view.ty)

/-- The trip's writes to the buffer of largest scores. -/
theorem trip_top :
    (trip_k0_t1 (F := F) 𝒱 c bd i arg2 harg2 arg3 harg3 arg4 harg4 arg5 harg5 arg6 harg6 arg7 harg7 arg8 harg8 X2 X3 X4 k).1 f6 f7 f8
      = order.map fun p => ⟨rowBox p.1 p.2, topOut (half (tripScore i arg2 arg3 X2 X3 k p.1) p.2)
          (arg6.view.readAt (Elt F) (rowBox p.1 p.2).toLoadRect f6)⟩ := by
  unfold trip_k0_t1
  rfl

/-- The trip's writes to the buffer of sums of weights. -/
theorem trip_mass :
    (trip_k0_t1 (F := F) 𝒱 c bd i arg2 harg2 arg3 harg3 arg4 harg4 arg5 harg5 arg6 harg6 arg7 harg7 arg8 harg8 X2 X3 X4 k).2.1 f6 f7 f8
      = order.map fun p => ⟨rowBox p.1 p.2, massOut (half (tripScore i arg2 arg3 X2 X3 k p.1) p.2)
          (arg6.view.readAt (Elt F) (rowBox p.1 p.2).toLoadRect f6)
          (arg7.view.readAt (Elt F) (rowBox p.1 p.2).toLoadRect f7)⟩ := by
  unfold trip_k0_t1
  rfl

/-- The trip's writes to the buffer of weighted sums. -/
theorem trip_acc :
    (trip_k0_t1 (F := F) 𝒱 c bd i arg2 harg2 arg3 harg3 arg4 harg4 arg5 harg5 arg6 harg6 arg7 harg7 arg8 harg8 X2 X3 X4 k).2.2.1 f6 f7 f8
      = order.map fun p => ⟨accBox p.1 p.2, accOut (half (tripScore i arg2 arg3 X2 X3 k p.1) p.2)
          (headRows (tripValues i arg4 X4 k) p.1)
          (arg6.view.readAt (Elt F) (rowBox p.1 p.2).toLoadRect f6)
          (arg8.view.readAt (Elt F) (accBox p.1 p.2).toLoadRect f8)⟩ := by
  unfold trip_k0_t1
  rfl

end Cert.KernelIdeal.Attn
-- ==== Proof.Diag.lean ====
/-
  The block of keys on the diagonal: the sixteen steps after the loop, whose scores are masked, each reading what the
  writes before it left; and the four writes of the result.
-/
module

public import proofs.«01_k».proof.Proof.Trip

@[expose] public section

set_option maxRecDepth 65536

noncomputable section

namespace Cert.KernelIdeal.Attn

open Idealize.ShloMosaic Idealize.ShloMosaic.TcCoe Cert.KernelIdeal.Gen

variable {F : FTy → Type} [FloatOps F] [Named F]

/-- Where the diagonal block reads head `h`'s keys. -/
def diagOff (i : grid0.Coords) (h : Fin 8) : Fin 2 → ℕ :=
  match h with
  | 0 => k0_off20 i
  | 1 => k0_off21 i
  | 2 => k0_off22 i
  | 3 => k0_off23 i
  | 4 => k0_off24 i
  | 5 => k0_off25 i
  | 6 => k0_off26 i
  | 7 => k0_off27 i

theorem diagOff_inb (i : grid0.Coords) :
    ∀ (h : Fin 8) (a : Fin 2), diagOff i h a + S256x128.size a ≤ S2048x1024.size a
  | 0 => k0_off20_inb i
  | 1 => k0_off21_inb i
  | 2 => k0_off22_inb i
  | 3 => k0_off23_inb i
  | 4 => k0_off24_inb i
  | 5 => k0_off25_inb i
  | 6 => k0_off26_inb i
  | 7 => k0_off27_inb i

/-- A key of the diagonal block is seen by a query of the same or a later chunk of 64 positions. -/
def seen : IVec S256x256 1 :=
  cmpi .sle (shrui (iota .tc S256x256 32 [0] iota_S256x256_d0_w32) (broadcast S256x256 6#32))
    (shrui (iota .tc S256x256 32 [1] iota_S256x256_d1_w32) (broadcast S256x256 6#32))

/-- The masked scores of head `h` in the diagonal block. -/
def diagScore (i : grid0.Coords) (arg2 : Memref sig .tc .vmem S1024x256 .bf16) (arg3 : Memref sig .tc .vmem S2048x1024 .bf16)
    (X2 : BufTy.Contents (Elt F) arg2.view.ty) (X3 : BufTy.Contents (Elt F) arg3.view.ty) (h : Fin 8) : FVec F S256x256 .f32 :=
  select seen
    (score (arg3.view.readAt (Elt F) (Rect.unit (s := S2048x1024) (diagOff i h) S256x128.size (diagOff_inb i h)).toLoadRect X3)
      (arg2.view.readAt (Elt F) (queryBox h).toLoadRect X2))
    (broadcast S256x256 (Named.named κ "mask" 0xF149F2CA#32))

/-- The diagonal block's values. -/
def diagValues (i : grid0.Coords) (arg4 : Memref sig .tc .vmem S8x512x256 .bf16) (X4 : BufTy.Contents (Elt F) arg4.view.ty) :
    FVec F S512x256 .bf16 :=
  shapeCast S512x256 (arg4.view.readAt (Elt F)
    (Rect.unit (s := S8x512x256) (k0_off19 i) S1x512x256.size (k0_off19_inb i)).toLoadRect X4) shapeCasts_S1x512x256_S512x256

/-- The writes so far to the three buffers. -/
structure State (F : FTy → Type) where
  top : List (View.Piece (Elt F) S8x1x256 .f32)
  mass : List (View.Piece (Elt F) S8x1x256 .f32)
  acc : List (View.Piece (Elt F) S8x64x256 .f32)

/-- The buffers as the kernel first fills them. -/
def fills : State F :=
  ⟨[⟨Rect.unit (s := S8x1x256) ![0, 0, 0] S8x1x256.size inb_S8x1x256_S8x1x256_0_0_0, k0_pay300⟩],
   [⟨Rect.unit (s := S8x1x256) ![0, 0, 0] S8x1x256.size inb_S8x1x256_S8x1x256_0_0_0, k0_pay301⟩],
   [⟨Rect.unit (s := S8x64x256) ![0, 0, 0] S8x64x256.size inb_S8x64x256_S8x64x256_0_0_0, k0_pay302⟩]⟩

/-- One step of the diagonal block, for one head and one half of the queries. -/
def diagStep (arg6 arg7 : Memref sig .tc .vmem S8x1x256 .f32) (arg8 : Memref sig .tc .vmem S8x64x256 .f32)
    (S : Fin 8 → FVec F S256x256 .f32) (V : FVec F S512x256 .bf16) (p : Fin 8 × Fin 2) (s : State F) : State F :=
  ⟨⟨rowBox p.1 p.2, topOut (half (S p.1) p.2) (arg6.view.readCov s.top (rowBox p.1 p.2).toLoadRect)⟩ :: s.top,
   ⟨rowBox p.1 p.2, massOut (half (S p.1) p.2) (arg6.view.readCov s.top (rowBox p.1 p.2).toLoadRect)
      (arg7.view.readCov s.mass (rowBox p.1 p.2).toLoadRect)⟩ :: s.mass,
   ⟨accBox p.1 p.2, accOut (half (S p.1) p.2) (headRows V p.1) (arg6.view.readCov s.top (rowBox p.1 p.2).toLoadRect)
      (arg8.view.readCov s.acc (accBox p.1 p.2).toLoadRect)⟩ :: s.acc⟩

/-- The sixteen steps. -/
def diagRun (arg6 arg7 : Memref sig .tc .vmem S8x1x256 .f32) (arg8 : Memref sig .tc .vmem S8x64x256 .f32)
    (S : Fin 8 → FVec F S256x256 .f32) (V : FVec F S512x256 .bf16) (s : State F) : State F :=
  order.foldr (diagStep arg6 arg7 arg8 S V) s

/-- Head `h`'s sums of weights, all 256 queries. -/
def massRow (h : Fin 8) : Rect S8x1x256 :=
  Rect.unit (s := S8x1x256) ![h.val, 0, 0] S1x1x256.size (by revert h; decide)

/-- Head `h`'s weighted sums, all 256 queries. -/
def accRow (h : Fin 8) : Rect S8x64x256 :=
  Rect.unit (s := S8x64x256) ![h.val, 0, 0] S1x64x256.size (by revert h; decide)

/-- A head's weighted sums over its sums of weights. -/
def headOut (a : Vec F S1x64x256 .f32) (l : Vec F S1x1x256 .f32) : FVec F S64x256 .f32 :=
  divf (shapeCast S64x256 a shapeCasts_S1x64x256_S64x256)
    (broadcastTo S64x256 (shapeCast S1x256 l shapeCasts_S1x1x256_S1x256) broadcasts_S1x256_S64x256)

/-- Two heads' results, turned so that a row is a query. -/
def pairOut (a b : FVec F S64x256 .f32) : FVec F S256x128 .bf16 :=
  truncf .bf16 (transpose S256x128 [1, 0]
    (concatenate S128x256 0 [⟨S64x256, a⟩, ⟨S64x256, b⟩] concatenates_S64x256_S64x256_S128x256_d0)
    transposes_S128x256_p1_0_S256x128) bitsLt_bf16_f32

/-- The columns of the result that the `j`-th pair of heads fills. -/
def pairBox (j : Fin 4) : Rect S256x512 :=
  Rect.unit (s := S256x512) ![0, 128 * j.val] S256x128.size (by revert j; decide)

/-- The first and the second head of a pair. -/
def headOf (j : Fin 4) (e : Fin 2) : Fin 8 := ⟨2 * j.val + e.val, by omega⟩

/-- What is written for a pair of heads. -/
def outPiece (arg7 : Memref sig .tc .vmem S8x1x256 .f32) (arg8 : Memref sig .tc .vmem S8x64x256 .f32) (s : State F)
    (j : Fin 4) : View.Piece (Elt F) S256x512 .bf16 :=
  ⟨pairBox j, pairOut
    (headOut (arg8.view.readCov s.acc (accRow (headOf j 0)).toLoadRect) (arg7.view.readCov s.mass (massRow (headOf j 0)).toLoadRect))
    (headOut (arg8.view.readCov s.acc (accRow (headOf j 1)).toLoadRect) (arg7.view.readCov s.mass (massRow (headOf j 1)).toLoadRect))⟩

variable (c : Dev nD) (i : grid0.Coords) (arg2 : Memref sig .tc .vmem S1024x256 .bf16)
  (harg2 : arg2.IsWhole) (arg3 : Memref sig .tc .vmem S2048x1024 .bf16) (harg3 : arg3.IsWhole)
  (arg4 : Memref sig .tc .vmem S8x512x256 .bf16) (harg4 : arg4.IsWhole) (arg5 : Memref sig .tc .vmem S256x512 .bf16)
  (harg5 : arg5.IsWhole) (arg6 : Memref sig .tc .vmem S8x1x256 .f32) (harg6 : arg6.IsWhole)
  (arg7 : Memref sig .tc .vmem S8x1x256 .f32) (harg7 : arg7.IsWhole) (arg8 : Memref sig .tc .vmem S8x64x256 .f32)
  (harg8 : arg8.IsWhole)
  (x0 : Vec F S1024x256 .bf16) (x1 : Vec F S2048x1024 .bf16) (x2 : Vec F S8x512x256 .bf16)

/-- The writes of the loop's trips, after the fills. -/
def looped : State F :=
  let p := pb_k0_t1 (F := F) Variants.none c none i arg2 harg2 arg3 harg3 arg4 harg4 arg5 harg5 arg6 harg6 arg7 harg7 arg8 harg8 (harg2.unread x0) (harg3.unread x1) (harg4.unread x2) (arg6.view.writes (Elt F) arg6.view.junk fills.top) (arg7.view.writes (Elt F) arg7.view.junk fills.mass) (arg8.view.writes (Elt F) arg8.view.junk fills.acc) (Scf.trips (k0_t1_loop i).lb (k0_t1_loop i).ub (k0_t1_loop i).st)
  ⟨p.1 ++ fills.top, p.2.1 ++ fills.mass, p.2.2 ++ fills.acc⟩

/-- The writes of the remainder loop (which makes no trip), after those. -/
def looped' : State F :=
  let s : State F := looped c i arg2 harg2 arg3 harg3 arg4 harg4 arg5 harg5 arg6 harg6 arg7 harg7 arg8 harg8 x0 x1 x2
  let p := pb_k0_t2 (F := F) Variants.none c none i arg2 harg2 arg3 harg3 arg4 harg4 arg5 harg5 arg6 harg6 arg7 harg7 arg8 harg8 (kernelRun0_A.sl.v23 i) (harg2.unread x0) (harg3.unread x1) (harg4.unread x2) (arg6.view.writes (Elt F) arg6.view.junk s.top) (arg7.view.writes (Elt F) arg7.view.junk s.mass) (arg8.view.writes (Elt F) arg8.view.junk s.acc) (Scf.trips (k0_t2_loop i).lb (k0_t2_loop i).ub (k0_t2_loop i).st)
  ⟨p.1 ++ s.top, p.2.1 ++ s.mass, p.2.2 ++ s.acc⟩

/-- The run's writes of the result are the four pairs of heads after the diagonal steps. -/
theorem run_out :
    (kernelRun0_A c i arg2 harg2 arg3 harg3 arg4 harg4 arg5 harg5 arg6 harg6 arg7 harg7 arg8 harg8 x0 x1 x2).1
      = [3, 2, 1, 0].map (outPiece arg7 arg8 (diagRun arg6 arg7 arg8
          (diagScore i arg2 arg3 (harg2.unread x0) (harg3.unread x1)) (diagValues i arg4 (harg4.unread x2))
          (looped' c i arg2 harg2 arg3 harg3 arg4 harg4 arg5 harg5 arg6 harg6 arg7 harg7 arg8 harg8 x0 x1 x2))) := by
  unfold kernelRun0_A
  rfl

end Cert.KernelIdeal.Attn
-- ==== Proof.StepValue.lean ====
/-
  The step of `Step.lean` read at an index, with the floats read as extended reals.
-/
module

public import proofs.«01_k».proof.Proof.Step
public import Idealize.ShloMosaic.Lib.Pipeline.Value
public import Idealize.ShloMosaic.Lib.MatmulPlain

@[expose] public section

set_option maxRecDepth 16384

noncomputable section

namespace Cert.KernelIdeal.Attn

open Idealize.ShloMosaic Idealize.ShloMosaic.TcCoe Cert.KernelIdeal.Gen
open Idealize.ShloMosaic.ValueIdx (ix1 ix2 ix3)
open scoped BigOperators

/-- Column `x` of half `c` among the 256 queries. -/
def col (c : Fin 2) (x : Fin 128) : Fin 256 := ⟨128 * c.val + x.val, by omega⟩

/-- Every query lies in one of the halves. -/
theorem exists_col (q : Fin 256) : ∃ c x, col c x = q :=
  ⟨⟨q.val / 128, by omega⟩, ⟨q.val % 128, by omega⟩, Fin.ext (by simp only [col]; omega)⟩

/-- Row `d` of head `h` among the 512 rows of values. -/
def vrow (h : Fin 8) (d : Fin 64) : Fin 512 := ⟨64 * h.val + d.val, by omega⟩

theorem score_apply (K : Vec Ideal S256x128 .bf16) (Q : Vec Ideal S128x256 .bf16) (k q : Fin 256) :
    score K Q (ix2 k q) = ∑ d : Fin 128, K (ix2 k d) * Q (ix2 d q) := by
  have h := Ideal.matmul_plain_apply (φ₁ := .bf16) (φ₂ := .bf16) none K Q (constant S256x256 .f32 0x00000000#32) k q
  refine Eq.trans h ?_
  change Ideal.ofBits .f32 0x00000000#32 + _ = _
  rw [Ideal.ofBits_zero_f32, zero_add]

theorem half_apply (S : FVec Ideal S256x256 .f32) (c : Fin 2) (k : Fin 256) (x : Fin 128) :
    half S c (ix2 k x) = S (ix2 k (col c x)) := by
  match c with
  | 0 => exact extractStridedSlice_apply _ S slices_S256x256_o0_0_S256x128 _ _ (by intro a; fin_cases a <;> simp [col, ix2])
  | 1 => exact extractStridedSlice_apply _ S slices_S256x256_o0_128_S256x128 _ _ (by intro a; fin_cases a <;> simp [col, ix2])

theorem headRows_apply (V : FVec Ideal S512x256 .bf16) (h : Fin 8) (d : Fin 64) (k : Fin 256) :
    headRows V h (ix2 d k) = V (ix2 (vrow h d) k) :=
  extractStridedSlice_apply _ _ _ _ _ (by intro a; fin_cases a <;> simp [vrow, ix2])

/-- A row of 128 read as a 1 × 128 block, and as a 1 × 1 × 128 block. -/
theorem row_of_flat (v : FVec Ideal S128 .f32) (x : Fin 128) :
    shapeCast S1x128 v shapeCasts_S128_S1x128 (ix2 0 x) = v (ix1 x) :=
  (shapeCast_addUnit_apply ![128] v shapeCasts_S128_S1x128 (ix2 0 x)).trans
    (congrArg v (funext fun a => by fin_cases a; rfl))

theorem row_of_block (v : Vec Ideal S1x1x128 .f32) (x : Fin 128) :
    shapeCast S1x128 v shapeCasts_S1x1x128_S1x128 (ix2 0 x) = v (ix3 0 0 x) :=
  (shapeCast_dropUnit_apply ![1, 128] v shapeCasts_S1x1x128_S1x128 (ix2 0 x)).trans
    (congrArg v (funext fun a => by fin_cases a <;> rfl))

theorem block_of_row (v : FVec Ideal S1x128 .f32) (x : Fin 128) :
    shapeCast S1x1x128 v shapeCasts_S1x128_S1x1x128 (ix3 0 0 x) = v (ix2 0 x) :=
  (shapeCast_addUnit_apply ![1, 128] v shapeCasts_S1x128_S1x1x128 (ix3 0 0 x)).trans
    (congrArg v (funext fun a => by fin_cases a <;> rfl))

theorem rows_of_block (v : Vec Ideal S1x64x128 .f32) (d : Fin 64) (x : Fin 128) :
    shapeCast S64x128 v shapeCasts_S1x64x128_S64x128 (ix2 d x) = v (ix3 0 d x) :=
  (shapeCast_dropUnit_apply ![64, 128] v shapeCasts_S1x64x128_S64x128 (ix2 d x)).trans
    (congrArg v (funext fun a => by fin_cases a <;> rfl))

theorem block_of_rows (v : FVec Ideal S64x128 .f32) (d : Fin 64) (x : Fin 128) :
    shapeCast S1x64x128 v shapeCasts_S64x128_S1x64x128 (ix3 0 d x) = v (ix2 d x) :=
  (shapeCast_addUnit_apply ![64, 128] v shapeCasts_S64x128_S1x64x128 (ix3 0 d x)).trans
    (congrArg v (funext fun a => by fin_cases a <;> rfl))

/-- The largest of a column of scores. -/
theorem maxCol_apply (sc : FVec Ideal S256x128 .f32) (x : Fin 128) :
    multiReduction .maximumf [0] S128 sc 0xFF800000#32 reduces_S256x128_S128 (.inl rfl) rfl (ix1 x)
      = Finset.univ.sup fun k : Fin 256 => sc (ix2 k x) := by
  have h := Ideal.multiReduction_maximumf_single sc 0xFF800000#32 reduces_S256x128_S128 (.inl rfl) rfl (ix1 x)
  refine h.trans ?_
  have e : FloatOps.ofBits (F := Ideal) .f32 0xFF800000#32 = (⊥ : EReal) := by
    change Ideal.ofBits .f32 0xFF800000#32 = ⊥
    simp [Ideal.ofBits, Ideal.ieee]
  rw [e]
  exact congrArg (Finset.fold max (⊥ : EReal) · Finset.univ)
    (funext fun k => congrArg sc (funext fun a => by fin_cases a <;> rfl))

/-- The sum of a column of weights. -/
theorem sumCol_apply (p : FVec Ideal S256x128 .f32) (x : Fin 128) :
    multiReduction .add [0] S128 p 0x00000000#32 reduces_S256x128_S128 (.inl rfl) rfl (ix1 x)
      = ∑ k : Fin 256, p (ix2 k x) := by
  refine (Ideal.multiReduction_add_single p 0x00000000#32 reduces_S256x128_S128 (.inl rfl) rfl (ix1 x)).trans ?_
  exact Finset.sum_congr rfl fun k _ => congrArg p (funext fun a => by fin_cases a <;> rfl)

theorem newTop_apply (sc : FVec Ideal S256x128 .f32) (m : Vec Ideal S1x1x128 .f32) (x : Fin 128) :
    newTop sc m (ix2 0 x) = max (m (ix3 0 0 x)) (Finset.univ.sup fun k : Fin 256 => sc (ix2 k x)) := by
  change max (shapeCast S1x128 m _ (ix2 0 x)) (shapeCast S1x128 _ _ (ix2 0 x)) = _
  rw [row_of_block, row_of_flat, maxCol_apply]

theorem topOut_apply (sc : FVec Ideal S256x128 .f32) (m : Vec Ideal S1x1x128 .f32) (x : Fin 128) :
    topOut sc m (ix3 0 0 x) = max (m (ix3 0 0 x)) (Finset.univ.sup fun k : Fin 256 => sc (ix2 k x)) :=
  (block_of_row _ x).trans (newTop_apply sc m x)

theorem alpha_apply (sc : FVec Ideal S256x128 .f32) (m : Vec Ideal S1x1x128 .f32) (x : Fin 128) :
    alpha sc m (ix2 0 x) = Ideal.exp2 (m (ix3 0 0 x) - newTop sc m (ix2 0 x)) := by
  change Ideal.exp2 (shapeCast S1x128 m _ (ix2 0 x) - _) = _
  rw [row_of_block]

theorem weights_apply (sc : FVec Ideal S256x128 .f32) (m : Vec Ideal S1x1x128 .f32) (k : Fin 256) (x : Fin 128) :
    weights sc m (ix2 k x) = Ideal.exp2 (sc (ix2 k x) - newTop sc m (ix2 0 x)) := by
  change Ideal.exp2 (sc (ix2 k x) - broadcastTo S256x128 (newTop sc m) _ (ix2 k x)) = _
  rw [broadcastTo_apply _ broadcasts_S1x128_S256x128 (ix2 k x) (ix2 0 x) (by intro a; fin_cases a <;> rfl)]

theorem massOut_apply (sc : FVec Ideal S256x128 .f32) (m l : Vec Ideal S1x1x128 .f32) (x : Fin 128) :
    massOut sc m l (ix3 0 0 x) = Ideal.exp2 (m (ix3 0 0 x) - newTop sc m (ix2 0 x)) * l (ix3 0 0 x)
      + ∑ k : Fin 256, Ideal.exp2 (sc (ix2 k x) - newTop sc m (ix2 0 x)) := by
  refine (block_of_row _ x).trans ?_
  change alpha sc m (ix2 0 x) * shapeCast S1x128 l _ (ix2 0 x) + shapeCast S1x128 _ _ (ix2 0 x) = _
  rw [row_of_block, row_of_flat, sumCol_apply, alpha_apply]
  simp only [weights_apply]

theorem accOut_apply (sc : FVec Ideal S256x128 .f32) (v : FVec Ideal S64x256 .bf16) (m : Vec Ideal S1x1x128 .f32)
    (a : Vec Ideal S1x64x128 .f32) (d : Fin 64) (x : Fin 128) :
    accOut sc v m a (ix3 0 d x) = Ideal.exp2 (m (ix3 0 0 x) - newTop sc m (ix2 0 x)) * a (ix3 0 d x)
      + ∑ k : Fin 256, v (ix2 d k) * Ideal.exp2 (sc (ix2 k x) - newTop sc m (ix2 0 x)) := by
  refine (block_of_rows _ d x).trans ?_
  have hm := Ideal.matmul_plain_apply (φ₁ := .bf16) (φ₂ := .bf16) none v (truncf .bf16 (weights sc m) bitsLt_bf16_f32)
    (constant S64x128 .f32 0x00000000#32) d x
  change broadcastTo S64x128 (alpha sc m) _ (ix2 d x) * shapeCast S64x128 a _ (ix2 d x) + FloatOps.matmul _ _ _ _ _ _ = _
  rw [rows_of_block, broadcastTo_apply _ broadcasts_S1x128_S64x128 (ix2 d x) (ix2 0 x) (by intro a; fin_cases a <;> rfl), alpha_apply]
  congr 1
  refine Eq.trans hm ?_
  change Ideal.ofBits .f32 0x00000000#32 + _ = _
  rw [Ideal.ofBits_zero_f32, zero_add]
  exact Finset.sum_congr rfl fun k _ => congrArg (v (ix2 d k) * ·) (weights_apply sc m k x)

end Cert.KernelIdeal.Attn
-- ==== Proof.Online.lean ====
/-
  The mathematics of the running softmax, on extended reals alone: no program is mentioned here.

  A query sees a row of scores `s 0, s 1, …` (each a real, or `⊥` for a key it may not attend to) and a row of values
  `v 0, v 1, …` (anything).  The kernel keeps, after the first `n` keys, the largest score, the sum of the weights
  `2 ^ (s k - largest)`, and the weighted sum of the values.  This module says how the three change when a block of
  keys is added, that keys scored `⊥` change nothing, and that the quotient at the end is the softmax the reference
  takes in one go.
-/
module

public import Idealize.ShloMosaic.PureOps.Ideal.Laws

@[expose] public section

open scoped BigOperators
open Idealize.ShloMosaic

namespace Cert.Online

theorem pow2_coe (r : ℝ) : Ideal.exp2 (r : EReal) = ((2 ^ r : ℝ) : EReal) := rfl

theorem pow2_nonneg (x : EReal) : 0 ≤ Ideal.exp2 x := by
  induction x with
  | bot => exact le_refl _
  | top => exact le_top
  | coe r => rw [pow2_coe]; exact_mod_cast (Real.rpow_pos_of_pos (by norm_num : (0 : ℝ) < 2) r).le

theorem pow2_ne_top {x : EReal} (h : x ≠ ⊤) : Ideal.exp2 x ≠ ⊤ := by
  induction x with
  | bot => exact EReal.zero_ne_top
  | top => exact absurd rfl h
  | coe r => rw [pow2_coe]; exact EReal.coe_ne_top _

theorem pow2_bot : Ideal.exp2 ⊥ = 0 := rfl

theorem bot_sub (x : EReal) : (⊥ : EReal) - x = ⊥ := by rw [sub_eq_add_neg]; exact EReal.bot_add _

theorem sub_ne_top {x y : EReal} (hx : x ≠ ⊤) (h : x ≤ y) : x - y ≠ ⊤ := by
  induction x with
  | bot => rw [bot_sub]; exact bot_ne_top
  | top => exact absurd rfl hx
  | coe r =>
    induction y with
    | bot => exact absurd h (by simp)
    | top => simp
    | coe t => rw [← EReal.coe_sub]; exact EReal.coe_ne_top _

/-- Changing the score the weights are measured from: `2^(m - m') · 2^(s - m) = 2^(s - m')`. -/
theorem rescale {s m m' : EReal} (hs : s ≤ m) (hm : m ≤ m') (ht : m' ≠ ⊤) :
    Ideal.exp2 (m - m') * Ideal.exp2 (s - m) = Ideal.exp2 (s - m') := by
  induction s with
  | bot => rw [bot_sub, bot_sub, pow2_bot, mul_zero]
  | top => exact absurd (top_le_iff.mp (hs.trans hm)) ht
  | coe s =>
    induction m with
    | bot => exact absurd hs (by simp)
    | top => exact absurd (top_le_iff.mp hm) ht
    | coe m =>
      induction m' with
      | bot => exact absurd hm (by simp)
      | top => exact absurd rfl ht
      | coe m' =>
        rw [← EReal.coe_sub, ← EReal.coe_sub, ← EReal.coe_sub, pow2_coe, pow2_coe, pow2_coe, ← EReal.coe_mul,
          ← Real.rpow_add (by norm_num : (0 : ℝ) < 2)]
        congr 2; ring

/-- A nonnegative finite factor goes into a finite sum of extended reals. -/
theorem mul_sum {ι : Type*} (S : Finset ι) (a : EReal) (h0 : 0 ≤ a) (ht : a ≠ ⊤) (f : ι → EReal) :
    a * ∑ k ∈ S, f k = ∑ k ∈ S, a * f k := by
  classical
  induction S using Finset.induction_on with
  | empty => simp
  | insert k S hk ih =>
    rw [Finset.sum_insert hk, Finset.sum_insert hk, EReal.left_distrib_of_nonneg_of_ne_top h0 ht, ih]

/-! ### The three running quantities -/

/-- The largest of the first `n` scores. -/
noncomputable def top (s : ℕ → EReal) (n : ℕ) : EReal := (Finset.range n).sup s

/-- The sum of the first `n` weights. -/
noncomputable def mass (s : ℕ → EReal) (n : ℕ) : EReal := ∑ k ∈ Finset.range n, Ideal.exp2 (s k - top s n)

/-- The weighted sum of the first `n` values. -/
noncomputable def acc (s v : ℕ → EReal) (n : ℕ) : EReal := ∑ k ∈ Finset.range n, v k * Ideal.exp2 (s k - top s n)

theorem top_zero (s : ℕ → EReal) : top s 0 = ⊥ := rfl
theorem mass_zero (s : ℕ → EReal) : mass s 0 = 0 := rfl
theorem acc_zero (s v : ℕ → EReal) : acc s v 0 = 0 := rfl

theorem le_top_of_lt (s : ℕ → EReal) {k n : ℕ} (h : k < n) : s k ≤ top s n :=
  Finset.le_sup (f := s) (Finset.mem_range.mpr h)

theorem top_ne_top {s : ℕ → EReal} {n : ℕ} (h : ∀ k < n, s k ≠ ⊤) : top s n ≠ ⊤ := by
  refine ne_of_lt ((Finset.sup_lt_iff bot_lt_top).mpr fun k hk => lt_top_iff_ne_top.mpr (h k (Finset.mem_range.mp hk)))

theorem top_mono (s : ℕ → EReal) {n n' : ℕ} (h : n ≤ n') : top s n ≤ top s n' :=
  Finset.sup_mono (Finset.range_mono h)

/-- A block of `b` keys more: the largest score. -/
theorem top_add (s : ℕ → EReal) (n b : ℕ) :
    top s (n + b) = max (top s n) (Finset.univ.sup fun j : Fin b => s (n + j)) := by
  apply le_antisymm
  · refine Finset.sup_le fun k hk => ?_
    rcases lt_or_ge k n with h | h
    · exact (le_top_of_lt s h).trans (le_max_left _ _)
    · have hb : k - n < b := by have := Finset.mem_range.mp hk; omega
      have := Finset.le_sup (f := fun j : Fin b => s (n + j)) (Finset.mem_univ ⟨k - n, hb⟩)
      simp only [Nat.add_sub_cancel' h] at this
      exact this.trans (le_max_right _ _)
  · exact max_le (top_mono s (Nat.le_add_right n b))
      (Finset.sup_le fun j _ => le_top_of_lt s (Nat.add_lt_add_left j.isLt n))

/-- A block of `b` keys more: the sum of the weights. -/
theorem mass_add {s : ℕ → EReal} {n b : ℕ} (h : ∀ k < n + b, s k ≠ ⊤) :
    mass s (n + b) = Ideal.exp2 (top s n - top s (n + b)) * mass s n
      + ∑ j : Fin b, Ideal.exp2 (s (n + j) - top s (n + b)) := by
  have ht := top_ne_top h
  have hle := top_mono s (Nat.le_add_right n b)
  have hn : top s n ≠ ⊤ := fun e => ht (top_le_iff.mp (e ▸ hle))
  unfold mass
  rw [Finset.sum_range_add, mul_sum _ _ (pow2_nonneg _) (pow2_ne_top (sub_ne_top hn hle)),
    Finset.sum_range (fun j => Ideal.exp2 (s (n + j) - top s (n + b)))]
  congr 1
  exact Finset.sum_congr rfl fun k hk => (rescale (le_top_of_lt s (Finset.mem_range.mp hk)) hle ht).symm

/-- A block of `b` keys more: the weighted sum. -/
theorem acc_add {s : ℕ → EReal} (v : ℕ → EReal) {n b : ℕ} (h : ∀ k < n + b, s k ≠ ⊤) :
    acc s v (n + b) = Ideal.exp2 (top s n - top s (n + b)) * acc s v n
      + ∑ j : Fin b, v (n + j) * Ideal.exp2 (s (n + j) - top s (n + b)) := by
  have ht := top_ne_top h
  have hle := top_mono s (Nat.le_add_right n b)
  have hn : top s n ≠ ⊤ := fun e => ht (top_le_iff.mp (e ▸ hle))
  unfold acc
  rw [Finset.sum_range_add, mul_sum _ _ (pow2_nonneg _) (pow2_ne_top (sub_ne_top hn hle)),
    Finset.sum_range (fun j => v (n + j) * Ideal.exp2 (s (n + j) - top s (n + b)))]
  congr 1
  refine Finset.sum_congr rfl fun k hk => ?_
  rw [mul_left_comm, rescale (le_top_of_lt s (Finset.mem_range.mp hk)) hle ht]

/-! ### Keys no query sees -/

theorem top_tail {s : ℕ → EReal} {n b : ℕ} (h : ∀ k, n ≤ k → k < n + b → s k = ⊥) : top s (n + b) = top s n := by
  rw [top_add, max_eq_left]
  exact Finset.sup_le fun j _ => by rw [h _ (Nat.le_add_right n j) (Nat.add_lt_add_left j.isLt n)]; exact bot_le

theorem mass_tail {s : ℕ → EReal} {n b : ℕ} (h : ∀ k, n ≤ k → k < n + b → s k = ⊥) : mass s (n + b) = mass s n := by
  unfold mass
  rw [top_tail h, Finset.sum_range_add]
  refine (congrArg _ (Finset.sum_eq_zero fun j hj => ?_)).trans (add_zero _)
  rw [h _ (Nat.le_add_right n j) (Nat.add_lt_add_left (Finset.mem_range.mp hj) n), bot_sub, pow2_bot]

theorem acc_tail {s : ℕ → EReal} (v : ℕ → EReal) {n b : ℕ} (h : ∀ k, n ≤ k → k < n + b → s k = ⊥) :
    acc s v (n + b) = acc s v n := by
  unfold acc
  rw [top_tail h, Finset.sum_range_add]
  refine (congrArg _ (Finset.sum_eq_zero fun j hj => ?_)).trans (add_zero _)
  rw [h _ (Nat.le_add_right n j) (Nat.add_lt_add_left (Finset.mem_range.mp hj) n), bot_sub, pow2_bot, mul_zero]

/-- The three quantities read only the first `n` scores and values. -/
theorem top_congr {s s' : ℕ → EReal} {n : ℕ} (h : ∀ k < n, s k = s' k) : top s n = top s' n :=
  Finset.sup_congr rfl fun k hk => h k (Finset.mem_range.mp hk)

theorem mass_congr {s s' : ℕ → EReal} {n : ℕ} (h : ∀ k < n, s k = s' k) : mass s n = mass s' n := by
  unfold mass; rw [top_congr h]
  exact Finset.sum_congr rfl fun k hk => by rw [h k (Finset.mem_range.mp hk)]

theorem acc_congr {s s' v v' : ℕ → EReal} {n : ℕ} (h : ∀ k < n, s k = s' k) (hv : ∀ k < n, v k = v' k) :
    acc s v n = acc s' v' n := by
  unfold acc; rw [top_congr h]
  exact Finset.sum_congr rfl fun k hk => by rw [h k (Finset.mem_range.mp hk), hv k (Finset.mem_range.mp hk)]

/-! ### The quotient is the softmax -/

/-- Some key is seen, so the largest score is a real. -/
theorem top_real {s : ℕ → EReal} {n : ℕ} (h : ∀ k < n, s k ≠ ⊤) (k0 : ℕ) (hk0 : k0 < n) (hb : s k0 ≠ ⊥) :
    ∃ r : ℝ, top s n = r := by
  have ht := top_ne_top h
  have hlb : top s n ≠ ⊥ := fun e => hb (le_bot_iff.mp (e ▸ le_top_of_lt s hk0))
  exact ⟨(top s n).toReal, (EReal.coe_toReal ht hlb).symm⟩

/-- The sum of the weights is a positive real. -/
theorem mass_real {s : ℕ → EReal} {n : ℕ} (h : ∀ k < n, s k ≠ ⊤) (k0 : ℕ) (hk0 : k0 < n) (hb : s k0 ≠ ⊥) :
    ∃ r : ℝ, 0 < r ∧ mass s n = r := by
  have hlt : ∀ k ∈ Finset.range n, ∃ r : ℝ, 0 ≤ r ∧ Ideal.exp2 (s k - top s n) = r := fun k hk => by
    have hk := Finset.mem_range.mp hk
    have h1 := pow2_ne_top (sub_ne_top (h k hk) (le_top_of_lt s hk))
    have h2 := pow2_nonneg (s k - top s n)
    have h3 : Ideal.exp2 (s k - top s n) ≠ ⊥ := fun e => by rw [e] at h2; exact absurd h2 (by simp)
    refine ⟨(Ideal.exp2 (s k - top s n)).toReal, EReal.toReal_nonneg h2, (EReal.coe_toReal h1 h3).symm⟩
  choose! f hf0 hf using hlt
  have hsum : mass s n = ((∑ k ∈ Finset.range n, f k : ℝ) : EReal) := by
    unfold mass
    rw [Finset.sum_congr rfl hf]
    generalize Finset.range n = S
    classical
    induction S using Finset.induction_on with
    | empty => simp
    | insert a S ha ih => rw [Finset.sum_insert ha, Finset.sum_insert ha, EReal.coe_add, ih]
  refine ⟨_, ?_, hsum⟩
  refine Finset.sum_pos' hf0 ⟨k0, Finset.mem_range.mpr hk0, ?_⟩
  obtain ⟨m, hm⟩ := top_real h k0 hk0 hb
  have e := hf k0 (Finset.mem_range.mpr hk0)
  rw [hm] at e
  have hc : s k0 = ((s k0).toReal : EReal) := (EReal.coe_toReal (h k0 hk0) hb).symm
  rw [hc, ← EReal.coe_sub, pow2_coe] at e
  rw [← EReal.coe_eq_coe_iff.mp e]
  exact Real.rpow_pos_of_pos (by norm_num) _

/-- The natural exponential of scores multiplied by `log 2` is the power of two of the scores. -/
theorem exp_log_two {s m : EReal} (hs : s ≠ ⊤) (r : ℝ) (hm : m = r) :
    Ideal.exp (s * ((Real.log 2 : ℝ) : EReal) - m * ((Real.log 2 : ℝ) : EReal)) = Ideal.exp2 (s - m) := by
  subst hm
  induction s with
  | bot =>
    rw [EReal.bot_mul_coe_of_pos (Real.log_pos (by norm_num)), bot_sub, bot_sub]; rfl
  | top => exact absurd rfl hs
  | coe s =>
    rw [← EReal.coe_mul, ← EReal.coe_mul, ← EReal.coe_sub, ← EReal.coe_sub, pow2_coe]
    change ((Real.exp _ : ℝ) : EReal) = _
    rw [Real.rpow_def_of_pos (by norm_num : (0 : ℝ) < 2)]
    congr 2; ring

/-- The largest of the scores multiplied by `log 2`. -/
theorem sup_log_two (s : ℕ → EReal) (n : ℕ) (hn : 0 < n) :
    (Finset.univ.sup fun k : Fin n => s k * ((Real.log 2 : ℝ) : EReal)) = top s n * ((Real.log 2 : ℝ) : EReal) := by
  have hl : (0 : EReal) ≤ ((Real.log 2 : ℝ) : EReal) := by exact_mod_cast (Real.log_pos (by norm_num)).le
  apply le_antisymm
  · exact Finset.sup_le fun k _ => mul_le_mul_of_nonneg_right (le_top_of_lt s k.isLt) hl
  · obtain ⟨k, hk, e⟩ := Finset.exists_mem_eq_sup (Finset.range n) ⟨0, Finset.mem_range.mpr hn⟩ s
    unfold top; rw [e]
    exact Finset.le_sup (f := fun k : Fin n => s k * ((Real.log 2 : ℝ) : EReal)) (Finset.mem_univ ⟨k, Finset.mem_range.mp hk⟩)

/-- The kernel's quotient is the reference's: the values weighted by the softmax of the scores (measured in units of
    `log 2`), each weight divided before it is used. -/
theorem quotient {s : ℕ → EReal} (v : ℕ → EReal) {n : ℕ} (h : ∀ k < n, s k ≠ ⊤) (k0 : ℕ) (hk0 : k0 < n) (hb : s k0 ≠ ⊥) :
    Ideal.div (acc s v n) (mass s n) = ∑ k : Fin n, v k *
      Ideal.div (Ideal.exp (s k * ((Real.log 2 : ℝ) : EReal)
          - (Finset.univ.sup fun j : Fin n => s j * ((Real.log 2 : ℝ) : EReal))))
        (∑ i : Fin n, Ideal.exp (s i * ((Real.log 2 : ℝ) : EReal)
          - (Finset.univ.sup fun j : Fin n => s j * ((Real.log 2 : ℝ) : EReal)))) := by
  obtain ⟨m, hm⟩ := top_real h k0 hk0 hb
  obtain ⟨L, hL, hmass⟩ := mass_real h k0 hk0 hb
  have e1 : ∀ k : Fin n, Ideal.exp (s k * ((Real.log 2 : ℝ) : EReal)
      - (Finset.univ.sup fun j : Fin n => s j * ((Real.log 2 : ℝ) : EReal))) = Ideal.exp2 (s k - top s n) := fun k => by
    rw [sup_log_two s n (by omega), exp_log_two (h k k.isLt) m hm]
  have e2 : ∑ i : Fin n, Ideal.exp2 (s i - top s n) = (L : EReal) := by
    rw [← hmass]; exact (Finset.sum_range fun i => Ideal.exp2 (s i - top s n)).symm
  simp only [e1]
  rw [e2, hmass]
  simp only [Ideal.div_coe hL.ne']
  have hc : (0 : EReal) ≤ ((1 / L : ℝ) : EReal) := by exact_mod_cast (one_div_pos.mpr hL).le
  rw [mul_comm, acc, Finset.sum_range (fun k => v k * Ideal.exp2 (s k - top s n)), mul_sum _ _ hc (EReal.coe_ne_top _)]
  exact Finset.sum_congr rfl fun k _ => by rw [mul_comm, mul_assoc]

end Cert.Online
-- ==== Proof.Buffers.lean ====
/-
  Sixteen steps on the three buffers, one for each head and half of the queries, take buffers that hold the running
  softmax after `n` keys to buffers that hold it after `n + 256`.
-/
module

public import proofs.«01_k».proof.Proof.Diag
public import proofs.«01_k».proof.Proof.StepValue
public import proofs.«01_k».proof.Proof.Online

@[expose] public section

set_option maxRecDepth 16384

noncomputable section

namespace Cert.KernelIdeal.Attn

open Idealize.ShloMosaic Idealize.ShloMosaic.TcCoe Cert.KernelIdeal.Gen
open Idealize.ShloMosaic.ValueIdx (ix1 ix2 ix3)

theorem rowBox_emb (h : Fin 8) (c : Fin 2) (x : Fin 128) :
    (rowBox h c).emb (ix3 0 0 x : S1x1x128.Idx) = ix3 h 0 (col c x) :=
  Rect.emb_eq_of_coords _ _ _ fun a => by
    fin_cases a
    · simp [rowBox, ix3]
    · simp [rowBox, ix3]
    · simp [rowBox, ix3, col]

theorem accBox_emb (h : Fin 8) (c : Fin 2) (d : Fin 64) (x : Fin 128) :
    (accBox h c).emb (ix3 0 d x : S1x64x128.Idx) = ix3 h d (col c x) :=
  Rect.emb_eq_of_coords _ _ _ fun a => by
    fin_cases a
    · simp [accBox, ix3]
    · simp [accBox, ix3]
    · simp [accBox, ix3, col]

theorem exists_row (x : S1x1x128.Idx) : ∃ t, x = ix3 0 0 t :=
  ⟨x 2, funext fun a => by
    fin_cases a
    · exact Subsingleton.elim (α := Fin 1) _ _
    · exact Subsingleton.elim (α := Fin 1) _ _
    · rfl⟩

theorem exists_rows (x : S1x64x128.Idx) : ∃ d t, x = ix3 0 d t :=
  ⟨x 1, x 2, funext fun a => by
    fin_cases a
    · exact Subsingleton.elim (α := Fin 1) _ _
    · rfl
    · rfl⟩

theorem mem_rowBox (h : Fin 8) (q : Fin 256) : ∃ p ∈ order, (ix3 h 0 q : S8x1x256.Idx) ∈ (rowBox p.1 p.2).set := by
  obtain ⟨c, x, rfl⟩ := exists_col q
  refine ⟨(h, c), mem_order _, ?_⟩
  rw [← rowBox_emb]
  exact (rowBox h c).map_emb_univ ▸ Finset.mem_map_of_mem _ (Finset.mem_univ _)

theorem mem_accBox (h : Fin 8) (d : Fin 64) (q : Fin 256) :
    ∃ p ∈ order, (ix3 h d q : S8x64x256.Idx) ∈ (accBox p.1 p.2).set := by
  obtain ⟨c, x, rfl⟩ := exists_col q
  refine ⟨(h, c), mem_order _, ?_⟩
  rw [← accBox_emb]
  exact (accBox h c).map_emb_univ ▸ Finset.mem_map_of_mem _ (Finset.mem_univ _)

variable (arg6 arg7 : Memref sig .tc .vmem S8x1x256 .f32) (arg8 : Memref sig .tc .vmem S8x64x256 .f32)

/-- The buffers hold the running softmax of the scores `s` (head, query, key) and values `v` (head, entry, key) after
    `n` keys. -/
structure Holds (f6 : BufTy.Contents (Elt Ideal) arg6.view.ty) (f7 : BufTy.Contents (Elt Ideal) arg7.view.ty)
    (f8 : BufTy.Contents (Elt Ideal) arg8.view.ty) (s : Fin 8 → Fin 256 → ℕ → EReal) (v : Fin 8 → Fin 64 → ℕ → EReal)
    (n : ℕ) : Prop where
  top : ∀ h q, arg6.view.read (Elt Ideal) f6 (ix3 h 0 q) = Online.top (s h q) n
  mass : ∀ h q, arg7.view.read (Elt Ideal) f7 (ix3 h 0 q) = Online.mass (s h q) n
  acc : ∀ h d q, arg8.view.read (Elt Ideal) f8 (ix3 h d q) = Online.acc (s h q) (v h d) n

variable (S : Fin 8 → FVec Ideal S256x256 .f32) (V : FVec Ideal S512x256 .bf16)
  (f6 : BufTy.Contents (Elt Ideal) arg6.view.ty) (f7 : BufTy.Contents (Elt Ideal) arg7.view.ty)
  (f8 : BufTy.Contents (Elt Ideal) arg8.view.ty)

/-- The sixteen writes of new largest scores. -/
def topPieces : List (View.Piece (Elt Ideal) S8x1x256 .f32) :=
  order.map fun p => ⟨rowBox p.1 p.2, topOut (half (S p.1) p.2) (arg6.view.readAt (Elt Ideal) (rowBox p.1 p.2).toLoadRect f6)⟩

/-- The sixteen writes of new sums of weights. -/
def massPieces : List (View.Piece (Elt Ideal) S8x1x256 .f32) :=
  order.map fun p => ⟨rowBox p.1 p.2, massOut (half (S p.1) p.2) (arg6.view.readAt (Elt Ideal) (rowBox p.1 p.2).toLoadRect f6)
    (arg7.view.readAt (Elt Ideal) (rowBox p.1 p.2).toLoadRect f7)⟩

/-- The sixteen writes of new weighted sums. -/
def accPieces : List (View.Piece (Elt Ideal) S8x64x256 .f32) :=
  order.map fun p => ⟨accBox p.1 p.2, accOut (half (S p.1) p.2) (headRows V p.1)
    (arg6.view.readAt (Elt Ideal) (rowBox p.1 p.2).toLoadRect f6)
    (arg8.view.readAt (Elt Ideal) (accBox p.1 p.2).toLoadRect f8)⟩

variable {arg6 arg7 arg8 S V f6 f7 f8}
variable {s : Fin 8 → Fin 256 → ℕ → EReal} {v : Fin 8 → Fin 64 → ℕ → EReal} {n : ℕ}

theorem readAt_row (arg : Memref sig .tc .vmem S8x1x256 .f32) (f : BufTy.Contents (Elt Ideal) arg.view.ty) (h : Fin 8)
    (c : Fin 2) (x : Fin 128) :
    arg.view.readAt (Elt Ideal) (rowBox h c).toLoadRect f (ix3 0 0 x : S1x1x128.Idx)
      = arg.view.read (Elt Ideal) f (ix3 h 0 (col c x)) :=
  congrArg (arg.view.read (Elt Ideal) f) (rowBox_emb h c x)

theorem readAt_rows (arg : Memref sig .tc .vmem S8x64x256 .f32) (f : BufTy.Contents (Elt Ideal) arg.view.ty) (h : Fin 8)
    (c : Fin 2) (d : Fin 64) (x : Fin 128) :
    arg.view.readAt (Elt Ideal) (accBox h c).toLoadRect f (ix3 0 d x : S1x64x128.Idx)
      = arg.view.read (Elt Ideal) f (ix3 h d (col c x)) :=
  congrArg (arg.view.read (Elt Ideal) f) (accBox_emb h c d x)

section Online

variable {t : ℕ → EReal} {sc : FVec Ideal S256x128 .f32} {m l : Vec Ideal S1x1x128 .f32} {x : Fin 128}

theorem newTop_online (hm : m (ix3 0 0 x) = Online.top t n) (hsc : ∀ k : Fin 256, sc (ix2 k x) = t (n + k.val)) :
    newTop sc m (ix2 0 x) = Online.top t (n + 256) := by
  rw [newTop_apply, hm, Online.top_add]
  simp only [hsc]

theorem topOut_online (hm : m (ix3 0 0 x) = Online.top t n) (hsc : ∀ k : Fin 256, sc (ix2 k x) = t (n + k.val)) :
    topOut sc m (ix3 0 0 x) = Online.top t (n + 256) := by
  rw [topOut_apply, hm, Online.top_add]
  simp only [hsc]

theorem massOut_online (ht : ∀ k < n + 256, t k ≠ ⊤) (hm : m (ix3 0 0 x) = Online.top t n)
    (hl : l (ix3 0 0 x) = Online.mass t n) (hsc : ∀ k : Fin 256, sc (ix2 k x) = t (n + k.val)) :
    massOut sc m l (ix3 0 0 x) = Online.mass t (n + 256) := by
  rw [massOut_apply, newTop_online hm hsc, hm, hl, Online.mass_add ht]
  simp only [hsc]

theorem accOut_online {w : ℕ → EReal} {v : FVec Ideal S64x256 .bf16} {a : Vec Ideal S1x64x128 .f32} {d : Fin 64}
    (ht : ∀ k < n + 256, t k ≠ ⊤) (hm : m (ix3 0 0 x) = Online.top t n)
    (ha : a (ix3 0 d x) = Online.acc t w n) (hsc : ∀ k : Fin 256, sc (ix2 k x) = t (n + k.val))
    (hv : ∀ k : Fin 256, v (ix2 d k) = w (n + k.val)) :
    accOut sc v m a (ix3 0 d x) = Online.acc t w (n + 256) := by
  rw [accOut_apply, newTop_online hm hsc, hm, ha, Online.acc_add w ht]
  simp only [hsc, hv]

end Online

theorem half_step (hS : ∀ h k q, S h (ix2 k q) = s h q (n + k.val)) (h : Fin 8) (c : Fin 2) (x : Fin 128) (k : Fin 256) :
    half (S h) c (ix2 k x) = s h (col c x) (n + k.val) := by rw [half_apply, hS]

theorem Holds.step (H : Holds arg6 arg7 arg8 f6 f7 f8 s v n) (hS : ∀ h k q, S h (ix2 k q) = s h q (n + k.val))
    (hV : ∀ h d k, V (ix2 (vrow h d) k) = v h d (n + k.val)) (hs : ∀ h q k, k < n + 256 → s h q k ≠ ⊤)
    (g6 : BufTy.Contents (Elt Ideal) arg6.view.ty) (g7 : BufTy.Contents (Elt Ideal) arg7.view.ty)
    (g8 : BufTy.Contents (Elt Ideal) arg8.view.ty) :
    Holds arg6 arg7 arg8 (arg6.view.writes (Elt Ideal) g6 (topPieces arg6 S f6))
      (arg7.view.writes (Elt Ideal) g7 (massPieces arg6 arg7 S f6 f7))
      (arg8.view.writes (Elt Ideal) g8 (accPieces arg6 arg8 S V f6 f8)) s v (n + 256) := by
  refine ⟨fun h q => ?_, fun h q => ?_, fun h d q => ?_⟩
  · refine View.read_writes_apply_of_pieces arg6.view g6 (fun y : S8x1x256.Idx => Online.top (s (y 0) (y 2)) (n + 256)) _ ?_ _ ?_
    · intro p hp x
      obtain ⟨⟨h, c⟩, -, rfl⟩ := List.mem_map.mp hp
      obtain ⟨t, rfl⟩ := exists_row x
      refine Eq.trans ?_ (congrArg (fun y : S8x1x256.Idx => Online.top (s (y 0) (y 2)) (n + 256)) (rowBox_emb h c t)).symm
      exact topOut_online ((readAt_row arg6 f6 h c t).trans (H.top _ _)) (half_step hS h c t)
    · obtain ⟨p, hp, hy⟩ := mem_rowBox h q
      exact ⟨_, List.mem_map_of_mem hp, hy⟩
  · refine View.read_writes_apply_of_pieces arg7.view g7 (fun y : S8x1x256.Idx => Online.mass (s (y 0) (y 2)) (n + 256)) _ ?_ _ ?_
    · intro p hp x
      obtain ⟨⟨h, c⟩, -, rfl⟩ := List.mem_map.mp hp
      obtain ⟨t, rfl⟩ := exists_row x
      refine Eq.trans ?_ (congrArg (fun y : S8x1x256.Idx => Online.mass (s (y 0) (y 2)) (n + 256)) (rowBox_emb h c t)).symm
      exact massOut_online (hs h (col c t)) ((readAt_row arg6 f6 h c t).trans (H.top _ _))
        ((readAt_row arg7 f7 h c t).trans (H.mass _ _)) (half_step hS h c t)
    · obtain ⟨p, hp, hy⟩ := mem_rowBox h q
      exact ⟨_, List.mem_map_of_mem hp, hy⟩
  · refine View.read_writes_apply_of_pieces arg8.view g8
      (fun y : S8x64x256.Idx => Online.acc (s (y 0) (y 2)) (v (y 0) (y 1)) (n + 256)) _ ?_ _ ?_
    · intro p hp x
      obtain ⟨⟨h, c⟩, -, rfl⟩ := List.mem_map.mp hp
      obtain ⟨e, t, rfl⟩ := exists_rows x
      refine Eq.trans ?_
        (congrArg (fun y : S8x64x256.Idx => Online.acc (s (y 0) (y 2)) (v (y 0) (y 1)) (n + 256)) (accBox_emb h c e t)).symm
      exact accOut_online (hs h (col c t)) ((readAt_row arg6 f6 h c t).trans (H.top _ _))
        ((readAt_rows arg8 f8 h c e t).trans (H.acc _ _ _)) (half_step hS h c t)
        (fun k => (headRows_apply V h e k).trans (hV h e k))
    · obtain ⟨p, hp, hy⟩ := mem_accBox h d q
      exact ⟨_, List.mem_map_of_mem hp, hy⟩

/-- What was written before a covering list of writes does not matter to what is read: two equal contents hold the same. -/
theorem Holds.congr {f6' : BufTy.Contents (Elt Ideal) arg6.view.ty} {f7' : BufTy.Contents (Elt Ideal) arg7.view.ty}
    {f8' : BufTy.Contents (Elt Ideal) arg8.view.ty} {n' : ℕ} (H : Holds arg6 arg7 arg8 f6 f7 f8 s v n) (e6 : f6' = f6)
    (e7 : f7' = f7) (e8 : f8' = f8) (en : n' = n) : Holds arg6 arg7 arg8 f6' f7' f8' s v n' := by
  subst e6 e7 e8 en; exact H

end Cert.KernelIdeal.Attn
-- ==== Proof.Rows.lean ====
/-
  What one block of the grid reads: the scores of its 256 queries against the keys and the values, as functions of the
  key's position, and where the loop's trips and the diagonal steps find them.
-/
module

public import proofs.«01_k».proof.Proof.Diag
public import proofs.«01_k».proof.Proof.StepValue

@[expose] public section

set_option maxRecDepth 16384

noncomputable section

namespace Cert.KernelIdeal.Attn

open Idealize.ShloMosaic Idealize.ShloMosaic.TcCoe Cert.KernelIdeal.Gen
open Idealize.ShloMosaic.ValueIdx (ix1 ix2 ix3)
open scoped BigOperators

/-- Coordinate `d` of head `h` among the 1024 columns of the keys and rows of the queries. -/
def lane (h : Fin 8) (d : Fin 128) : Fin 1024 := ⟨128 * h.val + d.val, by omega⟩

/-- The score of a query against the key at position `n`: their product. -/
def logit (x0 : Vec Ideal S1024x256 .bf16) (x1 : Vec Ideal S2048x1024 .bf16) (h : Fin 8) (q : Fin 256) (n : Fin 2048) : EReal :=
  ∑ d : Fin 128, x1 (ix2 n (lane h d)) * x0 (ix2 (lane h d) q)

/-- The score as the softmax takes it: a query of block `I` at row `q` sees the keys of its own and of earlier chunks of
    64 positions; the others count as `⊥`. -/
def rowScore (x0 : Vec Ideal S1024x256 .bf16) (x1 : Vec Ideal S2048x1024 .bf16) (I : ℕ) (h : Fin 8) (q : Fin 256) (n : ℕ) : EReal :=
  if hn : n < 2048 then if n / 64 ≤ (256 * I + q.val) / 64 then logit x0 x1 h q ⟨n, hn⟩ else ⊥ else ⊥

/-- Entry `d` of head `h`'s value at position `n`. -/
def rowValue (x2 : Vec Ideal S8x512x256 .bf16) (h : Fin 8) (d : Fin 64) (n : ℕ) : EReal :=
  if hn : n < 2048 then x2 (ix3 ⟨n / 256, by omega⟩ (vrow h d) ⟨n % 256, by omega⟩) else 0

/-! ### The offsets -/

theorem trips_eq (i : grid0.Coords) : (k0_t1_loop i).trips = (i 1).val := by
  have h : ∀ j : Fin 8, Scf.trips (0#32) (Scalar.addi 0#32 (Scalar.muli (Scalar.divsi (Scalar.subi (BitVec.ofNat 32 j.val) 0#32) 1#32) 1#32)) 1#32 = j.val := by
    decide
  exact h (i 1)

theorem trips_rest (i : grid0.Coords) : (k0_t2_loop i).trips = 0 := by
  have h : ∀ j : Fin 8, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0 := by
    decide
  exact h (i 1)

theorem trip_lt (i : grid0.Coords) (k : Fin (k0_t1_loop i).trips) : k.val < (i 1).val := trips_eq i ▸ k.isLt

theorem block_lt (i : grid0.Coords) : (i 1).val < 8 := (i 1).isLt

theorem iv_mul (k : Fin 8) : (Scalar.indexCast (Scalar.muli (Scf.iv 0#32 1#32 k.val) 256#32) : Index).toNat = 256 * k.val := by
  revert k; decide

theorem iv_val (k : Fin 8) : (Scalar.indexCast (Scf.iv 0#32 1#32 k.val) : Index).toNat = k.val := by
  revert k; decide

theorem ofNat_mul (k : Fin 8) : (Scalar.indexCast (Scalar.muli (BitVec.ofNat 32 k.val) 256#32) : Index).toNat = 256 * k.val := by
  revert k; decide

theorem ofNat_val (k : Fin 8) : (Scalar.indexCast (BitVec.ofNat 32 k.val) : Index).toNat = k.val := by
  revert k; decide

theorem keyOff_eq (i : grid0.Coords) (k : Fin (k0_t1_loop i).trips) (h : Fin 8) :
    keyOff i k h = ![256 * k.val, 128 * h.val] := by
  have e := iv_mul ⟨k.val, (trip_lt i k).trans (block_lt i)⟩
  fin_cases h <;> exact congrArg (fun t => (![t, _] : Fin 2 → ℕ)) e

theorem k0_off1_eq (i : grid0.Coords) (k : Fin (k0_t1_loop i).trips) : k0_off1 i k = ![k.val, 0, 0] :=
  congrArg (fun t => (![t, 0, 0] : Fin 3 → ℕ)) (iv_val ⟨k.val, (trip_lt i k).trans (block_lt i)⟩)

theorem diagOff_eq (i : grid0.Coords) (h : Fin 8) : diagOff i h = ![256 * (i 1).val, 128 * h.val] := by
  have e := ofNat_mul (i 1)
  fin_cases h <;> exact congrArg (fun t => (![t, _] : Fin 2 → ℕ)) e

theorem k0_off19_eq (i : grid0.Coords) : k0_off19 i = ![(i 1).val, 0, 0] :=
  congrArg (fun t => (![t, 0, 0] : Fin 3 → ℕ)) (ofNat_val (i 1))

/-! ### The reads -/

variable (arg2 : Memref sig .tc .vmem S1024x256 .bf16) (harg2 : arg2.IsWhole) (arg3 : Memref sig .tc .vmem S2048x1024 .bf16)
  (harg3 : arg3.IsWhole) (arg4 : Memref sig .tc .vmem S8x512x256 .bf16) (harg4 : arg4.IsWhole)
  (x0 : Vec Ideal S1024x256 .bf16) (x1 : Vec Ideal S2048x1024 .bf16) (x2 : Vec Ideal S8x512x256 .bf16)

theorem query_read (h : Fin 8) (d : Fin 128) (q : Fin 256) :
    arg2.view.readAt (Elt Ideal) (queryBox h).toLoadRect (harg2.unread x0) (ix2 d q : S128x256.Idx) = x0 (ix2 (lane h d) q) := by
  refine (congrArg (fun f => f ((queryBox h).emb (ix2 d q : S128x256.Idx))) (harg2.read_unread x0)).trans (congrArg x0 ?_)
  exact Rect.emb_eq_of_coords _ _ _ fun a => by
    fin_cases a
    · simp [queryBox, ix2, lane]
    · simp [queryBox, ix2]

theorem key_read (off : Fin 2 → ℕ) (inb : ∀ a, off a + S256x128.size a ≤ S2048x1024.size a) (h : Fin 8) (k : Fin 256)
    (d : Fin 128) (n : Fin 2048) (b : ℕ) (e : off = ![b, 128 * h.val]) (hn : n.val = b + k.val) :
    arg3.view.readAt (Elt Ideal) (Rect.unit (s := S2048x1024) off S256x128.size inb).toLoadRect (harg3.unread x1) (ix2 k d : S256x128.Idx)
      = x1 (ix2 n (lane h d)) := by
  subst e
  refine (congrArg (fun f => f ((Rect.unit (s := S2048x1024) _ S256x128.size inb).emb (ix2 k d : S256x128.Idx))) (harg3.read_unread x1)).trans
    (congrArg x1 ?_)
  exact Rect.emb_eq_of_coords _ _ _ fun a => by
    fin_cases a
    · simp [ix2, hn]
    · simp [ix2, lane]

theorem value_read (off : Fin 3 → ℕ) (inb : ∀ a, off a + S1x512x256.size a ≤ S8x512x256.size a) (r : Fin 512) (k : Fin 256)
    (b : Fin 8) (e : off = ![b.val, 0, 0]) :
    shapeCast S512x256 (arg4.view.readAt (Elt Ideal) (Rect.unit (s := S8x512x256) off S1x512x256.size inb).toLoadRect (harg4.unread x2))
        shapeCasts_S1x512x256_S512x256 (ix2 r k) = x2 (ix3 b r k) := by
  subst e
  have e : arg4.view.readAt (Elt Ideal) (Rect.unit (s := S8x512x256) ![b.val, 0, 0] S1x512x256.size inb).toLoadRect (harg4.unread x2)
      (ix3 0 r k : S1x512x256.Idx) = x2 ((Rect.unit (s := S8x512x256) ![b.val, 0, 0] S1x512x256.size inb).emb (ix3 0 r k : S1x512x256.Idx)) :=
    congrArg (fun f => f ((Rect.unit (s := S8x512x256) ![b.val, 0, 0] S1x512x256.size inb).emb (ix3 0 r k : S1x512x256.Idx))) (harg4.read_unread x2)
  refine (shapeCast_dropUnit_apply ![512, 256] _ shapeCasts_S1x512x256_S512x256 (ix2 r k)).trans
    (Eq.trans (congrArg _ (funext fun a => by fin_cases a <;> rfl)) (e.trans (congrArg x2 ?_)))
  exact Rect.emb_eq_of_coords _ _ _ fun a => by
    fin_cases a
    · simp [ix3]
    · simp [ix3]
    · simp [ix3]

theorem score_logit {K : Vec Ideal S256x128 .bf16} {Q : Vec Ideal S128x256 .bf16} {h : Fin 8} {k q : Fin 256} {n : Fin 2048}
    (hK : ∀ d, K (ix2 k d) = x1 (ix2 n (lane h d))) (hQ : ∀ d, Q (ix2 d q) = x0 (ix2 (lane h d) q)) :
    score K Q (ix2 k q) = logit x0 x1 h q n := by
  rw [score_apply, logit]
  simp only [hK, hQ]

/-- A trip's scores are the queries' scores against the block's keys. -/
theorem tripScore_apply (i : grid0.Coords) (t : Fin (k0_t1_loop i).trips) (h : Fin 8) (k q : Fin 256) :
    tripScore i arg2 arg3 (harg2.unread x0) (harg3.unread x1) t h (ix2 k q) = rowScore x0 x1 (i 1).val h q (256 * t.val + k.val) := by
  have ht := trip_lt i t
  have hi := block_lt i
  rw [rowScore, dif_pos (by omega), if_pos (by omega)]
  exact score_logit x0 x1 (fun d => key_read arg3 harg3 x1 _ _ h k d ⟨256 * t.val + k.val, by omega⟩ _ (keyOff_eq i t h) rfl)
    (fun d => query_read arg2 harg2 x0 h d q)

/-- A trip's values are those of the block's positions. -/
theorem tripValues_apply (i : grid0.Coords) (t : Fin (k0_t1_loop i).trips) (h : Fin 8) (d : Fin 64) (k : Fin 256) :
    tripValues i arg4 (harg4.unread x2) t (ix2 (vrow h d) k) = rowValue x2 h d (256 * t.val + k.val) := by
  have ht := trip_lt i t
  have hi := block_lt i
  rw [tripValues, value_read arg4 harg4 x2 _ _ _ _ ⟨t.val, by omega⟩ (k0_off1_eq i t), rowValue, dif_pos (by omega)]
  congr 2
  · exact Fin.ext (by simp only; omega)
  · exact Fin.ext (by simp only; omega)

theorem shift_word (k : Fin 256) : IntOp.shrui .vector (BitVec.ofNat 32 k.val) 6#32 = BitVec.ofNat 32 (k.val / 64) := by
  revert k; decide

theorem le_word (a b : Fin 4) : IntOp.cmpi .sle (BitVec.ofNat 32 a.val) (BitVec.ofNat 32 b.val) = 1#1 ↔ a.val ≤ b.val := by
  revert a b; decide

theorem seen_iff (k q : Fin 256) : seen (ix2 k q) = 1#1 ↔ k.val / 64 ≤ q.val / 64 := by
  have e : seen (ix2 k q) = IntOp.cmpi .sle (BitVec.ofNat 32 (k.val / 64)) (BitVec.ofNat 32 (q.val / 64)) := by
    rw [← shift_word, ← shift_word]
    exact congrArg₂ (fun a b => IntOp.cmpi .sle (IntOp.shrui .vector a 6#32) (IntOp.shrui .vector b 6#32))
      (iota_single_apply .tc S256x256 32 0 iota_S256x256_d0_w32 (ix2 k q))
      (iota_single_apply .tc S256x256 32 1 iota_S256x256_d1_w32 (ix2 k q))
  rw [e]
  exact le_word ⟨k.val / 64, by omega⟩ ⟨q.val / 64, by omega⟩

/-- The diagonal block's scores, masked. -/
theorem diagScore_apply (i : grid0.Coords) (h : Fin 8) (k q : Fin 256) :
    diagScore i arg2 arg3 (harg2.unread x0) (harg3.unread x1) h (ix2 k q)
      = rowScore x0 x1 (i 1).val h q (256 * (i 1).val + k.val) := by
  have hi := block_lt i
  have e := score_logit x0 x1 (h := h) (k := k) (q := q)
    (fun d => key_read arg3 harg3 x1 _ (diagOff_inb i h) h k d ⟨256 * (i 1).val + k.val, by omega⟩ _ (diagOff_eq i h) rfl)
    (fun d => query_read arg2 harg2 x0 h d q)
  rw [rowScore, dif_pos (by omega)]
  by_cases hs : k.val / 64 ≤ q.val / 64
  · rw [if_pos (by omega)]
    exact (if_pos ((seen_iff k q).mpr hs)).trans e
  · rw [if_neg (by omega)]
    exact if_neg (mt (seen_iff k q).mp hs)

/-- The diagonal block's values. -/
theorem diagValues_apply (i : grid0.Coords) (h : Fin 8) (d : Fin 64) (k : Fin 256) :
    diagValues i arg4 (harg4.unread x2) (ix2 (vrow h d) k) = rowValue x2 h d (256 * (i 1).val + k.val) := by
  have hi := block_lt i
  rw [diagValues, value_read arg4 harg4 x2 _ _ _ _ (i 1) (k0_off19_eq i), rowValue, dif_pos (by omega)]
  congr 2
  · exact Fin.ext (by simp only; omega)
  · exact Fin.ext (by simp only; omega)

end Cert.KernelIdeal.Attn
-- ==== Proof.LoopValue.lean ====
/-
  What the three buffers hold after the loop, and after the diagonal block: the running softmax of the block's queries
  over all the keys up to the end of the diagonal block.
-/
module

public import proofs.«01_k».proof.Proof.Buffers
public import proofs.«01_k».proof.Proof.Rows

@[expose] public section

set_option maxRecDepth 16384

noncomputable section

namespace Cert.KernelIdeal.Attn

open Idealize.ShloMosaic Idealize.ShloMosaic.TcCoe Cert.KernelIdeal.Gen
open Idealize.ShloMosaic.ValueIdx (ix1 ix2 ix3)

/-- The buffers a list of writes leaves hold the running softmax after `n` keys. -/
def State.HoldsAt (arg6 arg7 : Memref sig .tc .vmem S8x1x256 .f32) (arg8 : Memref sig .tc .vmem S8x64x256 .f32) (S : State Ideal)
    (s : Fin 8 → Fin 256 → ℕ → EReal) (v : Fin 8 → Fin 64 → ℕ → EReal) (n : ℕ) : Prop :=
  Holds arg6 arg7 arg8 (arg6.view.writes (Elt Ideal) arg6.view.junk S.top) (arg7.view.writes (Elt Ideal) arg7.view.junk S.mass)
    (arg8.view.writes (Elt Ideal) arg8.view.junk S.acc) s v n

variable {arg6 arg7 : Memref sig .tc .vmem S8x1x256 .f32} {arg8 : Memref sig .tc .vmem S8x64x256 .f32}
  {s : Fin 8 → Fin 256 → ℕ → EReal} {v : Fin 8 → Fin 64 → ℕ → EReal}

/-- One write of a constant to the whole buffer. -/
theorem read_fill {sh : Shape} (arg : Memref sig .tc .vmem sh .f32) (off : Fin sh.rank → ℕ) (inb) (hoff : off = fun _ => 0)
    (p : (Rect.unit (s := sh) off sh.size inb).shape.Idx → Elt Ideal .f32) (x : Elt Ideal .f32) (hp : ∀ y, p y = x) (y : sh.Idx) :
    arg.view.read (Elt Ideal) (arg.view.writes (Elt Ideal) arg.view.junk [⟨Rect.unit (s := sh) off sh.size inb, p⟩]) y = x :=
  View.read_writes_apply_of_pieces (Val := Elt Ideal) arg.view arg.view.junk (fun _ => x) [⟨Rect.unit (s := sh) off sh.size inb, p⟩]
    (fun q hq z => by
      have e : q = ⟨Rect.unit (s := sh) off sh.size inb, p⟩ := List.mem_singleton.mp hq
      subst e
      exact hp z) y ⟨_, List.mem_singleton_self _, by
        rw [Rect.mem_set_unit]; intro a; subst hoff; simp⟩

theorem firstTop_apply (y : S8x1x256.Idx) : k0_pay300 (F := Ideal) y = ⊥ := by
  unfold k0_pay300; rfl

theorem firstMass_apply (y : S8x1x256.Idx) : k0_pay301 (F := Ideal) y = 0 := by
  unfold k0_pay301; exact Ideal.ofBits_zero_f32

theorem firstAcc_apply (y : S8x64x256.Idx) : k0_pay302 (F := Ideal) y = 0 := by
  unfold k0_pay302; exact Ideal.ofBits_zero_f32

/-- At first they hold it after no key. -/
theorem fills_holds : (fills (F := Ideal)).HoldsAt arg6 arg7 arg8 s v 0 := by
  refine ⟨fun h q => ?_, fun h q => ?_, fun h d q => ?_⟩
  · rw [Online.top_zero]
    exact read_fill arg6 ![0, 0, 0] _ (by funext a; fin_cases a <;> rfl) _ ⊥ firstTop_apply _
  · rw [Online.mass_zero]
    exact read_fill arg7 ![0, 0, 0] _ (by funext a; fin_cases a <;> rfl) _ 0 firstMass_apply _
  · rw [Online.acc_zero]
    exact read_fill arg8 ![0, 0, 0] _ (by funext a; fin_cases a <;> rfl) _ 0 firstAcc_apply _

/-! ### The diagonal's sixteen steps read what the loop left -/

theorem row_apart (p p' : Fin 8 × Fin 2) (hp : p' ≠ p) (x : S1x1x128.Idx) : (rowBox p.1 p.2).emb x ∉ (rowBox p'.1 p'.2).set := by
  obtain ⟨t, rfl⟩ := exists_row x
  rw [rowBox_emb, rowBox, Rect.mem_set_unit]
  intro H
  apply hp
  have h0 := H 0
  have h2 := H 2
  simp [ix3, col] at h0 h2
  exact Prod.ext (Fin.ext (by omega)) (Fin.ext (by omega))

theorem rows_apart (p p' : Fin 8 × Fin 2) (hp : p' ≠ p) (x : S1x64x128.Idx) : (accBox p.1 p.2).emb x ∉ (accBox p'.1 p'.2).set := by
  obtain ⟨d, t, rfl⟩ := exists_rows x
  rw [accBox_emb, accBox, Rect.mem_set_unit]
  intro H
  apply hp
  have h0 := H 0
  have h2 := H 2
  simp [ix3, col] at h0 h2
  exact Prod.ext (Fin.ext (by omega)) (Fin.ext (by omega))

theorem order_nodup : order.Nodup := by decide

/-- Writes to other half-rows do not change what a half-row reads. -/
theorem readCov_row (arg : Memref sig .tc .vmem S8x1x256 .f32) (g : Fin 8 × Fin 2 → Vec Ideal S1x1x128 .f32)
    (L : List (View.Piece (Elt Ideal) S8x1x256 .f32)) (p : Fin 8 × Fin 2) :
    ∀ l : List (Fin 8 × Fin 2), p ∉ l → arg.view.readCov ((l.map fun p => ⟨rowBox p.1 p.2, g p⟩) ++ L) (rowBox p.1 p.2).toLoadRect
      = arg.view.readCov L (rowBox p.1 p.2).toLoadRect
  | [], _ => rfl
  | p' :: l, h => by
    rw [← readCov_row arg g L p l fun hm => h (List.mem_cons_of_mem _ hm)]
    exact funext fun x => View.read_writes_cons_miss arg.view _ _ _ _
      (row_apart p p' (fun e => h (e ▸ List.mem_cons_self)) x)

theorem readCov_rows (arg : Memref sig .tc .vmem S8x64x256 .f32) (g : Fin 8 × Fin 2 → Vec Ideal S1x64x128 .f32)
    (L : List (View.Piece (Elt Ideal) S8x64x256 .f32)) (p : Fin 8 × Fin 2) :
    ∀ l : List (Fin 8 × Fin 2), p ∉ l → arg.view.readCov ((l.map fun p => ⟨accBox p.1 p.2, g p⟩) ++ L) (accBox p.1 p.2).toLoadRect
      = arg.view.readCov L (accBox p.1 p.2).toLoadRect
  | [], _ => rfl
  | p' :: l, h => by
    rw [← readCov_rows arg g L p l fun hm => h (List.mem_cons_of_mem _ hm)]
    exact funext fun x => View.read_writes_cons_miss arg.view _ _ _ _
      (rows_apart p p' (fun e => h (e ▸ List.mem_cons_self)) x)

variable (arg6 arg7 arg8)

theorem diag_fold (S : Fin 8 → FVec Ideal S256x256 .f32) (V : FVec Ideal S512x256 .bf16) (st : State Ideal) :
    ∀ l : List (Fin 8 × Fin 2), l.Nodup → l.foldr (diagStep arg6 arg7 arg8 S V) st =
      ⟨(l.map fun p => ⟨rowBox p.1 p.2, topOut (half (S p.1) p.2) (arg6.view.readCov st.top (rowBox p.1 p.2).toLoadRect)⟩) ++ st.top,
       (l.map fun p => ⟨rowBox p.1 p.2, massOut (half (S p.1) p.2) (arg6.view.readCov st.top (rowBox p.1 p.2).toLoadRect)
          (arg7.view.readCov st.mass (rowBox p.1 p.2).toLoadRect)⟩) ++ st.mass,
       (l.map fun p => ⟨accBox p.1 p.2, accOut (half (S p.1) p.2) (headRows V p.1)
          (arg6.view.readCov st.top (rowBox p.1 p.2).toLoadRect)
          (arg8.view.readCov st.acc (accBox p.1 p.2).toLoadRect)⟩) ++ st.acc⟩
  | [], _ => rfl
  | p :: l, h => by
    obtain ⟨hp, hl⟩ := List.nodup_cons.mp h
    rw [List.foldr_cons, diag_fold S V st l hl, diagStep]
    dsimp only
    have e6 := readCov_row arg6 (fun p => topOut (half (S p.1) p.2) (arg6.view.readCov st.top (rowBox p.1 p.2).toLoadRect)) st.top p l hp
    have e7 := readCov_row arg7 (fun p => massOut (half (S p.1) p.2) (arg6.view.readCov st.top (rowBox p.1 p.2).toLoadRect)
          (arg7.view.readCov st.mass (rowBox p.1 p.2).toLoadRect)) st.mass p l hp
    have e8 := readCov_rows arg8 (fun p => accOut (half (S p.1) p.2) (headRows V p.1)
          (arg6.view.readCov st.top (rowBox p.1 p.2).toLoadRect)
          (arg8.view.readCov st.acc (accBox p.1 p.2).toLoadRect)) st.acc p l hp
    rw [e6, e7, e8]
    rfl

variable {arg6 arg7 arg8}

/-- The diagonal's steps add 256 keys. -/
theorem diag_holds {S : Fin 8 → FVec Ideal S256x256 .f32} {V : FVec Ideal S512x256 .bf16} {st : State Ideal} {n : ℕ}
    (H : st.HoldsAt arg6 arg7 arg8 s v n) (hS : ∀ h k q, S h (ix2 k q) = s h q (n + k.val))
    (hV : ∀ h d k, V (ix2 (vrow h d) k) = v h d (n + k.val)) (hs : ∀ h q k, k < n + 256 → s h q k ≠ ⊤) :
    (diagRun arg6 arg7 arg8 S V st).HoldsAt arg6 arg7 arg8 s v (n + 256) := by
  rw [diagRun, diag_fold arg6 arg7 arg8 S V st order order_nodup]
  refine (H.step hS hV hs (arg6.view.writes (Elt Ideal) arg6.view.junk st.top) (arg7.view.writes (Elt Ideal) arg7.view.junk st.mass)
    (arg8.view.writes (Elt Ideal) arg8.view.junk st.acc)).congr ?_ ?_ ?_ rfl
  · exact View.writes_append _ _ _ _
  · exact View.writes_append _ _ _ _
  · exact View.writes_append _ _ _ _

/-! ### The loop -/

variable (c : Dev nD) (i : grid0.Coords) (arg2 : Memref sig .tc .vmem S1024x256 .bf16)
  (harg2 : arg2.IsWhole) (arg3 : Memref sig .tc .vmem S2048x1024 .bf16) (harg3 : arg3.IsWhole)
  (arg4 : Memref sig .tc .vmem S8x512x256 .bf16) (harg4 : arg4.IsWhole) (arg5 : Memref sig .tc .vmem S256x512 .bf16)
  (harg5 : arg5.IsWhole) (harg6 : arg6.IsWhole) (harg7 : arg7.IsWhole) (harg8 : arg8.IsWhole)
  (x0 : Vec Ideal S1024x256 .bf16) (x1 : Vec Ideal S2048x1024 .bf16) (x2 : Vec Ideal S8x512x256 .bf16)
  {G6 : BufTy.Contents (Elt Ideal) arg6.view.ty} {G7 : BufTy.Contents (Elt Ideal) arg7.view.ty}
  {G8 : BufTy.Contents (Elt Ideal) arg8.view.ty}

/-- After `j` trips the buffers hold the running softmax after `256 j` keys. -/
theorem trips_holds (H : Holds arg6 arg7 arg8 G6 G7 G8 (rowScore x0 x1 (i 1).val) (rowValue x2) 0)
    (hs : ∀ h q k, rowScore x0 x1 (i 1).val h q k ≠ ⊤) :
    ∀ j : ℕ, j ≤ (k0_t1_loop i).trips →
      let p := pb_k0_t1 (F := Ideal) Variants.none c none i arg2 harg2 arg3 harg3 arg4 harg4 arg5 harg5 arg6 harg6 arg7 harg7 arg8 harg8 (harg2.unread x0) (harg3.unread x1) (harg4.unread x2) G6 G7 G8 j
      Holds arg6 arg7 arg8 (arg6.view.writes (Elt Ideal) G6 p.1) (arg7.view.writes (Elt Ideal) G7 p.2.1)
        (arg8.view.writes (Elt Ideal) G8 p.2.2) (rowScore x0 x1 (i 1).val) (rowValue x2) (256 * j)
  | 0, _ => by
    rw [pb_k0_t1.eq_1]
    exact H
  | j + 1, hj => by
    have ih := trips_holds H hs j (by omega)
    rw [pb_k0_t1_succ Variants.none c none i arg2 harg2 arg3 harg3 arg4 harg4 arg5 harg5 arg6 harg6 arg7 harg7 arg8 harg8 _ _ _ G6 G7 G8 ⟨j, by omega⟩]
    dsimp only [tripL_k0_t1] at ih ⊢
    rw [trip_top, trip_mass, trip_acc]
    refine (ih.step (tripScore_apply arg2 harg2 arg3 harg3 x0 x1 i ⟨j, by omega⟩) (tripValues_apply arg4 harg4 x2 i ⟨j, by omega⟩)
      (fun h q k _ => hs h q k) _ _ _).congr (View.writes_append _ _ _ _) (View.writes_append _ _ _ _) (View.writes_append _ _ _ _) (by omega)

/-- After the loop they hold it after the keys before the diagonal block. -/
theorem looped_holds (hs : ∀ h q k, rowScore x0 x1 (i 1).val h q k ≠ ⊤) :
    (looped c i arg2 harg2 arg3 harg3 arg4 harg4 arg5 harg5 arg6 harg6 arg7 harg7 arg8 harg8 x0 x1 x2).HoldsAt arg6 arg7 arg8
      (rowScore x0 x1 (i 1).val) (rowValue x2) (256 * (i 1).val) := by
  have H := trips_holds c i arg2 harg2 arg3 harg3 arg4 harg4 arg5 harg5 harg6 harg7 harg8 x0 x1 x2 fills_holds hs
    (k0_t1_loop i).trips (le_refl _)
  exact H.congr (View.writes_append _ _ _ _) (View.writes_append _ _ _ _) (View.writes_append _ _ _ _) (by rw [trips_eq])

/-- The remainder loop makes no trip. -/
theorem looped'_eq : looped' (F := Ideal) c i arg2 harg2 arg3 harg3 arg4 harg4 arg5 harg5 arg6 harg6 arg7 harg7 arg8 harg8 x0 x1 x2
    = looped c i arg2 harg2 arg3 harg3 arg4 harg4 arg5 harg5 arg6 harg6 arg7 harg7 arg8 harg8 x0 x1 x2 := by
  have e : Scf.trips (k0_t2_loop i).lb (k0_t2_loop i).ub (k0_t2_loop i).st = 0 := trips_rest i
  rw [looped', e]
  rfl

/-- After the diagonal block they hold it after the keys up to its end. -/
theorem run_holds (hs : ∀ h q k, rowScore x0 x1 (i 1).val h q k ≠ ⊤) :
    (diagRun arg6 arg7 arg8 (diagScore i arg2 arg3 (harg2.unread x0) (harg3.unread x1)) (diagValues i arg4 (harg4.unread x2))
      (looped' c i arg2 harg2 arg3 harg3 arg4 harg4 arg5 harg5 arg6 harg6 arg7 harg7 arg8 harg8 x0 x1 x2)).HoldsAt arg6 arg7 arg8
      (rowScore x0 x1 (i 1).val) (rowValue x2) (256 * (i 1).val + 256) := by
  rw [looped'_eq]
  exact diag_holds (looped_holds c i arg2 harg2 arg3 harg3 arg4 harg4 arg5 harg5 harg6 harg7 harg8 x0 x1 x2 hs)
    (diagScore_apply arg2 harg2 arg3 harg3 x0 x1 i) (diagValues_apply arg4 harg4 x2 i) (fun h q k _ => hs h q k)

end Cert.KernelIdeal.Attn
-- ==== Proof.OutValue.lean ====
/-
  What one block of the grid writes: for each of its 256 queries and each head, the weighted sum of the values over the
  sum of the weights.
-/
module

public import proofs.«01_k».proof.Proof.LoopValue

@[expose] public section

set_option maxRecDepth 16384

noncomputable section

namespace Cert.KernelIdeal.Attn

open Idealize.ShloMosaic Idealize.ShloMosaic.TcCoe Cert.KernelIdeal.Gen
open Idealize.ShloMosaic.ValueIdx (ix1 ix2 ix3)

/-! ### The layout of a pair of heads -/

theorem headOut_apply (a : Vec Ideal S1x64x256 .f32) (l : Vec Ideal S1x1x256 .f32) (d : Fin 64) (q : Fin 256) :
    headOut a l (ix2 d q) = Ideal.div (a (ix3 0 d q)) (l (ix3 0 0 q)) := by
  have ea : shapeCast S64x256 a shapeCasts_S1x64x256_S64x256 (ix2 d q) = a (ix3 0 d q) :=
    (shapeCast_dropUnit_apply ![64, 256] a shapeCasts_S1x64x256_S64x256 (ix2 d q)).trans
      (congrArg a (funext fun a => by fin_cases a <;> rfl))
  have el : shapeCast S1x256 l shapeCasts_S1x1x256_S1x256 (ix2 0 q) = l (ix3 0 0 q) :=
    (shapeCast_dropUnit_apply ![1, 256] l shapeCasts_S1x1x256_S1x256 (ix2 0 q)).trans
      (congrArg l (funext fun a => by fin_cases a <;> rfl))
  change Ideal.div (shapeCast S64x256 a _ (ix2 d q)) (broadcastTo S64x256 _ _ (ix2 d q)) = _
  rw [broadcastTo_apply _ broadcasts_S1x256_S64x256 (ix2 d q) (ix2 0 q) (by intro a; fin_cases a <;> rfl), ea, el]

/-- Column `64 e + d` of a pair's 128. -/
def pairCol (e : Fin 2) (d : Fin 64) : Fin 128 := ⟨64 * e.val + d.val, by omega⟩

theorem exists_pairCol (x : Fin 128) : ∃ e d, pairCol e d = x :=
  ⟨⟨x.val / 64, by omega⟩, ⟨x.val % 64, by omega⟩, Fin.ext (by simp only [pairCol]; omega)⟩

theorem pairOut_apply (f : Fin 2 → FVec Ideal S64x256 .f32) (e : Fin 2) (d : Fin 64) (q : Fin 256) :
    pairOut (f 0) (f 1) (ix2 q (pairCol e d)) = f e (ix2 d q) := by
  refine (transpose_apply (s := S128x256) (t := S256x128) [1, 0]
    (concatenate S128x256 0 [⟨S64x256, f 0⟩, ⟨S64x256, f 1⟩] concatenates_S64x256_S64x256_S128x256_d0)
    transposes_S128x256_p1_0_S256x128 (ix2 q (pairCol e d)) (ix2 (pairCol e d) q)
    (by intro b; fin_cases b <;> rfl)).trans ?_
  match e with
  | 0 =>
    exact concatenate_pair_apply_left (t := S128x256) 0 (f 0) (f 1) _ (ix2 (pairCol 0 d) q) rfl (ix2 d q)
      (by intro b; fin_cases b <;> simp [ix2, pairCol])
  | 1 =>
    exact concatenate_pair_apply_right (t := S128x256) 0 (f 0) (f 1) _ (ix2 (pairCol 1 d) q) rfl rfl (ix2 d q)
      (by intro b hb; fin_cases b <;> simp [ix2, pairCol] at hb ⊢) (by simp [ix2, pairCol]; omega)

theorem pairBox_emb (j : Fin 4) (q : Fin 256) (e : Fin 2) (d : Fin 64) :
    (pairBox j).emb (ix2 q (pairCol e d) : S256x128.Idx) = ix2 q (vrow (headOf j e) d) :=
  Rect.emb_eq_of_coords _ _ _ fun a => by
    fin_cases a
    · simp [pairBox, ix2]
    · simp [pairBox, ix2, vrow, headOf, pairCol]; omega

theorem exists_pair (x : S256x128.Idx) : ∃ q e d, x = ix2 q (pairCol e d) := by
  obtain ⟨e, d, h⟩ := exists_pairCol (x 1)
  exact ⟨x 0, e, d, by rw [h]; exact ValueIdx.eq_ix2 x⟩

theorem exists_headOf (h : Fin 8) : ∃ j e, headOf j e = h :=
  ⟨⟨h.val / 2, by omega⟩, ⟨h.val % 2, by omega⟩, Fin.ext (by simp only [headOf]; omega)⟩

theorem exists_vrow (x : Fin 512) : ∃ h d, vrow h d = x :=
  ⟨⟨x.val / 64, by omega⟩, ⟨x.val % 64, by omega⟩, Fin.ext (by simp only [vrow]; omega)⟩

/-! ### The rows the quotient reads -/

theorem read_massRow (arg : Memref sig .tc .vmem S8x1x256 .f32) (L : List (View.Piece (Elt Ideal) S8x1x256 .f32)) (h : Fin 8)
    (q : Fin 256) :
    arg.view.readCov L (massRow h).toLoadRect (ix3 0 0 q : S1x1x256.Idx)
      = arg.view.read (Elt Ideal) (arg.view.writes (Elt Ideal) arg.view.junk L) (ix3 h 0 q) :=
  congrArg (arg.view.read (Elt Ideal) (arg.view.writes (Elt Ideal) arg.view.junk L))
    (Rect.emb_eq_of_coords (massRow h) (ix3 0 0 q : S1x1x256.Idx) _ fun a => by fin_cases a <;> simp [massRow, ix3])

theorem read_accRow (arg : Memref sig .tc .vmem S8x64x256 .f32) (L : List (View.Piece (Elt Ideal) S8x64x256 .f32)) (h : Fin 8)
    (d : Fin 64) (q : Fin 256) :
    arg.view.readCov L (accRow h).toLoadRect (ix3 0 d q : S1x64x256.Idx)
      = arg.view.read (Elt Ideal) (arg.view.writes (Elt Ideal) arg.view.junk L) (ix3 h d q) :=
  congrArg (arg.view.read (Elt Ideal) (arg.view.writes (Elt Ideal) arg.view.junk L))
    (Rect.emb_eq_of_coords (accRow h) (ix3 0 d q : S1x64x256.Idx) _ fun a => by fin_cases a <;> simp [accRow, ix3])

variable {arg6 arg7 : Memref sig .tc .vmem S8x1x256 .f32} {arg8 : Memref sig .tc .vmem S8x64x256 .f32}
  {s : Fin 8 → Fin 256 → ℕ → EReal} {v : Fin 8 → Fin 64 → ℕ → EReal} {n : ℕ}

/-- The result of a query: head `h`, entry `d`. -/
def outValue (s : Fin 8 → Fin 256 → ℕ → EReal) (v : Fin 8 → Fin 64 → ℕ → EReal) (n : ℕ) (q : Fin 256) (h : Fin 8) (d : Fin 64) : EReal :=
  Ideal.div (Online.acc (s h q) (v h d) n) (Online.mass (s h q) n)

/-- A pair's write holds the quotients. -/
theorem outPiece_apply {st : State Ideal} (H : st.HoldsAt arg6 arg7 arg8 s v n) (j : Fin 4) (q : Fin 256) (e : Fin 2) (d : Fin 64) :
    (outPiece arg7 arg8 st j).2 (ix2 q (pairCol e d) : S256x128.Idx) = outValue s v n q (headOf j e) d := by
  refine (pairOut_apply (fun e => headOut (arg8.view.readCov st.acc (accRow (headOf j e)).toLoadRect)
    (arg7.view.readCov st.mass (massRow (headOf j e)).toLoadRect)) e d q).trans ?_
  refine (headOut_apply _ _ d q).trans ?_
  exact congrArg₂ Ideal.div ((read_accRow arg8 st.acc (headOf j e) d q).trans (H.acc _ _ _))
    ((read_massRow arg7 st.mass (headOf j e) q).trans (H.mass _ _))

/-- The results of the block, by row and column. -/
def outArray (s : Fin 8 → Fin 256 → ℕ → EReal) (v : Fin 8 → Fin 64 → ℕ → EReal) (n : ℕ) : Vec Ideal S256x512 .bf16 := fun y =>
  outValue s v n (y 0) ⟨(y 1).val / 64, by have : (y 1).val < 512 := (y 1).isLt; omega⟩ ⟨(y 1).val % 64, by omega⟩

theorem outArray_apply (q : Fin 256) (h : Fin 8) (d : Fin 64) : outArray s v n (ix2 q (vrow h d)) = outValue s v n q h d := by
  have e1 : (⟨(64 * h.val + d.val) / 64, by omega⟩ : Fin 8) = h := Fin.ext (by simp only; omega)
  have e2 : (⟨(64 * h.val + d.val) % 64, by omega⟩ : Fin 64) = d := Fin.ext (by simp only; omega)
  exact congrArg₂ (outValue s v n q) e1 e2

/-- The four writes together. -/
theorem outPieces_apply {st : State Ideal} (H : st.HoldsAt arg6 arg7 arg8 s v n) {sp : Space}
    (w : View sig .tc sp S256x512 .bf16) (f : w.ty.Contents (Elt Ideal)) (q : Fin 256) (h : Fin 8) (d : Fin 64) :
    w.read (Elt Ideal) (w.writes (Elt Ideal) f ([3, 2, 1, 0].map (outPiece arg7 arg8 st))) (ix2 q (vrow h d))
      = outValue s v n q h d := by
  refine (View.read_writes_apply_of_pieces w f (outArray s v n) _ ?_ _ ?_).trans (outArray_apply q h d)
  · intro p hp x
    obtain ⟨j, -, rfl⟩ := List.mem_map.mp hp
    obtain ⟨q, e, d, rfl⟩ := exists_pair x
    refine (outPiece_apply H j q e d).trans ((outArray_apply q (headOf j e) d).symm.trans ?_)
    exact congrArg (outArray s v n) (pairBox_emb j q e d).symm
  · obtain ⟨j, e, rfl⟩ := exists_headOf h
    refine ⟨outPiece arg7 arg8 st j, List.mem_map_of_mem (by fin_cases j <;> simp), ?_⟩
    rw [← pairBox_emb]
    exact (pairBox j).map_emb_univ ▸ Finset.mem_map_of_mem _ (Finset.mem_univ _)

variable (c : Dev nD) (i : grid0.Coords) (arg2 : Memref sig .tc .vmem S1024x256 .bf16)
  (harg2 : arg2.IsWhole) (arg3 : Memref sig .tc .vmem S2048x1024 .bf16) (harg3 : arg3.IsWhole)
  (arg4 : Memref sig .tc .vmem S8x512x256 .bf16) (harg4 : arg4.IsWhole) (arg5 : Memref sig .tc .vmem S256x512 .bf16)
  (harg5 : arg5.IsWhole) (harg6 : arg6.IsWhole) (harg7 : arg7.IsWhole) (harg8 : arg8.IsWhole)
  (x0 : Vec Ideal S1024x256 .bf16) (x1 : Vec Ideal S2048x1024 .bf16) (x2 : Vec Ideal S8x512x256 .bf16)

/-- What the body leaves in the result's buffer. -/
theorem out_apply (hs : ∀ h q k, rowScore x0 x1 (i 1).val h q k ≠ ⊤) (q : Fin 256) (h : Fin 8) (d : Fin 64) :
    out0_A_3 (F := Ideal) c i arg2 harg2 arg3 harg3 arg4 harg4 arg5 harg5 arg6 harg6 arg7 harg7 arg8 harg8 x0 x1 x2 (ix2 q (vrow h d))
      = outValue (rowScore x0 x1 (i 1).val) (rowValue x2) 2048 q h d := by
  have hi := block_lt i
  have H := run_holds c i arg2 harg2 arg3 harg3 arg4 harg4 arg5 harg5 harg6 harg7 harg8 x0 x1 x2 hs
  rw [out0_A_3, run_out]
  refine (outPieces_apply H _ _ q h d).trans ?_
  have ht : ∀ k, 256 * (i 1).val + 256 ≤ k → k < (256 * (i 1).val + 256) + (2048 - (256 * (i 1).val + 256)) →
      rowScore x0 x1 (i 1).val h q k = ⊥ := fun k h1 h2 => by
    rw [rowScore, dif_pos (by omega), if_neg (by omega)]
  have e : 2048 = (256 * (i 1).val + 256) + (2048 - (256 * (i 1).val + 256)) := by omega
  rw [outValue, outValue]
  conv_rhs => rw [e, Online.acc_tail _ ht, Online.mass_tail ht]

end Cert.KernelIdeal.Attn
-- ==== Proof.Spec.lean ====
/-
  The latent attention as mathematics, on arrays of extended reals: the score of each token against the keys of its
  batch row, the values, and the result of a token.  No program is mentioned here.
-/
module

public import proofs.«01_k».proof.Proof.Online

@[expose] public section

noncomputable section

namespace Cert.Spec

open Idealize.ShloMosaic
open scoped BigOperators

/-- Coordinate `d` of head `h` among the 1024 coordinates of queries and keys. -/
def lane (h : Fin 8) (d : Fin 128) : Fin 1024 := ⟨128 * h.val + d.val, by omega⟩

/-- Entry `d` of head `h` among the 512 of the values and the result. -/
def vrow (h : Fin 8) (d : Fin 64) : Fin 512 := ⟨64 * h.val + d.val, by omega⟩

variable (Q : Fin 1024 → Fin 16384 → EReal) (K : Fin 16384 → Fin 1024 → EReal) (V : Fin 64 → Fin 512 → Fin 256 → EReal)

/-- The token at position `n` of the batch row of token `r`. -/
def token (r : Fin 16384) (n : Fin 2048) : Fin 16384 := ⟨2048 * (r.val / 2048) + n.val, by omega⟩

/-- The product of token `r`'s query with the key at position `n` of its batch row. -/
def dot (r : Fin 16384) (h : Fin 8) (n : Fin 2048) : EReal := ∑ d : Fin 128, K (token r n) (lane h d) * Q (lane h d) r

/-- A token sees the keys of its own and of earlier chunks of 64 positions; the others count as `⊥`. -/
def score (r : Fin 16384) (h : Fin 8) (n : ℕ) : EReal :=
  if hn : n < 2048 then if n / 64 ≤ (r.val % 2048) / 64 then dot Q K r h ⟨n, hn⟩ else ⊥ else ⊥

/-- Entry `d` of head `h`'s value at position `n` of token `r`'s batch row. -/
def value (r : Fin 16384) (h : Fin 8) (d : Fin 64) (n : ℕ) : EReal :=
  if hn : n < 2048 then V ⟨8 * (r.val / 2048) + n / 256, by omega⟩ (vrow h d) ⟨n % 256, by omega⟩ else 0

/-- The result of token `r`: the weighted sum of the values over the sum of the weights. -/
def result (r : Fin 16384) (h : Fin 8) (d : Fin 64) : EReal :=
  Ideal.div (Online.acc (score Q K r h) (value V r h d) 2048) (Online.mass (score Q K r h) 2048)

end Cert.Spec
-- ==== Proof.KernelValue.lean ====
/-
  What the whole grid writes: the array of results at every token, head and entry.
-/
module

public import proofs.«01_k».proof.Proof.OutValue
public import proofs.«01_k».proof.Proof.Spec
public import proofs.«01_k».proof.Proof.Gen.KernelIdeal.Value

@[expose] public section

set_option maxRecDepth 16384

noncomputable section

namespace Cert.KernelIdeal.Attn

open Idealize.ShloMosaic Idealize.ShloMosaic.TcCoe Cert.KernelIdeal.Gen Idealize.SL.Sem
open Idealize.ShloMosaic.ValueIdx (ix1 ix2 ix3)

variable (m : (ℓ : Loc nD τ sig) → Buf (Elt Ideal) ℓ) (ρ : Dev nD → PrngReg) (c : Dev nD)

/-- The three arguments, by coordinates. -/
def argQ (a : Fin 1024) (r : Fin 16384) : EReal := (m ((c : Thread nD τ).loc main_arg0) : Vec Ideal S1024x16384 .bf16) (ix2 a r)
def argK (r : Fin 16384) (a : Fin 1024) : EReal := (m ((c : Thread nD τ).loc main_arg1) : Vec Ideal S16384x1024 .bf16) (ix2 r a)
def argV (b : Fin 64) (a : Fin 512) (n : Fin 256) : EReal := (m ((c : Thread nD τ).loc main_arg2) : Vec Ideal S64x512x256 .bf16) (ix3 b a n)

/-- The array of results. -/
def resultArray : Vec Ideal S16384x512 .bf16 := fun y =>
  Spec.result (argQ m c) (argK m c) (argV m c) (y 0) ⟨(y 1).val / 64, by have : (y 1).val < 512 := (y 1).isLt; omega⟩
    ⟨(y 1).val % 64, by omega⟩

/-! ### The grid -/

theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

theorem t_lt (t : Fin cfg0.N) : t.val < 64 := lt_of_lt_of_eq t.isLt N_0

theorem index0 : ∀ t : Fin cfg0.N, win0_0.index t 0 = 0 ∧ win0_0.index t 1 = t.val :=
  (by decide +kernel : ∀ t : Fin grid0.N, win0_0.index t 0 = 0 ∧ win0_0.index t 1 = t.val)

theorem index1 : ∀ t : Fin cfg0.N, win0_1.index t 0 = t.val / 8 ∧ win0_1.index t 1 = 0 :=
  (by decide +kernel : ∀ t : Fin grid0.N, win0_1.index t 0 = t.val / 8 ∧ win0_1.index t 1 = 0)

theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

theorem index3 : ∀ t : Fin cfg0.N, win0_3.index t 0 = t.val ∧ win0_3.index t 1 = 0 :=
  (by decide +kernel : ∀ t : Fin grid0.N, win0_3.index t 0 = t.val ∧ win0_3.index t 1 = 0)

/-- Row `q` of point `t`'s block. -/
def row (t : Fin cfg0.N) (q : Fin 256) : Fin 16384 := ⟨256 * t.val + q.val, by have := t_lt t; omega⟩

theorem iblk0_apply (t : Fin cfg0.N) (a : Fin 1024) (q : Fin 256) :
    (iblk m c 0 t : Vec Ideal S1024x256 .bf16) (ix2 a q) = argQ m c a (row t q) := by
  unfold iblk
  rw [View.read_apply]
  show V m c main_arg0 _ = m (c.tc.loc main_arg0) _
  unfold V
  congr 1
  funext x
  apply Fin.ext
  match x with
  | ⟨0, _⟩ => show win0_0.index t 0 * 1024 + 1 * a.val = a.val; rw [(index0 t).1]; omega
  | ⟨1, _⟩ => show win0_0.index t 1 * 256 + 1 * q.val = 256 * t.val + q.val; rw [(index0 t).2]; omega

theorem iblk1_apply (t : Fin cfg0.N) (n : Fin 2048) (a : Fin 1024) :
    (iblk m c 1 t : Vec Ideal S2048x1024 .bf16) (ix2 n a)
      = argK m c ⟨2048 * (t.val / 8) + n.val, by have := t_lt t; omega⟩ a := by
  unfold iblk
  rw [View.read_apply]
  show V m c main_arg1 _ = m (c.tc.loc main_arg1) _
  unfold V
  congr 1
  funext x
  apply Fin.ext
  match x with
  | ⟨0, _⟩ => show win0_1.index t 0 * 2048 + 1 * n.val = 2048 * (t.val / 8) + n.val; rw [(index1 t).1]; omega
  | ⟨1, _⟩ => show win0_1.index t 1 * 1024 + 1 * a.val = a.val; rw [(index1 t).2]; omega

theorem iblk2_apply (t : Fin cfg0.N) (b : Fin 8) (a : Fin 512) (n : Fin 256) :
    (iblk m c 2 t : Vec Ideal S8x512x256 .bf16) (ix3 b a n)
      = argV m c ⟨8 * (t.val / 8) + b.val, by have := t_lt t; omega⟩ a n := by
  unfold iblk
  rw [View.read_apply]
  show V m c main_arg2 _ = m (c.tc.loc main_arg2) _
  unfold V
  congr 1
  funext x
  apply Fin.ext
  match x with
  | ⟨0, _⟩ => show win0_2.index t 0 * 8 + 1 * b.val = 8 * (t.val / 8) + b.val; rw [(index2 t).1]; omega
  | ⟨1, _⟩ => show win0_2.index t 1 * 512 + 1 * a.val = a.val; rw [(index2 t).2.1]; omega
  | ⟨2, _⟩ => show win0_2.index t 2 * 256 + 1 * n.val = n.val; rw [(index2 t).2.2]; omega

/-- The block's scores and values are the array's. -/
theorem rowScore_eq (t : Fin cfg0.N) (h : Fin 8) (q : Fin 256) (n : ℕ) :
    rowScore (iblk m c 0 t) (iblk m c 1 t) ((grid0.coords t) 1).val h q n = Spec.score (argQ m c) (argK m c) (row t q) h n := by
  have ht := t_lt t
  rw [rowScore, Spec.score, (coords_val t).2]
  by_cases hn : n < 2048
  · rw [dif_pos hn, dif_pos hn]
    have e : (row t q).val % 2048 = 256 * (t.val % 8) + q.val := by simp only [row]; omega
    rw [e]
    congr 1
    rw [logit, Spec.dot]
    refine Finset.sum_congr rfl fun d _ => ?_
    refine congrArg₂ (· * ·) ((iblk1_apply m c t ⟨n, hn⟩ (lane h d)).trans ?_) (iblk0_apply m c t (lane h d) q)
    have e2 : (⟨2048 * (t.val / 8) + n, by omega⟩ : Fin 16384) = Spec.token (row t q) ⟨n, hn⟩ :=
      Fin.ext (by simp only [Spec.token, row]; omega)
    exact congrArg (fun r => argK m c r (lane h d)) e2
  · rw [dif_neg hn, dif_neg hn]

theorem rowValue_eq (t : Fin cfg0.N) (h : Fin 8) (d : Fin 64) (q : Fin 256) (n : ℕ) :
    rowValue (iblk m c 2 t) h d n = Spec.value (argV m c) (row t q) h d n := by
  have ht := t_lt t
  rw [rowValue, Spec.value]
  by_cases hn : n < 2048
  · rw [dif_pos hn, dif_pos hn]
    refine (iblk2_apply m c t _ (vrow h d) _).trans ?_
    have e2 : (⟨8 * (t.val / 8) + n / 256, by omega⟩ : Fin 64) = ⟨8 * ((row t q).val / 2048) + n / 256, by omega⟩ :=
      Fin.ext (by simp only [row]; omega)
    exact congrArg (fun r => argV m c r (vrow h d) _) e2
  · rw [dif_neg hn, dif_neg hn]

variable (hs : ∀ r h n, Spec.score (argQ m c) (argK m c) r h n ≠ ⊤)

include hs in
/-- What a point writes back is its block of the array of results. -/
theorem flushed_eq (t : Fin cfg0.N) (_hf : (cfg0.win 3).flush t = true) :
    (dats m 0 c).flushed 3 t = ((cfg0.win 3).blk t).view.read (Elt Ideal) (resultArray m c) := by
  have ht := t_lt t
  rw [Value.flushed3_A]
  refine funext fun j => ?_
  obtain ⟨q, x, rfl⟩ : ∃ (q : Fin 256) (x : Fin 512), j = (ix2 q x : S256x512.Idx) := ⟨j 0, j 1, ValueIdx.eq_ix2 (j : S256x512.Idx)⟩
  obtain ⟨h, d, rfl⟩ := exists_vrow x
  refine (out_apply c (grid0.coords t) _ _ _ _ _ _ _ _ _ _ _ (iblk m c 0 t) (iblk m c 1 t) (iblk m c 2 t)
    (fun h q k => by rw [rowScore_eq]; exact hs _ _ _) q h d).trans ?_
  have e1 : rowScore (iblk m c 0 t) (iblk m c 1 t) ((grid0.coords t) 1).val h q = Spec.score (argQ m c) (argK m c) (row t q) h :=
    funext fun n => rowScore_eq m c t h q n
  have e2 : rowValue (iblk m c 2 t) h d = Spec.value (argV m c) (row t q) h d := funext fun n => rowValue_eq m c t h d q n
  rw [outValue, e1, e2]
  have e3 : ((cfg0.win 3).blk t).view.emb (ix2 q (vrow h d) : S256x512.Idx) = (ix2 (row t q) (vrow h d) : S16384x512.Idx) := by
    funext x
    apply Fin.ext
    match x with
    | ⟨0, _⟩ => show win0_3.index t 0 * 256 + 1 * q.val = 256 * t.val + q.val; rw [(index3 t).1]; omega
    | ⟨1, _⟩ => show win0_3.index t 1 * 512 + 1 * (64 * h.val + d.val) = 64 * h.val + d.val; rw [(index3 t).2]; omega
  have f1 : (⟨(64 * h.val + d.val) / 64, by omega⟩ : Fin 8) = h := Fin.ext (by simp only; omega)
  have f2 : (⟨(64 * h.val + d.val) % 64, by omega⟩ : Fin 64) = d := Fin.ext (by simp only; omega)
  have e4 : resultArray m c (ix2 (row t q) (vrow h d)) = Spec.result (argQ m c) (argK m c) (argV m c) (row t q) h d :=
    congrArg₂ (Spec.result (argQ m c) (argK m c) (argV m c) (row t q)) f1 f2
  refine e4.symm.trans ?_
  exact congrArg (resultArray m c) e3.symm

include hs in
/-- The final array is the array of results. -/
theorem final_array : (dats m 0 c).arrAt 3 cfg0.N = resultArray m c :=
  (dats m 0 c).arrAt_eq_of_cover 3 (resultArray m c) (flushed_eq m c hs) fun i => by
    have hr : (i 0 : Nat) < 16384 := (i 0).isLt
    have hc : (i 1 : Nat) < 512 := (i 1).isLt
    have hN : cfg0.N = 64 := N_0
    let t : Fin cfg0.N := ⟨(i 0 : Nat) / 256, by omega⟩
    refine ⟨t, flush0_3 t, ?_⟩
    · show i ∈ ((View.whole main_v0).slice (win0_3.rect t)).set
      rw [View.set_slice_whole, Rect.mem_set_unit]
      intro a
      match a with
      | ⟨0, _⟩ =>
        show win0_3.index t 0 * 256 ≤ (i 0 : Nat) ∧ (i 0 : Nat) < win0_3.index t 0 * 256 + 256
        rw [(index3 t).1]; show (i 0 : Nat) / 256 * 256 ≤ (i 0 : Nat) ∧ (i 0 : Nat) < (i 0 : Nat) / 256 * 256 + 256; omega
      | ⟨1, _⟩ =>
        show win0_3.index t 1 * 512 ≤ (i 1 : Nat) ∧ (i 1 : Nat) < win0_3.index t 1 * 512 + 512
        rw [(index3 t).2]; omega

end Cert.KernelIdeal.Attn
-- ==== Proof.RefValue.lean ====
/-
  The reference at an index: each step of it, read at a batch row, a head, a token and a key, down to the arguments.
  The last theorem says that an element of its result is the attention of `Spec`, the softmax taken in one go.
-/
module

public import proofs.«01_k».proof.Proof.Spec
public import proofs.«01_k».proof.Proof.Gen.ReferenceIdeal.Read
public import Idealize.ShloMosaic.Lib.KernelVsHost

@[expose] public section

set_option maxRecDepth 16384

noncomputable section

namespace Cert.ReferenceIdeal.Attn

open Idealize.ShloMosaic Cert.ReferenceIdeal Cert.ReferenceIdeal.Gen Cert.ReferenceIdeal.Read
open Idealize.ShloMosaic.ValueIdx (ix1 ix2 ix3 ix4)
open scoped BigOperators

variable (x0 : Vec Ideal S1024x16384 .bf16) (x1 : Vec Ideal S16384x1024 .bf16) (x2 : Vec Ideal S64x512x256 .bf16)

/-- The three arguments, by coordinates. -/
def argQ (a : Fin 1024) (r : Fin 16384) : EReal := x0 (ix2 a r)
def argK (r : Fin 16384) (a : Fin 1024) : EReal := x1 (ix2 r a)
def argV (b : Fin 64) (a : Fin 512) (n : Fin 256) : EReal := x2 (ix3 b a n)

/-- Token `q` of batch row `b`. -/
def tok (b : Fin 8) (q : Fin 2048) : Fin 16384 := ⟨2048 * b.val + q.val, by omega⟩

/-- The factor that turns scores in units of `log 2` into natural ones. -/
def ln2 : EReal := ((Real.log 2 : ℝ) : EReal)

/-! ### The scores -/

theorem query_apply (b : Fin 8) (q : Fin 2048) (h : Fin 8) (d : Fin 128) :
    val_main_v1 (F := Ideal) x0 (ix4 b q h d) = argQ x0 (Spec.lane h d) (tok b q) := by
  rw [val_main_v1_apply, val_main_v0_apply]
  refine congrArg x0 (funext fun a => Fin.ext ?_)
  match a with
  | ⟨0, _⟩ =>
    show (((b.val * 2048 + q.val) * 8 + h.val) * 128 + d.val) % 1024 = 128 * h.val + d.val
    omega
  | ⟨1, _⟩ =>
    show (((b.val * 2048 + q.val) * 8 + h.val) * 128 + d.val) / 1024 = 2048 * b.val + q.val
    omega

theorem key_apply (b : Fin 8) (q : Fin 2048) (h : Fin 8) (d : Fin 128) :
    val_main_v2 (F := Ideal) x1 (ix4 b q h d) = argK x1 (tok b q) (Spec.lane h d) := by
  rw [val_main_v2_apply]
  refine congrArg x1 (funext fun a => Fin.ext ?_)
  match a with
  | ⟨0, _⟩ =>
    show (((b.val * 2048 + q.val) * 8 + h.val) * 128 + d.val) / 1024 = 2048 * b.val + q.val
    omega
  | ⟨1, _⟩ =>
    show (((b.val * 2048 + q.val) * 8 + h.val) * 128 + d.val) % 1024 = 128 * h.val + d.val
    omega

theorem token_tok (b : Fin 8) (q k : Fin 2048) : Spec.token (tok b q) k = tok b k :=
  Fin.ext (by simp only [Spec.token, tok]; omega)

/-- The products of queries and keys. -/
theorem dot_apply (b h : Fin 8) (q k : Fin 2048) :
    val_main_v6 (F := Ideal) x0 x1 (ix4 b h q k) = Spec.dot (argQ x0) (argK x1) (tok b q) h k := by
  rw [val_main_v6_apply, Spec.dot]
  refine Finset.sum_congr rfl fun d _ => ?_
  rw [token_tok, mul_comm (argK x1 _ _)]
  refine congrArg₂ (· * ·) (Eq.trans (congrArg _ ?_) (query_apply x0 b q h d)) (Eq.trans (congrArg _ ?_) (key_apply x1 b k h d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem log_two_word : Ideal.log (Ideal.ofBits .f32 0x40000000#32) = ln2 := by
  have e : Ideal.ofBits .f32 0x40000000#32 = ((2 : ℝ) : EReal) := by
    simp only [Ideal.ofBits, Ideal.ieee]
    simp
    rw [← EReal.coe_mul]
    norm_num
  rw [e, Ideal.log_coe, if_neg (by norm_num)]; rfl

theorem factor_apply (i : S8x8x2048x2048.Idx) : val_main_v10 (F := Ideal) i = ln2 := by
  rw [val_main_v10_apply, val_main_v9_apply, val_main_cst_apply]
  exact log_two_word

/-! ### The mask -/

/-- The word the program computes for the chunk of position `n`. -/
def chunkWord (n : ℕ) : BitVec 32 :=
  let q := IntOp.divsi .host (BitVec.ofNat 32 n) 64#32
  let sg : BitVec 32 → BitVec 32 := fun x => if x = 0 then 0 else if x.msb then -1 else 1
  Scalar.select (IntOp.andi (IntOp.cmpi .ne (sg (BitVec.ofNat 32 n)) (sg 64#32))
    (IntOp.cmpi .ne (IntOp.remsi .host (BitVec.ofNat 32 n) 64#32) 0#32)) (IntOp.subi q 1#32) q

theorem chunkWord_eq : ∀ n : Fin 2048, chunkWord n.val = BitVec.ofNat 32 (n.val / 64) := by decide +kernel

theorem chunk_apply (i : S2048.Idx) : val_main_v13 (F := Ideal) i = BitVec.ofNat 32 ((i 0).val / 64) := by
  refine Eq.trans ?_ (chunkWord_eq (i 0))
  rw [val_main_v13_apply, val_main_call0_v11_apply, val_main_call0_v13_apply, val_main_call0_v2_apply, val_main_call0_v6_apply,
    val_main_call0_v10_apply, val_main_call0_v8_apply, val_main_call0_v5_apply, val_main_call0_v1_apply, val_main_call0_v7_apply,
    val_main_call0_v9_apply, val_main_call0_v12_apply]
  rfl

theorem sle_chunk : ∀ a b : Fin 32, IntOp.cmpi .sle (BitVec.ofNat 32 a.val) (BitVec.ofNat 32 b.val) = if a.val ≤ b.val then 1#1 else 0#1 := by
  decide +kernel

theorem mask_apply (q k : Fin 2048) : val_main_v18 (F := Ideal) (ix2 q k) = if k.val / 64 ≤ q.val / 64 then 1#1 else 0#1 := by
  rw [val_main_v18_apply, val_main_v16_apply, val_main_v17_apply, val_main_v14_apply, val_main_v15_apply, chunk_apply, chunk_apply]
  exact sle_chunk ⟨k.val / 64, by omega⟩ ⟨q.val / 64, by omega⟩

theorem neg_inf_word : Ideal.ofBits .f32 0xFF800000#32 = ⊥ := by simp [Ideal.ofBits, Ideal.ieee]

theorem bot_mul_ln2 : (⊥ : EReal) * ln2 = ⊥ := EReal.bot_mul_coe_of_pos (Real.log_pos (by norm_num))

/-- The masked scores, in natural units. -/
theorem masked_apply (b h : Fin 8) (q k : Fin 2048) :
    val_main_v19 (F := Ideal) x0 x1 (ix4 b h q k) = Spec.score (argQ x0) (argK x1) (tok b q) h k.val * ln2 := by
  have e : (tok b q).val % 2048 = q.val := by simp only [tok]; omega
  have em : val_main_call1_v1 (F := Ideal) (ix4 b h q k) = if k.val / 64 ≤ q.val / 64 then 1#1 else 0#1 := by
    rw [val_main_call1_v1_apply]
    exact Eq.trans (congrArg _ (funext fun a => by match a with | ⟨0, _⟩ => rfl | ⟨1, _⟩ => rfl)) (mask_apply q k)
  rw [val_main_v19_apply, em, Spec.score, dif_pos k.isLt, e]
  by_cases hm : k.val / 64 ≤ q.val / 64
  · rw [if_pos hm, if_pos hm]
    show val_main_v11 (F := Ideal) x0 x1 (ix4 b h q k) = _
    rw [val_main_v11_apply, val_main_v8_apply, val_main_v7_apply, factor_apply]
    exact congrArg (· * ln2) (dot_apply x0 x1 b h q k)
  · rw [if_neg hm, if_neg hm, bot_mul_ln2]
    show val_main_call1_v2 (F := Ideal) (ix4 b h q k) = _
    rw [val_main_call1_v2_apply, val_main_call1_v0_apply, val_main_cst_0_apply]
    exact neg_inf_word

/-! ### The softmax -/

/-- The scores of a token in natural units, and the largest. -/
def nat (b h : Fin 8) (q k : Fin 2048) : EReal := Spec.score (argQ x0) (argK x1) (tok b q) h k.val * ln2
def largest (b h : Fin 8) (q : Fin 2048) : EReal := Finset.univ.sup fun k : Fin 2048 => nat x0 x1 b h q k

/-- The maximum the program takes over the keys, of any array. -/
theorem fold_max (y : FVec Ideal S8x8x2048x2048 .f32) (hr : S8x8x2048x2048.Reduces [3] S8x8x2048) (j : S8x8x2048.Idx) :
    Host.reduce FloatOps.maximumf y (constant S_ .f32 0xFF800000#32) reducesTo_S8x8x2048x2048_S8x8x2048_d3 h_S_ j
      = (Finset.univ : Finset (Fin 2048)).sup fun k => y (hr.lift j k) := by
  have hφ : FKind.Formats .f32 := by decide
  have hacc : 0xFF800000#32 = FKind.maximumf.neutral .f32 hφ := rfl
  rw [hostReduce_maximumf_eq_multiReduction y 0xFF800000#32 reducesTo_S8x8x2048x2048_S8x8x2048_d3 h_S_ hr hφ hacc,
    Ideal.multiReduction_maximumf_single y 0xFF800000#32 hr hφ hacc j]
  have eb : FloatOps.ofBits (F := Ideal) .f32 0xFF800000#32 = (⊥ : EReal) := neg_inf_word
  rw [eb]
  rfl

theorem max_apply (b h : Fin 8) (q : Fin 2048) : val_main_v20 (F := Ideal) x0 x1 (ix3 b h q) = largest x0 x1 b h q := by
  have hr : S8x8x2048x2048.Reduces [3] S8x8x2048 := by decide +kernel
  have e : (val_main_v19 (F := Ideal) x0 x1) ∘ hr.lift (ix3 b h q) = nat x0 x1 b h q := funext fun k => by
    refine Eq.trans (congrArg (val_main_v19 (F := Ideal) x0 x1) (funext fun a => Fin.ext ?_)) (masked_apply x0 x1 b h q k)
    match a with | ⟨0, _⟩ => rfl | ⟨1, _⟩ => rfl | ⟨2, _⟩ => rfl | ⟨3, _⟩ => rfl
  unfold val_main_v20
  exact (fold_max _ hr _).trans (congrArg (Finset.univ : Finset (Fin 2048)).sup e)

theorem shift_apply (b h : Fin 8) (q k : Fin 2048) : val_main_v24 (F := Ideal) x0 x1 (ix4 b h q k) = largest x0 x1 b h q := by
  rw [val_main_v24_apply, val_main_v23_apply, val_main_v22_apply, val_main_v21_apply, val_main_cst_2_apply]
  have eb : FloatOps.ofBits (F := Ideal) .f32 0xFF800000#32 = (⊥ : EReal) := neg_inf_word
  rw [eb]
  refine Eq.trans (congrArg (fun z : EReal => max ⊥ z) (Eq.trans (congrArg _ (funext fun a => ?_)) (max_apply x0 x1 b h q))) (max_eq_right bot_le)
  match a with | ⟨0, _⟩ => rfl | ⟨1, _⟩ => rfl | ⟨2, _⟩ => rfl

theorem weight_apply (b h : Fin 8) (q k : Fin 2048) :
    val_main_v26 (F := Ideal) x0 x1 (ix4 b h q k) = Ideal.exp (nat x0 x1 b h q k - largest x0 x1 b h q) := by
  rw [val_main_v26_apply, val_main_v25_apply, masked_apply, shift_apply]
  rfl

theorem total_apply (b h : Fin 8) (q : Fin 2048) :
    val_main_v27 (F := Ideal) x0 x1 (ix3 b h q) = ∑ k : Fin 2048, Ideal.exp (nat x0 x1 b h q k - largest x0 x1 b h q) := by
  rw [val_main_v27_apply, val_main_cst_3_apply]
  have ez : FloatOps.ofBits (F := Ideal) .f32 0x00000000#32 = (0 : EReal) := Ideal.ofBits_zero_f32
  rw [ez, zero_add]
  refine Finset.sum_congr rfl fun k _ => Eq.trans (congrArg _ (funext fun a => ?_)) (weight_apply x0 x1 b h q k)
  match a with | ⟨0, _⟩ => rfl | ⟨1, _⟩ => rfl | ⟨2, _⟩ => rfl | ⟨3, _⟩ => rfl

theorem soft_apply (b h : Fin 8) (q k : Fin 2048) :
    val_main_v31 (F := Ideal) x0 x1 (ix4 b h q k) = Ideal.div (Ideal.exp (nat x0 x1 b h q k - largest x0 x1 b h q))
      (∑ i : Fin 2048, Ideal.exp (nat x0 x1 b h q i - largest x0 x1 b h q)) := by
  rw [val_main_v31_apply, val_main_v30_apply, weight_apply, val_main_v29_apply, val_main_v28_apply]
  refine congrArg (Ideal.div _) (Eq.trans (congrArg _ (funext fun a => ?_)) (total_apply x0 x1 b h q))
  match a with | ⟨0, _⟩ => rfl | ⟨1, _⟩ => rfl | ⟨2, _⟩ => rfl

/-! ### The result -/

theorem value_apply (b : Fin 8) (q k : Fin 2048) (h : Fin 8) (d : Fin 64) :
    val_main_v5 (F := Ideal) x2 (ix4 b k h d) = Spec.value (argV x2) (tok b q) h d k.val := by
  rw [val_main_v5_apply, val_main_v4_apply, val_main_v3_apply, Spec.value, dif_pos k.isLt]
  have a0 : (((b.val * 2048 + k.val) * 8 + h.val) * 64 + d.val) / 1048576 = b.val := by omega
  have a1 : (((b.val * 2048 + k.val) * 8 + h.val) * 64 + d.val) / 131072 % 8 = k.val / 256 := by omega
  have a2 : (((b.val * 2048 + k.val) * 8 + h.val) * 64 + d.val) / 512 % 256 = k.val % 256 := by omega
  have a3 : (((b.val * 2048 + k.val) * 8 + h.val) * 64 + d.val) / 64 % 8 = h.val := by omega
  have a4 : (((b.val * 2048 + k.val) * 8 + h.val) * 64 + d.val) % 64 = d.val := by omega
  refine congrArg x2 (funext fun a => Fin.ext ?_)
  match a with
  | ⟨0, _⟩ =>
    show ((((((((b.val * 2048 + k.val) * 8 + h.val) * 64 + d.val) / 1048576) * 8
      + ((((b.val * 2048 + k.val) * 8 + h.val) * 64 + d.val) / 131072 % 8)) * 8
      + ((((b.val * 2048 + k.val) * 8 + h.val) * 64 + d.val) / 64 % 8)) * 64
      + ((((b.val * 2048 + k.val) * 8 + h.val) * 64 + d.val) % 64)) * 256
      + ((((b.val * 2048 + k.val) * 8 + h.val) * 64 + d.val) / 512 % 256)) / 131072 = 8 * ((2048 * b.val + q.val) / 2048) + k.val / 256
    rw [a0, a1, a2, a3, a4]; clear a0 a1 a2 a3 a4; omega
  | ⟨1, _⟩ =>
    show ((((((((b.val * 2048 + k.val) * 8 + h.val) * 64 + d.val) / 1048576) * 8
      + ((((b.val * 2048 + k.val) * 8 + h.val) * 64 + d.val) / 131072 % 8)) * 8
      + ((((b.val * 2048 + k.val) * 8 + h.val) * 64 + d.val) / 64 % 8)) * 64
      + ((((b.val * 2048 + k.val) * 8 + h.val) * 64 + d.val) % 64)) * 256
      + ((((b.val * 2048 + k.val) * 8 + h.val) * 64 + d.val) / 512 % 256)) / 256 % 512 = 64 * h.val + d.val
    rw [a0, a1, a2, a3, a4]; clear a0 a1 a2 a3 a4; omega
  | ⟨2, _⟩ =>
    show ((((((((b.val * 2048 + k.val) * 8 + h.val) * 64 + d.val) / 1048576) * 8
      + ((((b.val * 2048 + k.val) * 8 + h.val) * 64 + d.val) / 131072 % 8)) * 8
      + ((((b.val * 2048 + k.val) * 8 + h.val) * 64 + d.val) / 64 % 8)) * 64
      + ((((b.val * 2048 + k.val) * 8 + h.val) * 64 + d.val) % 64)) * 256
      + ((((b.val * 2048 + k.val) * 8 + h.val) * 64 + d.val) / 512 % 256)) % 256 = k.val % 256
    rw [a0, a1, a2, a3, a4]; clear a0 a1 a2 a3 a4; omega

/-- The softmax of a token's scores applied to its values. -/
def soft (b h : Fin 8) (q : Fin 2048) (d : Fin 64) : EReal :=
  ∑ k : Fin 2048, Spec.value (argV x2) (tok b q) h d k.val * Ideal.div (Ideal.exp (nat x0 x1 b h q k - largest x0 x1 b h q))
    (∑ i : Fin 2048, Ideal.exp (nat x0 x1 b h q i - largest x0 x1 b h q))

theorem combined_apply (b h : Fin 8) (d : Fin 64) (q : Fin 2048) :
    val_main_v32 (F := Ideal) x0 x1 x2 (ix4 b h d q) = soft x0 x1 x2 b h q d := by
  rw [val_main_v32_apply]
  refine Finset.sum_congr rfl fun k _ => congrArg₂ (· * ·)
    (Eq.trans (congrArg _ (funext fun a => ?_)) (value_apply x2 b q k h d)) (Eq.trans (congrArg _ (funext fun a => ?_)) (soft_apply x0 x1 b h q k))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

theorem result_apply (b h : Fin 8) (d : Fin 64) (q : Fin 2048) :
    val_main_v35 (F := Ideal) x0 x1 x2 (ix2 (tok b q) (Spec.vrow h d)) = soft x0 x1 x2 b h q d := by
  rw [val_main_v35_apply, val_main_v34_apply, val_main_v33_apply]
  refine Eq.trans (congrArg (val_main_v32 (F := Ideal) x0 x1 x2) (funext fun a => Fin.ext ?_)) (combined_apply x0 x1 x2 b h d q)
  match a with
  | ⟨0, _⟩ => show ((2048 * b.val + q.val) * 512 + (64 * h.val + d.val)) / 1048576 = b.val; omega
  | ⟨1, _⟩ => show ((2048 * b.val + q.val) * 512 + (64 * h.val + d.val)) / 64 % 8 = h.val; omega
  | ⟨2, _⟩ => show ((2048 * b.val + q.val) * 512 + (64 * h.val + d.val)) % 64 = d.val; omega
  | ⟨3, _⟩ => show ((2048 * b.val + q.val) * 512 + (64 * h.val + d.val)) / 512 % 2048 = q.val; omega

/-- An element of the reference's result is the attention of `Spec`, when no score is `+∞` and each token's score
    against its own key is not `-∞`. -/
theorem reference_eq (hs : ∀ r h n, Spec.score (argQ x0) (argK x1) r h n ≠ ⊤)
    (hd : ∀ (r : Fin 16384) (h : Fin 8), Spec.score (argQ x0) (argK x1) r h (r.val % 2048) ≠ ⊥) (b h : Fin 8) (d : Fin 64) (q : Fin 2048) :
    val_main_v35 (F := Ideal) x0 x1 x2 (ix2 (tok b q) (Spec.vrow h d)) = Spec.result (argQ x0) (argK x1) (argV x2) (tok b q) h d :=
  (result_apply x0 x1 x2 b h d q).trans (Online.quotient (s := Spec.score (argQ x0) (argK x1) (tok b q) h)
    (Spec.value (argV x2) (tok b q) h d) (n := 2048) (fun k _ => hs _ _ k) _ (Nat.mod_lt _ (by norm_num)) (hd (tok b q) h)).symm

end Cert.ReferenceIdeal.Attn
-- ==== Proof.Finite.lean ====
/-
  The precondition read at an index: every query and every key is a real number.  So every score is a real number or
  `⊥`, and a token's score against its own key, which it may see, is a real number.
-/
module

public import proofs.«01_k».proof.Pre_finite_scores
public import proofs.«01_k».proof.Proof.Spec
public import Idealize.ShloMosaic.Lib.Pipeline.Value
public import Idealize.ShloMosaic.Lib.ValueIdx

@[expose] public section

noncomputable section

namespace Cert.Finite

open Idealize.ShloMosaic Cert.Pre_finite_scores
open Idealize.ShloMosaic.ValueIdx (ix1 ix2 ix3)
open scoped BigOperators

/-- The side conditions of the precondition's operations. -/
theorem facts : Cert.Pre_finite_scores.Facts where
  bitsLt_bf16_f32 := by decide
  bcast_S_S1024x16384 := by decide
  bcast_S_S16384x1024 := by decide
  transposes_S16384x1024_S1024x16384_1_0 := by decide

attribute [local instance] facts

theorem inf_word : Ideal.ofBits .f32 0x7F800000#32 = ⊤ := by simp [Ideal.ofBits, Ideal.ieee]

/-- A number whose absolute value is below infinity is a real. -/
theorem real_of_abs {x : EReal} (h : Ideal.cmp .olt (max x (-x)) ⊤ = 1#1) : ∃ r : ℝ, x = r := by
  induction x using EReal.rec with
  | bot => simp [Ideal.cmp] at h
  | top => simp [Ideal.cmp] at h
  | coe r => exact ⟨r, rfl⟩

theorem and_one {a b : BitVec 1} (h : a &&& b = 1#1) : a = 1#1 ∧ b = 1#1 := by
  revert a b; decide

variable {x0 : Vec Ideal S1024x16384 .bf16} {x1 : Vec Ideal S16384x1024 .bf16} {x2 : Vec Ideal S64x512x256 .bf16}

theorem both (h : Cert.Pre_finite_scores.fn (F := Ideal) x0 x1 x2 = fun _ => 1#1) (a : Fin 1024) (r : Fin 16384) :
    (∃ y : ℝ, (x0 (ix2 a r) : EReal) = y) ∧ ∃ y : ℝ, (x1 (ix2 r a) : EReal) = y := by
  have h1 := and_one (congrFun h (ix2 a r))
  refine ⟨real_of_abs (Eq.trans ?_ h1.1), real_of_abs (Eq.trans ?_ h1.2)⟩
  · rw [← inf_word]; rfl
  · refine Eq.trans ?_ (transpose_apply [1, 0] _ Facts.transposes_S16384x1024_S1024x16384_1_0 (ix2 a r) (ix2 r a)
      (fun b => match b with | ⟨0, _⟩ => rfl | ⟨1, _⟩ => rfl)).symm
    rw [← inf_word]; rfl

/-- A sum of products of reals is a real. -/
theorem dot_real {Q : Fin 1024 → Fin 16384 → EReal} {K : Fin 16384 → Fin 1024 → EReal} (hq : ∀ a r, ∃ y : ℝ, Q a r = y)
    (hk : ∀ r a, ∃ y : ℝ, K r a = y) (r : Fin 16384) (h : Fin 8) (n : Fin 2048) : ∃ y : ℝ, Spec.dot Q K r h n = y := by
  unfold Spec.dot
  refine Finset.sum_induction _ (fun x : EReal => ∃ y : ℝ, x = y) ?_ ⟨0, rfl⟩ fun d _ => ?_
  · rintro _ _ ⟨y, rfl⟩ ⟨z, rfl⟩; exact ⟨y + z, (EReal.coe_add y z).symm⟩
  · obtain ⟨y, hy⟩ := hk (Spec.token r n) (Spec.lane h d)
    obtain ⟨z, hz⟩ := hq (Spec.lane h d) r
    exact ⟨y * z, by rw [hy, hz, EReal.coe_mul]⟩

/-- No score is `+∞`. -/
theorem score_ne_top {Q : Fin 1024 → Fin 16384 → EReal} {K : Fin 16384 → Fin 1024 → EReal} (hq : ∀ a r, ∃ y : ℝ, Q a r = y)
    (hk : ∀ r a, ∃ y : ℝ, K r a = y) (r : Fin 16384) (h : Fin 8) (n : ℕ) : Spec.score Q K r h n ≠ ⊤ := by
  unfold Spec.score
  split_ifs
  · obtain ⟨y, hy⟩ := dot_real hq hk r h ⟨n, by assumption⟩
    rw [hy]; exact EReal.coe_ne_top y
  · exact bot_ne_top
  · exact bot_ne_top

/-- A token's score against its own key is not `-∞`. -/
theorem own_ne_bot {Q : Fin 1024 → Fin 16384 → EReal} {K : Fin 16384 → Fin 1024 → EReal} (hq : ∀ a r, ∃ y : ℝ, Q a r = y)
    (hk : ∀ r a, ∃ y : ℝ, K r a = y) (r : Fin 16384) (h : Fin 8) : Spec.score Q K r h (r.val % 2048) ≠ ⊥ := by
  have hn : r.val % 2048 < 2048 := Nat.mod_lt _ (by norm_num)
  unfold Spec.score
  rw [dif_pos hn, if_pos le_rfl]
  obtain ⟨y, hy⟩ := dot_real hq hk r h ⟨_, hn⟩
  rw [hy]; exact EReal.coe_ne_bot y

end Cert.Finite
-- ==== Proof.Experts.Setup.lean ====
/-
  The experts' call as a launch: its two tables (the tile's expert, the number of used tiles), its windows' blocks read
  off the arrays the launch finds, the staging and scratch buffers, and how the frame claim follows from a run. The
  statements follow those written for a launch with prefetched tables; nothing here is particular to what the body
  computes.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.VecWindow
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Before the launch -/

/-- A core's buffers when the launch begins: those the program was given. -/
abbrev V (c : Dev nD) (b : Ref sig .tc) : Buf (Elt F) ((c : Thread nD τ).loc b) := m ((c : Thread nD τ).loc b)

set_option maxHeartbeats 800000 in
/-- The program up to the launch does nothing else. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- What the two tables hold. -/
def tbl : pre0.Contents (Elt F) := fun j => V m (0 : Dev nD) (pre0.ref j)
/-- They hold it on every device, there being one. -/
theorem V_pre (c : Dev nD) (j : Fin 2) : V m c (pre0.ref j) = tbl m j := by
  obtain rfl : c = 0 := Subsingleton.elim _ _; rfl
/-- Every block of weights that the first table names lies inside its array. `Blocks` derives it from the range of the
    experts. -/
abbrev Ok : Prop := ok0 (F := F) (tbl m)
/-- The tables' contents with that condition, and the pipeline they give. -/
abbrev adm (hO : Ok m) : (pcfg0 (F := F)).Adm := ⟨tbl m, hO⟩
abbrev cfgM (hO : Ok m) : Pipeline.Cfg sig Λ₀ := cfg0 (adm m hO)

/-- The tables as the body is handed them. -/
abbrev tbM0_0 : Memref sig .tc .smem S80 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- The contents of a table's buffer, and half a share of the buffer, enough to read it; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The shares of the tables that the launch hands the body, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- At every point window 0's buffer holds its block, copied at this point or an earlier one, whenever the body leaves it there, -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and so does window 1's, -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- window 2's, -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and window 3's. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- A run that ends as the pipeline's frame says leaves the arguments as they were: the inputs of windows because no
    window writes them back, the tables because no window touches them. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The buffers the body runs on -/

/-- The result's block is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The windows' buffers at point `t`. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)
/-- The three scratch buffers, for the rounded weights. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2
/-- What the launch hands the body beside windows and tables: the scratch buffers at any contents, and the register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The body as it is called at point `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.Kernel2Ideal.Experts

end
-- ==== Proof.Experts.Body.lean ====
/-
  One run of the experts' body. At a tile whose expert differs from the one before it (and at the first tile) the body
  rounds the expert's three weight matrices into three scratch buffers; then it multiplies the tile's rows by them, or
  writes zeros when the tile holds no rows. So when the scratch buffers already hold the rounded weights wherever they are
  not written, the body always leaves them at the rounded weights, and the tile's result is a function of its blocks alone.
-/
module

public import proofs.«01_k».proof.Proof.Experts.Setup

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the first table the body reads as its tile's expert, -/
abbrev expertWord (c : Dev nD) (i : grid0.Coords) (T : TbBuf0 (F := F) c tbM0_0) : BitVec 32 :=
  tbM0_0.view.readAt (Elt F) (Rect.unit (s := S80) (k0_off1 i) S1.size (k0_off1_inb i)).toLoadRect T (Shape.Idx.first (numel1_S1.symm ▸ Nat.one_pos))
/-- as the expert of the tile before it, -/
abbrev formerWord (c : Dev nD) (i : grid0.Coords) (T : TbBuf0 (F := F) c tbM0_0) : BitVec 32 :=
  tbM0_0.view.readAt (Elt F) (Rect.unit (s := S80) (k0_off2 i) S1.size (k0_off2_inb i)).toLoadRect T (Shape.Idx.first (numel1_S1.symm ▸ Nat.one_pos))
/-- and, of the second table, as the number of tiles that hold rows. -/
abbrev usedWord (c : Dev nD) (T : TbBuf0 (F := F) c tbM0_1) : BitVec 32 :=
  tbM0_1.view.readAt (Elt F) (Rect.unit (s := S1) ![0] S1.size inb_S1_S1_0).toLoadRect T (Shape.Idx.first (numel1_S1.symm ▸ Nat.one_pos))

/-- The body's first condition: the first tile, or a tile of another expert than the tile before. -/
abbrev isNew (i : grid0.Coords) (a b : BitVec 32) : Prop :=
  Scalar.cmpi .ne (Scalar.extui (Scalar.ori (Scalar.cmpi .eq (BitVec.ofNat 32 (i 0).val) 0#32) (Scalar.cmpi .ne a b))) 0#32 = 1#1

/-- The two conditions after it are complementary: the tile holds rows, or it does not. -/
theorem cond3_iff (i : grid0.Coords) (w : BitVec 32) : k0_cond3 i w = 1#1 ↔ ¬ k0_cond2 i w = 1#1 := by
  unfold k0_cond3 k0_cond2
  dsimp only
  generalize Scalar.cmpi .slt (BitVec.ofNat 32 (i 0).val) w = v
  revert v; decide

/-- A tile's result from its blocks: the experts' feed-forward of its rows, or zero when it holds none. -/
def tileOut (i : grid0.Coords) (n : BitVec 32) (x0 : Vec F S512x1024 .f32) (x1 x2 : Vec F S1x1024x512 .f32) (x3 : Vec F S1x512x1024 .f32) :
    Vec F S512x1024 .f32 :=
  if k0_cond2 i n = 1#1 then k0_pay4 x0 (k0_pay1 x1) (k0_pay2 x2) (k0_pay3 x3) else k0_pay5

set_option maxHeartbeats 4000000 in
/-- THE BODY, on whole buffers: from the inputs at their blocks, the tables, and scratch buffers that hold the rounded
    weights unless the body's first condition is about to write them, it leaves the inputs and the tables as they were, the
    scratch buffers at the rounded weights and the output at `tileOut`. -/
theorem run (c : Dev nD) (i : grid0.Coords) (arg3 : Memref sig .tc .vmem S512x1024 .f32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S512x1024 .f32) (harg7 : arg7.IsWhole)
    (arg8 : Memref sig .tc .vmem S1024x512 .bf16) (harg8 : arg8.IsWhole) (arg9 : Memref sig .tc .vmem S1024x512 .bf16) (harg9 : arg9.IsWhole)
    (arg10 : Memref sig .tc .vmem S512x1024 .bf16) (harg10 : arg10.IsWhole)
    (x0 : Vec F S512x1024 .f32) (x1 x2 : Vec F S1x1024x512 .f32) (x3 : Vec F S1x512x1024 .f32)
    (T0 : TbBuf0 (F := F) c tbM0_0) (T1 : TbBuf0 (F := F) c tbM0_1)
    (y0 y1 : Vec F S1024x512 .bf16) (y2 : Vec F S512x1024 .bf16)
    (hy : ¬ isNew i (expertWord c i T0) (formerWord c i T0) → y0 = k0_pay1 x1 ∧ y1 = k0_pay2 x2 ∧ y2 = k0_pay3 x3)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare y0 ∗ owns (c : Thread nD τ) arg9 fullShare y1 ∗ owns (c : Thread nD τ) arg10 fullShare y2
        ∗ tbPt0 c tbM0_0 T0 ∗ tbPt0 c tbM0_1 T1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (tileOut i (usedWord c T1) x0 x1 x2 x3)
            ∗ owns (c : Thread nD τ) arg8 fullShare (k0_pay1 x1) ∗ owns (c : Thread nD τ) arg9 fullShare (k0_pay2 x2)
            ∗ owns (c : Thread nD τ) arg10 fullShare (k0_pay3 x3)
            ∗ tbPt0 c tbM0_0 T0 ∗ tbPt0 c tbM0_1 T1) -∗ K ⟨⟩))
      ⊢ wp frame (wpE (defs₀ (F := F)) Variants.none c none) Set.univ
          (cc0_moe_experts i tbM0_0 htbM0_0 tbM0_1 htbM0_1 arg3 harg3 arg4 harg4 arg5 harg5 arg6 harg6 arg7 harg7 arg8 harg8 arg9 harg9 arg10 harg10) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, ⟨%g2, %hg2, HS2⟩, HT0, HT1, Hk⟩
  have hz : k0_cond3 i (usedWord c T1) = 1#1 ↔ ¬ k0_cond2 i (usedWord c T1) = 1#1 := cond3_iff i _
  by_cases hn : isNew i (expertWord c i T0) (formerWord c i T0) <;> by_cases hu : k0_cond2 i (usedWord c T1) = 1#1
  all_goals
    first
    | have hz := fun h => hz.mp h hu
      sl_exec (disch := first | sl_exact hn | sl_exact hu | sl_exact hz)
    | have hz := hz.mpr hu
      sl_exec (disch := first | sl_exact hn | sl_exact hu | sl_exact hz)
    sl_step
    iapply Hk
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]
    · iexists _; isplitr
      swap; · iexact H4
      ipureintro
      refine (View.read_writes_full _ _ _ _ _).trans ?_
      unfold tileOut
      first
      | exact (if_neg hu).symm
      | rw [if_pos hu]
        congr 1
        · exact (View.readAt_full _ _ _).trans hf0
        · first
          | have h := hy hn
            exact (View.readAt_full _ _ _).trans (hg0.trans h.1)
          | exact (View.readCov_full _ _ _ _ _).trans (congrArg k0_pay1 ((View.readAt_full _ _ _).trans hf1))
        · first
          | have h := hy hn
            exact (View.readAt_full _ _ _).trans (hg1.trans h.2.1)
          | exact (View.readCov_full _ _ _ _ _).trans (congrArg k0_pay2 ((View.readAt_full _ _ _).trans hf2))
        · first
          | have h := hy hn
            exact (View.readAt_full _ _ _).trans (hg2.trans h.2.2)
          | exact (View.readCov_full _ _ _ _ _).trans (congrArg k0_pay3 ((View.readAt_full _ _ _).trans hf3))
    isplitl [HS0]
    · iexists _; isplitr
      swap; · iexact HS0
      ipureintro
      first
      | have h := hy hn
        exact hg0.trans h.1
      | exact (View.read_writes_full _ _ _ _ _).trans (congrArg k0_pay1 ((View.readAt_full _ _ _).trans hf1))
    isplitl [HS1]
    · iexists _; isplitr
      swap; · iexact HS1
      ipureintro
      first
      | have h := hy hn
        exact hg1.trans h.2.1
      | exact (View.read_writes_full _ _ _ _ _).trans (congrArg k0_pay2 ((View.readAt_full _ _ _).trans hf2))
    isplitl [HS2]
    · iexists _; isplitr
      swap; · iexact HS2
      ipureintro
      first
      | have h := hy hn
        exact hg2.trans h.2.2
      | exact (View.read_writes_full _ _ _ _ _).trans (congrArg k0_pay3 ((View.readAt_full _ _ _).trans hf3))
    isplitl [HT0]; · iexact HT0
    iexact HT1

end Cert.Kernel2Ideal.Experts

end
-- ==== Proof.Experts.Blocks.lean ====
/-
  The words that the experts' call reads from its two tables, and the blocks its windows hold: the rows of the tile, and
  the three weight matrices of the tile's expert.
-/
module

public import proofs.«01_k».proof.Proof.Experts.Body
public import Idealize.ShloMosaic.Lib.ValueIdx

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem
open Idealize.ShloMosaic.ValueIdx (ix1 ix2 ix3)

variable {F : FTy → Type} [FloatOps F]
variable (m : (ℓ : Loc nD τ sig) → Buf (Elt F) ℓ)

/-! ### The tables -/

/-- The expert of tile `e`, -/
def tileExpert (e : Fin 80) : BitVec 32 := (m (((0 : Dev nD) : Thread nD τ).loc main_arg0) : IVec S80 32) (ix1 e)
/-- and the number of tiles that hold rows. -/
def usedTiles : BitVec 32 := (m (((0 : Dev nD) : Thread nD τ).loc main_arg1) : IVec S1 32) (ix1 0)

theorem coords_val : ∀ t : Fin grid0.N, ((grid0.coords t) 0).val = t.val := by decide +kernel

/-- The tile of a grid point. -/
def tile (i : grid0.Coords) : Fin 80 := ⟨(i 0).val, (i 0).isLt⟩

theorem coord_lt (i : grid0.Coords) : (i 0).val < 80 := (i 0).isLt

theorem off1_val (i : grid0.Coords) : k0_off1 i 0 = (i 0).val := by
  show (BitVec.ofNat 32 (i 0).val).toNat = (i 0).val
  have := coord_lt i
  rw [BitVec.toNat_ofNat, Nat.mod_eq_of_lt (by omega)]

theorem off2_val : ∀ i : grid0.Coords, k0_off2 i 0 = (i 0).val - 1 := by
  intro i
  have h : ∀ n : Fin 80, (Scalar.maxsi (Scalar.subi (BitVec.ofNat 32 n.val) 1#32) 0#32).toNat = n.val - 1 := by decide +kernel
  exact h (tile i)

/-- The word at an offset of the first table. -/
theorem word_at (off : Fin 1 → Nat) (h : ∀ a, off a + S1.size a ≤ S80.size a) (e : Fin 80) (he : off 0 = e.val) :
    (tbl m).at 0 (Rect.unit (s := S80) off S1.size h) numel1_S1 = tileExpert m e := by
  show (m (((0 : Dev nD) : Thread nD τ).loc main_arg0) : IVec S80 32) _ = _
  unfold tileExpert
  congr 1
  funext x
  apply Fin.ext
  match x with
  | ⟨0, _⟩ => show off 0 + 1 * 0 = e.val; omega

theorem expertWord_eq (c : Dev nD) (i : grid0.Coords) : expertWord c i (tbl m 0) = tileExpert m (tile i) :=
  word_at m _ _ _ (off1_val i)

theorem formerWord_eq (c : Dev nD) (i : grid0.Coords) (e : Fin 80) (he : e.val = (i 0).val - 1) :
    formerWord c i (tbl m 0) = tileExpert m e :=
  word_at m _ _ _ ((off2_val i).trans he.symm)

theorem used_at (h : ∀ a, (![0] : Fin 1 → Nat) a + S1.size a ≤ S1.size a) :
    (tbl m).at 1 (Rect.unit (s := S1) ![0] S1.size h) numel1_S1 = usedTiles m := by
  show (m (((0 : Dev nD) : Thread nD τ).loc main_arg1) : IVec S1 32) _ = _
  unfold usedTiles
  congr 1
  funext x
  exact Fin.ext (by match x with | ⟨0, _⟩ => rfl)

theorem usedWord_eq (c : Dev nD) : usedWord c (tbl m 1) = usedTiles m := used_at m _

/-- The body's first condition fails only after the first tile, and where the expert is that of the tile before. -/
theorem not_new {i : grid0.Coords} {a b : BitVec 32} (h : ¬ isNew i a b) : (i 0).val ≠ 0 ∧ a = b := by
  have hb : ∀ p q : BitVec 1, Scalar.cmpi .ne (Scalar.extui (Scalar.ori p q) : BitVec 32) 0#32 = 1#1 ↔ p = 1#1 ∨ q = 1#1 := by decide
  unfold isNew at h
  rw [hb, not_or, WordCmp.scalar_cmpi_eq, WordCmp.scalar_cmpi_eq, WordCmp.cmpi_eq_eq, WordCmp.cmpi_ne_eq,
    WordCmp.ofBool_decide_eq_one_iff, WordCmp.ofBool_decide_eq_one_iff, not_not] at h
  exact ⟨fun h0 => h.1 (by rw [h0]), h.2⟩

/-- A tile holds rows when its number is below the second table's word. -/
theorem cond2_iff (i : grid0.Coords) (w : BitVec 32) : k0_cond2 i w = 1#1 ↔ ((i 0).val : Int) < w.toInt := by
  have hb : ∀ p : BitVec 1, Scalar.cmpi .ne (Scalar.extui p : BitVec 32) 0#32 = 1#1 ↔ p = 1#1 := by decide
  have hi := coord_lt i
  unfold k0_cond2
  dsimp only
  rw [hb, WordCmp.scalar_cmpi_eq, WordCmp.cmpi_slt_eq, WordCmp.ofBool_decide_eq_one_iff, WordCmp.toInt_ofNat_of_lt (by omega)]

/-! ### The index maps -/

/-- The block of rows that window 0 holds: the tile's own, or the last one that holds rows. -/
def rowBlock (w : BitVec 32) (n : ℕ) : ℕ := (Scalar.maxsi (Scalar.minsi (BitVec.ofNat 32 n) (Scalar.subi w 1#32)) 0#32).toNat

theorem rowBlock_le (w : BitVec 32) (n : ℕ) (hn : n < 80) : rowBlock w n ≤ n := by
  unfold rowBlock
  show (IntOp.maxsi (IntOp.minsi (BitVec.ofNat 32 n) (w - 1#32)) 0#32).toNat ≤ n
  generalize w - 1#32 = v
  have h1 : (BitVec.ofNat 32 n).toInt = n := WordCmp.toInt_ofNat_of_lt (by omega)
  have h2 : (BitVec.ofNat 32 n).toNat = n := WordCmp.toNat_ofNat_of_lt (by omega)
  have h3 := BitVec.toInt_eq_toNat_cond v
  have h4 : (0#32).toInt = 0 := by decide
  have h5 : (0#32).toNat = 0 := by decide
  simp only [IntOp.maxsi, IntOp.minsi, BitVec.slt, decide_eq_true_eq, h1, h4]
  split <;> split <;> split at h3 <;> omega

theorem rowBlock_used (w : BitVec 32) (n : ℕ) (hn : n < 80) (h : (n : Int) < w.toInt) : rowBlock w n = n := by
  unfold rowBlock
  show (IntOp.maxsi (IntOp.minsi (BitVec.ofNat 32 n) (w - 1#32)) 0#32).toNat = n
  have h1 : (BitVec.ofNat 32 n).toInt = n := WordCmp.toInt_ofNat_of_lt (by omega)
  have h2 : (BitVec.ofNat 32 n).toNat = n := WordCmp.toNat_ofNat_of_lt (by omega)
  have h3 := BitVec.toInt_eq_toNat_cond w
  have h4 : (0#32).toInt = 0 := by decide
  have h5 : (0#32).toNat = 0 := by decide
  have h6 : (w - 1#32).toNat = w.toNat - 1 := by
    rw [BitVec.toNat_sub]; show (2 ^ 32 - 1 + w.toNat) % 2 ^ 32 = _
    have := w.isLt; split at h3 <;> omega
  have h7 := BitVec.toInt_eq_toNat_cond (w - 1#32)
  have h8 := w.isLt
  generalize w - 1#32 = v at *
  simp only [IntOp.maxsi, IntOp.minsi, BitVec.slt, decide_eq_true_eq, h1, h4]
  split <;> split <;> split at h3 <;> split at h7 <;> omega

theorem transform0_eq (i : grid0.Coords) : cc0_transform_0 inb_S1_S1_0 numel1_S1 (tbl m) i = ![rowBlock (usedTiles m) (i 0).val, 0] := by
  unfold cc0_transform_0 rowBlock
  rw [used_at]
  rfl

theorem transform1_eq (i : grid0.Coords) : cc0_transform_1 k0_off1_inb numel1_S1 (tbl m) i = ![(tileExpert m (tile i)).toNat, 0, 0] := by
  rw [← word_at m (k0_off1 i) (k0_off1_inb i) (tile i) (off1_val i)]
  rfl

theorem transform2_eq (i : grid0.Coords) : cc0_transform_2 k0_off1_inb numel1_S1 (tbl m) i = ![(tileExpert m (tile i)).toNat, 0, 0] :=
  transform1_eq m i

theorem transform3_eq (i : grid0.Coords) : cc0_transform_3 k0_off1_inb numel1_S1 (tbl m) i = ![(tileExpert m (tile i)).toNat, 0, 0] :=
  transform1_eq m i

/-- Where every tile's expert is one of the 32, every window's block is inside its array. -/
theorem ok_of_range (h : ∀ e, (tileExpert m e).toNat < 32) : Ok m := by
  refine ⟨fun i => ⟨?_, .inl rfl⟩, fun i => ⟨?_, .inl rfl⟩, fun i => ⟨?_, .inl rfl⟩, fun i => ⟨?_, .inl rfl⟩⟩
  · rw [transform0_eq]
    have := rowBlock_le (usedTiles m) (i 0).val (coord_lt i)
    have := coord_lt i
    intro a
    match a with
    | ⟨0, _⟩ => show (rowBlock (usedTiles m) (i 0).val + 1) * 512 ≤ 40960; omega
    | ⟨1, _⟩ => show (0 + 1) * 1024 ≤ 1024; omega
  · rw [transform1_eq]
    have := h (tile i)
    intro a
    match a with
    | ⟨0, _⟩ => show ((tileExpert m (tile i)).toNat + 1) * 1 ≤ 32; omega
    | ⟨1, _⟩ => show (0 + 1) * 1024 ≤ 1024; omega
    | ⟨2, _⟩ => show (0 + 1) * 512 ≤ 512; omega
  · rw [transform2_eq]
    have := h (tile i)
    intro a
    match a with
    | ⟨0, _⟩ => show ((tileExpert m (tile i)).toNat + 1) * 1 ≤ 32; omega
    | ⟨1, _⟩ => show (0 + 1) * 1024 ≤ 1024; omega
    | ⟨2, _⟩ => show (0 + 1) * 512 ≤ 512; omega
  · rw [transform3_eq]
    have := h (tile i)
    intro a
    match a with
    | ⟨0, _⟩ => show ((tileExpert m (tile i)).toNat + 1) * 1 ≤ 32; omega
    | ⟨1, _⟩ => show (0 + 1) * 512 ≤ 512; omega
    | ⟨2, _⟩ => show (0 + 1) * 1024 ≤ 1024; omega

theorem expert_lt (hO : Ok m) (i : grid0.Coords) : (tileExpert m (tile i)).toNat < 32 := by
  obtain ⟨h, -⟩ := hO.2.1 i
  have h0 := h ⟨0, by decide⟩
  rw [transform1_eq] at h0
  have h1 : ((tileExpert m (tile i)).toNat + 1) * 1 ≤ 32 := h0
  omega

/-! ### The blocks, entry by entry -/

variable (hO : Ok m) (c : Dev nD)

theorem iblk0_apply (t : Fin grid0.N) (n : Fin 512) (d : Fin 1024) (r : Fin 40960)
    (hr : r.val = 512 * rowBlock (usedTiles m) ((grid0.coords t) 0).val + n.val) :
    (iblk m hO c 0 t : Vec F S512x1024 .f32) (ix2 n d) = (m ((c : Thread nD τ).loc main_arg2) : Vec F S40960x1024 .f32) (ix2 r d) := by
  unfold iblk
  refine (View.read_apply _ _).trans ?_
  show V m c main_arg2 _ = m (c.tc.loc main_arg2) _
  unfold V
  congr 1
  funext x
  apply Fin.ext
  match x with
  | ⟨0, _⟩ =>
    show cc0_transform_0 inb_S1_S1_0 numel1_S1 (tbl m) (grid0.coords t) 0 * 512 + 1 * n.val = r.val
    rw [transform0_eq, hr]; show rowBlock _ _ * 512 + 1 * n.val = _; omega
  | ⟨1, _⟩ =>
    show cc0_transform_0 inb_S1_S1_0 numel1_S1 (tbl m) (grid0.coords t) 1 * 1024 + 1 * d.val = d.val
    rw [transform0_eq]; show 0 * 1024 + 1 * d.val = _; omega

theorem iblk1_apply (t : Fin grid0.N) (z : Fin 1) (d : Fin 1024) (f : Fin 512) (e : Fin 32) (he : e.val = (tileExpert m (tile (grid0.coords t))).toNat) :
    (iblk m hO c 1 t : Vec F S1x1024x512 .f32) (ix3 z d f) = (m ((c : Thread nD τ).loc main_arg3) : Vec F S32x1024x512 .f32) (ix3 e d f) := by
  unfold iblk
  refine (View.read_apply _ _).trans ?_
  show V m c main_arg3 _ = m (c.tc.loc main_arg3) _
  unfold V
  congr 1
  funext x
  apply Fin.ext
  match x with
  | ⟨0, _⟩ =>
    show cc0_transform_1 k0_off1_inb numel1_S1 (tbl m) (grid0.coords t) 0 * 1 + 1 * z.val = e.val
    rw [transform1_eq, he]; show (tileExpert m _).toNat * 1 + 1 * z.val = _; omega
  | ⟨1, _⟩ =>
    show cc0_transform_1 k0_off1_inb numel1_S1 (tbl m) (grid0.coords t) 1 * 1024 + 1 * d.val = d.val
    rw [transform1_eq]; show 0 * 1024 + 1 * d.val = _; omega
  | ⟨2, _⟩ =>
    show cc0_transform_1 k0_off1_inb numel1_S1 (tbl m) (grid0.coords t) 2 * 512 + 1 * f.val = f.val
    rw [transform1_eq]; show 0 * 512 + 1 * f.val = _; omega

theorem iblk2_apply (t : Fin grid0.N) (z : Fin 1) (d : Fin 1024) (f : Fin 512) (e : Fin 32) (he : e.val = (tileExpert m (tile (grid0.coords t))).toNat) :
    (iblk m hO c 2 t : Vec F S1x1024x512 .f32) (ix3 z d f) = (m ((c : Thread nD τ).loc main_arg4) : Vec F S32x1024x512 .f32) (ix3 e d f) := by
  unfold iblk
  refine (View.read_apply _ _).trans ?_
  show V m c main_arg4 _ = m (c.tc.loc main_arg4) _
  unfold V
  congr 1
  funext x
  apply Fin.ext
  match x with
  | ⟨0, _⟩ =>
    show cc0_transform_2 k0_off1_inb numel1_S1 (tbl m) (grid0.coords t) 0 * 1 + 1 * z.val = e.val
    rw [transform2_eq, he]; show (tileExpert m _).toNat * 1 + 1 * z.val = _; omega
  | ⟨1, _⟩ =>
    show cc0_transform_2 k0_off1_inb numel1_S1 (tbl m) (grid0.coords t) 1 * 1024 + 1 * d.val = d.val
    rw [transform2_eq]; show 0 * 1024 + 1 * d.val = _; omega
  | ⟨2, _⟩ =>
    show cc0_transform_2 k0_off1_inb numel1_S1 (tbl m) (grid0.coords t) 2 * 512 + 1 * f.val = f.val
    rw [transform2_eq]; show 0 * 512 + 1 * f.val = _; omega

theorem iblk3_apply (t : Fin grid0.N) (z : Fin 1) (f : Fin 512) (d : Fin 1024) (e : Fin 32) (he : e.val = (tileExpert m (tile (grid0.coords t))).toNat) :
    (iblk m hO c 3 t : Vec F S1x512x1024 .f32) (ix3 z f d) = (m ((c : Thread nD τ).loc main_arg5) : Vec F S32x512x1024 .f32) (ix3 e f d) := by
  unfold iblk
  refine (View.read_apply _ _).trans ?_
  show V m c main_arg5 _ = m (c.tc.loc main_arg5) _
  unfold V
  congr 1
  funext x
  apply Fin.ext
  match x with
  | ⟨0, _⟩ =>
    show cc0_transform_3 k0_off1_inb numel1_S1 (tbl m) (grid0.coords t) 0 * 1 + 1 * z.val = e.val
    rw [transform3_eq, he]; show (tileExpert m _).toNat * 1 + 1 * z.val = _; omega
  | ⟨1, _⟩ =>
    show cc0_transform_3 k0_off1_inb numel1_S1 (tbl m) (grid0.coords t) 1 * 512 + 1 * f.val = f.val
    rw [transform3_eq]; show 0 * 512 + 1 * f.val = _; omega
  | ⟨2, _⟩ =>
    show cc0_transform_3 k0_off1_inb numel1_S1 (tbl m) (grid0.coords t) 2 * 1024 + 1 * d.val = d.val
    rw [transform3_eq]; show 0 * 1024 + 1 * d.val = _; omega

/-- Two tiles of one expert have the same blocks of weights. -/
theorem weights_same (t t' : Fin grid0.N) (h : tileExpert m (tile (grid0.coords t')) = tileExpert m (tile (grid0.coords t))) :
    (iblk m hO c 1 t' : Vec F S1x1024x512 .f32) = iblk m hO c 1 t ∧ (iblk m hO c 2 t' : Vec F S1x1024x512 .f32) = iblk m hO c 2 t
      ∧ (iblk m hO c 3 t' : Vec F S1x512x1024 .f32) = iblk m hO c 3 t := by
  have he := expert_lt m hO (grid0.coords t)
  refine ⟨funext fun y => ?_, funext fun y => ?_, funext fun y => ?_⟩
  · rw [ValueIdx.eq_ix3 y]
    exact (iblk1_apply m hO c t' _ _ _ ⟨_, he⟩ (congrArg BitVec.toNat h.symm)).trans (iblk1_apply m hO c t _ _ _ ⟨_, he⟩ rfl).symm
  · rw [ValueIdx.eq_ix3 y]
    exact (iblk2_apply m hO c t' _ _ _ ⟨_, he⟩ (congrArg BitVec.toNat h.symm)).trans (iblk2_apply m hO c t _ _ _ ⟨_, he⟩ rfl).symm
  · rw [ValueIdx.eq_ix3 y]
    exact (iblk3_apply m hO c t' _ _ _ ⟨_, he⟩ (congrArg BitVec.toNat h.symm)).trans (iblk3_apply m hO c t _ _ _ ⟨_, he⟩ rfl).symm

end Cert.Kernel2Ideal.Experts
-- ==== Proof.Experts.Frame.lean ====
/-
  The experts' call from start to end: after a tile the scratch buffers hold its expert's rounded weights, which are the
  next tile's too unless the body writes them anew; so the launch runs, ends quiescent, leaves its arguments alone, and
  writes `tileOut` of each tile's blocks.
-/
module

public import proofs.«01_k».proof.Proof.Experts.Blocks
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers at point `t`'s rounded weights. -/
def weightsHeld (hO : Ok m) (c : Dev nD) (t : Fin (cfgM m hO).N) : sProp 𝕄 :=
  iprop(owns (c : Thread nD τ) scM0_0 fullShare (k0_pay1 (iblk m hO c 1 t)) ∗ owns (c : Thread nD τ) scM0_1 fullShare (k0_pay2 (iblk m hO c 2 t))
    ∗ owns (c : Thread nD τ) scM0_2 fullShare (k0_pay3 (iblk m hO c 3 t)))

/-- What holds before position `n`: nothing of the scratch buffers before the first point, later the point before's rounded
    weights in them; the generator register at some state, and the tables. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(weightsHeld m hO c ⟨n, hn⟩ ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(weightsHeld m hO c ⟨n, hn⟩ ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(weightsHeld m hO c ⟨n - 1, by omega⟩ ∗ (∃ r, prngReg c r)) ∗ Pipeline.ΦT pre0 (tbl m) c) := by
  cases n with
  | zero => exact absurd rfl hz
  | succ n => rfl

/-- The result block of point `t`. -/
def resultBlock (hO : Ok m) (c : Dev nD) (t : Fin (cfgM m hO).N) : Vec F S512x1024 .f32 :=
  tileOut (grid0.coords t) (usedWord c (tbl m 1)) (iblk m hO c 0 t) (iblk m hO c 1 t) (iblk m hO c 2 t) (iblk m hO c 3 t)

/-- The proof data: the arrays as launched, each input's block left in place, the output's buffer at the result block. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => resultBlock m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = resultBlock m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- Away from the first point the scratch buffers already hold this point's rounded weights, unless the body's first condition
    holds. -/
theorem held_before (hO : Ok m) (c : Dev nD) (t : Fin (cfgM m hO).N) (hz : t.val ≠ 0)
    (hn : ¬ isNew (grid0.coords t) (expertWord c (grid0.coords t) (tbl m 0)) (formerWord c (grid0.coords t) (tbl m 0))) (h : t.val - 1 < (cfgM m hO).N) :
    k0_pay1 (iblk m hO c 1 ⟨t.val - 1, h⟩) = k0_pay1 (iblk m hO c 1 t) ∧ k0_pay2 (iblk m hO c 2 ⟨t.val - 1, h⟩) = k0_pay2 (iblk m hO c 2 t)
      ∧ k0_pay3 (iblk m hO c 3 ⟨t.val - 1, h⟩) = k0_pay3 (iblk m hO c 3 t) := by
  have hc := (not_new hn).2
  rw [expertWord_eq, formerWord_eq m c (grid0.coords t) (tile (grid0.coords (⟨t.val - 1, h⟩ : Fin grid0.N)))
    (by show ((grid0.coords (⟨t.val - 1, h⟩ : Fin grid0.N)) 0).val = _; rw [coords_val, coords_val])] at hc
  obtain ⟨h1, h2, h3⟩ := weights_same m hO c t ⟨t.val - 1, h⟩ hc.symm
  exact ⟨congrArg k0_pay1 h1, congrArg k0_pay2 h2, congrArg k0_pay3 h3⟩

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq]
  unfold weightsHeld resultBlock
  by_cases hz : t.val = 0
  · rw [PhiS_castSucc m hO c t, PhiS_zero m hO c _ _ hz, PhiT0_eq, PhiA0_eq]
    iintro ⟨⟨⟨⟨⟨%y0, HS0⟩, ⟨%y1, HS1⟩, ⟨%y2, HS2⟩⟩, Hg⟩, ⟨HT0, HT1⟩⟩, Ho, ⟨%d0, H0⟩, ⟨%d1, H1⟩, ⟨%d2, H2⟩, ⟨%d3, H3⟩, ⟨%d4, H4⟩⟩
    iapply (run c (grid0.coords t) _ _ _ _ _ _ _ _ _ _ _ _ _ _ _ _ (iblk m hO c 0 t) (iblk m hO c 1 t) (iblk m hO c 2 t) (iblk m hO c 3 t)
      (tbl m 0) (tbl m 1) y0 y1 y2 (fun hn => absurd ((coords_val t).trans hz) (not_new hn).1) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [PhiS_castSucc m hO c t, PhiS_pos m hO c _ _ hz, PhiT0_eq]
    unfold weightsHeld
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run c (grid0.coords t) _ _ _ _ _ _ _ _ _ _ _ _ _ _ _ _ (iblk m hO c 0 t) (iblk m hO c 1 t) (iblk m hO c 2 t) (iblk m hO c 3 t)
      (tbl m 0) (tbl m 1) _ _ _ (fun hn => held_before m hO c t hz hn _) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What a window that is not idle is left at. -/
theorem left_of_not_idle {b : Bool} (f : Bool) (A B : sProp 𝕄) : b = false →
    (A ⊢ match b with
      | true => match f with
        | false => B
        | true => A
      | false => A) := by
  rintro rfl; exact .rfl

/-- The body writes the output at every point: one of its last two conditions holds. -/
theorem not_idle (hO : Ok m) (t : Fin (cfgM m hO).N) : (cfgM m hO).idle 4 ((cfgM m hO).grid.coords t) = false := by
  show (!(k0_cond2 (grid0.coords t) ((tbl m).atD 1 ![0]) == 1#1) && !(k0_cond3 (grid0.coords t) ((tbl m).atD 1 ![0]) == 1#1)) = false
  have h := cond3_iff (grid0.coords t) ((tbl m).atD 1 ![0])
  by_cases h2 : k0_cond2 (grid0.coords t) ((tbl m).atD 1 ![0]) = 1#1
  · rw [h2]; rfl
  · rw [h.mpr h2, Bool.and_comm]; rfl

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  exact sep_mono_r (sep_mono_r (sep_mono_r (sep_mono_r (sep_mono_r (sep_mono_r (left_of_not_idle (((cfgM m hO).win 4).flush t) (owns (c : Thread nD τ) (ms0_4 m hO t) fullShare ((dats m hO 0 c).after 4 t))
    (iprop(∃ d, owns (c : Thread nD τ) (ms0_4 m hO t) fullShare ((dats m hO 0 c).before 4 t d))) (not_idle m hO t)))))))

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  unfold weightsHeld
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 80 := N_0; omega)

/-! ## The run and the frame -/

-- `θ_run_frameP_track`'s implicit arguments are found by unifying its conclusion with this one, which takes unfolding plain
-- definitions in a metavariable's type
set_option backward.isDefEq.respectTransparency.types false in
/-- The launch ends, with the arrays as the proof data say and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters: the arrays end as the proof data say. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: the arguments end unchanged and every semaphore reads zero, where every tile's expert is in range (`Ok`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel2Ideal.Experts

end
-- ==== Proof.Experts.Range.lean ====
/-
  The precondition, read: every word of the first table is one of the 32 experts.
-/
module

public import proofs.«01_k».proof.Pre_expert_in_range
public import Idealize.ShloMosaic.Lib.WordCmp
public import Idealize.ShloMosaic.Lib.ValueIdx

@[expose] public section

namespace Cert.ExpertRange

open Idealize.ShloMosaic Cert.Pre_expert_in_range
open Idealize.ShloMosaic.ValueIdx (ix1)

/-- The one fact the precondition's program takes. -/
theorem facts : Cert.Pre_expert_in_range.Facts where
  bcast_S_S80 := by decide

theorem word_lt {F : FTy → Type} [FloatOps F] {x0 : IVec S80 32} {x1 : IVec S1 32} {x2 : FVec F S40960x1024 .f32} {x3 x4 : FVec F S32x1024x512 .f32}
    {x5 : FVec F S32x512x1024 .f32} (h : @Cert.Pre_expert_in_range.fn facts F _ x0 x1 x2 x3 x4 x5 = fun _ => 1#1) (e : Fin 80) :
    (x0 (ix1 e)).toNat < 32 := by
  have he : IntOp.andi (IntOp.cmpi .sge (x0 (ix1 e)) 0#32) (IntOp.cmpi .slt (x0 (ix1 e)) (BitVec.ofNat 32 32)) = 1#1 := congrFun h (ix1 e)
  rw [WordCmp.andi_sge_zero_slt_ofNat (by decide), WordCmp.ofBool_decide_eq_one_iff] at he
  exact he

end Cert.ExpertRange
-- ==== Proof.Experts.Printed.lean ====
/-
  The frame of the printed experts' kernel, and that of the idealized one, from the range of the experts. No operation of
  the kernel is rewritten by its idealization, so the two programs are one, and the frame proved at any floats serves both.
-/
module

public import proofs.«01_k».proof.Defs
public import proofs.«01_k».proof.Proof.Experts.Frame
public import proofs.«01_k».proof.Proof.Experts.Range
public import proofs.«01_k».proof.Proof.Gen.Kernel2.Launch

@[expose] public section

set_option maxRecDepth 16384

namespace Cert.Kernel2Ideal.Experts

open Idealize.ShloMosaic Idealize.SL.Sem

theorem defs₀_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  obtain ⟨n, hn⟩ := l
  cases n with
  | zero => rfl
  | succ n => exact absurd hn (Nat.not_lt.2 (Nat.le_add_left _ _))

theorem defs_eq : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs (@Cert.Kernel2Ideal.pcfgs Bits _ Cert.Kernel2Ideal.Gen.facts)) defs₀_eq

theorem main_eq : @Cert.Kernel2.main Bits _ Cert.Kernel2.Gen.facts = @Cert.Kernel2Ideal.main Bits _ Cert.Kernel2Ideal.Gen.facts := rfl

/-- The precondition bounds every tile's expert. -/
theorem ok_of_pre (m : (ℓ : Loc Cert.Kernel2Ideal.nD Cert.Kernel2Ideal.τ Cert.Kernel2Ideal.sig) → Buf (Elt Ideal) ℓ)
    (h : Cert.Pre_Kernel2Ideal (hPre_expert_in_range := Cert.ExpertRange.facts) m) : Ok (F := Ideal) m :=
  ok_of_range m fun e => Cert.ExpertRange.word_lt (h 0) e

theorem frame_ideal : Cert.quiescent_Kernel2Ideal (hKernel2Ideal := Cert.Kernel2Ideal.Gen.facts) (hPre_expert_in_range := Cert.ExpertRange.facts) :=
  fun m ρ h => frame m ρ (ok_of_pre m h)

set_option maxHeartbeats 1000000 in
theorem frame_printed : Cert.quiescent_Kernel2 (hKernel2 := Cert.Kernel2.Gen.facts) (hPre_expert_in_range := Cert.ExpertRange.facts) := by
  intro m ρ h
  have hO : Ok (F := Bits) m := ok_of_range (F := Bits) m fun e => Cert.ExpertRange.word_lt (h 0) e
  rw [defs_eq, main_eq]
  exact frame (F := Bits) m ρ hO

end Cert.Kernel2Ideal.Experts
-- ==== Proof.Experts.Spec.lean ====
/-
  The experts' layer as mathematics, on arrays of extended reals: a row of activations through the gated network of one
  expert, and the array of results, tile by tile.  No program is mentioned here.
-/
module

public import Idealize.ShloMosaic.PureOps.Ideal

@[expose] public section

noncomputable section

namespace Cert.ExpertSpec

open Idealize.ShloMosaic
open scoped BigOperators

/-- A row of activations against column `f` of a matrix that leads into the hidden layer. -/
def project (x : Fin 1024 → EReal) (w : Fin 1024 → Fin 512 → EReal) (f : Fin 512) : EReal := ∑ k, x k * w k f

/-- The hidden layer: the first projection through `a ↦ a · σ(a)`, times the second. -/
def hidden (x : Fin 1024 → EReal) (wg wu : Fin 1024 → Fin 512 → EReal) (f : Fin 512) : EReal :=
  project x wg f * Ideal.logistic (project x wg f) * project x wu f

/-- The network of one expert, at entry `d` of the row. -/
def network (x : Fin 1024 → EReal) (wg wu : Fin 1024 → Fin 512 → EReal) (wd : Fin 512 → Fin 1024 → EReal) (d : Fin 1024) : EReal :=
  ∑ f, hidden x wg wu f * wd f d

/-- Row `n` of tile `t`, -/
def row (t : Fin 80) (n : Fin 512) : Fin 40960 := ⟨512 * t.val + n.val, by omega⟩

/-- and every row is one of these. -/
theorem exists_row (r : Fin 40960) : ∃ t n, row t n = r :=
  ⟨⟨r.val / 512, by omega⟩, ⟨r.val % 512, by omega⟩, Fin.ext (by simp only [row]; omega)⟩

/-- The result at row `n` of tile `t`: the network of the tile's expert, and zero from tile number `used` on. -/
def result (used : Int) (expert : Fin 80 → Fin 32) (x : Fin 40960 → Fin 1024 → EReal) (wg wu : Fin 32 → Fin 1024 → Fin 512 → EReal)
    (wd : Fin 32 → Fin 512 → Fin 1024 → EReal) (t : Fin 80) (n : Fin 512) (d : Fin 1024) : EReal :=
  if (t.val : Int) < used then network (x (row t n)) (wg (expert t)) (wu (expert t)) (wd (expert t)) d else 0

/-- Every row through every expert, with a gate that is one at the row's expert and zero elsewhere, and zero altogether
from tile number `used` on: the same result. -/
theorem dense_eq_result (used : Int) (expert : Fin 80 → Fin 32) (x : Fin 40960 → Fin 1024 → EReal)
    (wg wu : Fin 32 → Fin 1024 → Fin 512 → EReal) (wd : Fin 32 → Fin 512 → Fin 1024 → EReal) (t : Fin 80) (n : Fin 512) (d : Fin 1024) :
    (∑ e, ∑ f, hidden (x (row t n)) (wg e) (wu e) f
        * ((if expert t = e then 1 else 0) * (if (t.val : Int) < used then 1 else 0)) * wd e f d)
      = result used expert x wg wu wd t n d := by
  unfold result
  by_cases h : (t.val : Int) < used
  · simp only [if_pos h, mul_one]
    refine (Finset.sum_eq_single (expert t) (fun e _ he => ?_) (fun hn => absurd (Finset.mem_univ _) hn)).trans ?_
    · refine Finset.sum_eq_zero fun f _ => ?_
      rw [if_neg (Ne.symm he), mul_zero, zero_mul]
    · refine Finset.sum_congr rfl fun f _ => ?_
      rw [if_pos rfl, mul_one]
  · simp only [if_neg h, mul_zero, zero_mul, Finset.sum_const_zero]

end Cert.ExpertSpec

end
-- ==== Proof.Experts.TileValue.lean ====
/-
  What one grid point of the experts' call computes, entry by entry, in exact arithmetic: the gated network of the block's
  rows and weights, or zero.
-/
module

public import proofs.«01_k».proof.Proof.Experts.Body
public import proofs.«01_k».proof.Proof.Experts.Spec
public import Idealize.ShloMosaic.Lib.Pipeline.Value
public import Idealize.ShloMosaic.Lib.MatmulPlain
public import Idealize.ShloMosaic.Lib.ValueIdx

@[expose] public section

set_option maxRecDepth 16384

noncomputable section

namespace Cert.Kernel2Ideal.Experts

open Cert.Kernel2Ideal Cert.Kernel2Ideal.Gen
open Idealize.ShloMosaic
open Idealize.ShloMosaic.ValueIdx (ix1 ix2 ix3)
open Cert.ExpertSpec
open scoped BigOperators

/-- A product of matrices onto zero, of either of the two shapes: a sum over the contracted coordinate. -/
theorem product_in (x : FVec Ideal S512x1024 .bf16) (w : FVec Ideal S1024x512 .bf16) (n f : Fin 512) :
    matmul dot_S512x1024_S1024x512_S512x512_1_0_0_1_n_n none x w (constant S512x512 .f32 0x00000000#32) (ix2 n f)
      = ∑ k : Fin 1024, x (ix2 n k) * w (ix2 k f) := by
  refine (Ideal.matmul_plain_apply (φ₁ := .bf16) (φ₂ := .bf16) none x w (constant S512x512 .f32 0x00000000#32) n f).trans ?_
  change Ideal.ofBits .f32 0x00000000#32 + _ = _
  rw [Ideal.ofBits_zero_f32, zero_add]

theorem product_out (h : FVec Ideal S512x512 .bf16) (w : FVec Ideal S512x1024 .bf16) (n : Fin 512) (d : Fin 1024) :
    matmul dot_S512x512_S512x1024_S512x1024_1_0_0_1_n_n none h w (constant S512x1024 .f32 0x00000000#32) (ix2 n d)
      = ∑ f : Fin 512, h (ix2 n f) * w (ix2 f d) := by
  refine (Ideal.matmul_plain_apply (φ₁ := .bf16) (φ₂ := .bf16) none h w (constant S512x1024 .f32 0x00000000#32) n d).trans ?_
  change Ideal.ofBits .f32 0x00000000#32 + _ = _
  rw [Ideal.ofBits_zero_f32, zero_add]

/-- The matrices that the kernel keeps are the blocks it was given. -/
theorem kept_gate (w : Vec Ideal S1x1024x512 .f32) (k : Fin 1024) (f : Fin 512) : k0_pay1 (F := Ideal) w (ix2 k f) = w (ix3 0 k f) := by
  unfold k0_pay1
  refine (shapeCast_apply _ shapeCasts_S1024x512_S1024x512 (ix2 k f) (ix2 k f) rfl).trans ?_
  exact shapeCast_apply w shapeCasts_S1x1024x512_S1024x512 (ix2 k f) (ix3 0 k f)
    (by rw [Shape.rowMajor_val_three, Shape.rowMajor_val_two]; show (0 * 1024 + k.val) * 512 + f.val = k.val * 512 + f.val; omega)

theorem kept_up (w : Vec Ideal S1x1024x512 .f32) (k : Fin 1024) (f : Fin 512) : k0_pay2 (F := Ideal) w (ix2 k f) = w (ix3 0 k f) :=
  kept_gate w k f

theorem kept_down (w : Vec Ideal S1x512x1024 .f32) (f : Fin 512) (d : Fin 1024) : k0_pay3 (F := Ideal) w (ix2 f d) = w (ix3 0 f d) := by
  unfold k0_pay3
  refine (shapeCast_apply _ shapeCasts_S512x1024_S512x1024 (ix2 f d) (ix2 f d) rfl).trans ?_
  exact shapeCast_apply w shapeCasts_S1x512x1024_S512x1024 (ix2 f d) (ix3 0 f d)
    (by rw [Shape.rowMajor_val_three, Shape.rowMajor_val_two]; show (0 * 512 + f.val) * 1024 + d.val = f.val * 1024 + d.val; omega)

/-- The body's arithmetic is the network. -/
theorem network_apply (x : Vec Ideal S512x1024 .f32) (wg wu : Vec Ideal S1024x512 .bf16) (wd : Vec Ideal S512x1024 .bf16) (n : Fin 512) (d : Fin 1024) :
    k0_pay4 (F := Ideal) x wg wu wd (ix2 n d)
      = network (fun k => x (ix2 n k)) (fun k f => wg (ix2 k f)) (fun k f => wu (ix2 k f)) (fun f d => wd (ix2 f d)) d := by
  unfold k0_pay4
  rw [product_out]
  refine Finset.sum_congr rfl fun f _ => congrArg (· * wd (ix2 f d)) ?_
  have hg := product_in (truncf .bf16 x bitsLt_bf16_f32) wg n f
  have hu := product_in (truncf .bf16 x bitsLt_bf16_f32) wu n f
  exact congrArg₂ (· * ·) (congrArg (fun a : EReal => a * Ideal.logistic a) hg) hu

/-- What the output's block is left at, entry by entry. -/
theorem tileOut_apply (i : grid0.Coords) (w : BitVec 32) (x : Vec Ideal S512x1024 .f32) (wg wu : Vec Ideal S1x1024x512 .f32)
    (wd : Vec Ideal S1x512x1024 .f32) (n : Fin 512) (d : Fin 1024) :
    tileOut (F := Ideal) i w x wg wu wd (ix2 n d) = if k0_cond2 i w = 1#1
      then network (fun k => x (ix2 n k)) (fun k f => wg (ix3 0 k f)) (fun k f => wu (ix3 0 k f)) (fun f d => wd (ix3 0 f d)) d else 0 := by
  unfold tileOut
  split
  · rw [network_apply]
    simp only [kept_gate, kept_up, kept_down]
  · exact Ideal.ofBits_zero_f32

end Cert.Kernel2Ideal.Experts

end
-- ==== Proof.Experts.KernelValue.lean ====
/-
  The array that the experts' call leaves: every grid point writes its tile of the result of `Spec`, and the tiles cover the
  array.
-/
module

public import proofs.«01_k».proof.Proof.Experts.Frame
public import proofs.«01_k».proof.Proof.Experts.TileValue

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem
open Idealize.ShloMosaic.ValueIdx (ix1 ix2 ix3)
open Cert.ExpertSpec

variable (m : (ℓ : Loc nD τ sig) → Buf (Elt Ideal) ℓ)

/-- The arguments, by coordinates. -/
def argX (c : Dev nD) (r : Fin 40960) (k : Fin 1024) : EReal := (m ((c : Thread nD τ).loc main_arg2) : Vec Ideal S40960x1024 .f32) (ix2 r k)
def argGate (c : Dev nD) (e : Fin 32) (k : Fin 1024) (f : Fin 512) : EReal := (m ((c : Thread nD τ).loc main_arg3) : Vec Ideal S32x1024x512 .f32) (ix3 e k f)
def argUp (c : Dev nD) (e : Fin 32) (k : Fin 1024) (f : Fin 512) : EReal := (m ((c : Thread nD τ).loc main_arg4) : Vec Ideal S32x1024x512 .f32) (ix3 e k f)
def argDown (c : Dev nD) (e : Fin 32) (f : Fin 512) (d : Fin 1024) : EReal := (m ((c : Thread nD τ).loc main_arg5) : Vec Ideal S32x512x1024 .f32) (ix3 e f d)

variable (hr : ∀ e, (tileExpert m e).toNat < 32)

/-- The expert of a tile. -/
def expert (e : Fin 80) : Fin 32 := ⟨(tileExpert m e).toNat, hr e⟩

/-- The array of results, by row and column. -/
def resultArray (c : Dev nD) : Vec Ideal S40960x1024 .f32 := fun y =>
  result (usedTiles m).toInt (expert m hr) (argX m c) (argGate m c) (argUp m c) (argDown m c)
    ⟨(y 0).val / 512, by have : (y 0).val < 40960 := (y 0).isLt; omega⟩ ⟨(y 0).val % 512, by omega⟩ (y 1)

theorem resultArray_apply (c : Dev nD) (t : Fin 80) (n : Fin 512) (d : Fin 1024) : resultArray m hr c (ix2 (row t n) d)
    = result (usedTiles m).toInt (expert m hr) (argX m c) (argGate m c) (argUp m c) (argDown m c) t n d := by
  have h1 : (⟨(512 * t.val + n.val) / 512, by omega⟩ : Fin 80) = t := Fin.ext (by simp only; omega)
  have h2 : (⟨(512 * t.val + n.val) % 512, by omega⟩ : Fin 512) = n := Fin.ext (by simp only; omega)
  exact congrArg₂ (fun t n => result (usedTiles m).toInt (expert m hr) (argX m c) (argGate m c) (argUp m c) (argDown m c) t n d) h1 h2

/-- A grid point's block, entry by entry, is its tile of the results. -/
theorem resultBlock_apply (hO : Ok m) (c : Dev nD) (t : Fin grid0.N) (n : Fin 512) (d : Fin 1024) :
    resultBlock m hO c t (ix2 n d) = resultArray m hr c (ix2 (row (tile (grid0.coords t)) n) d) := by
  rw [resultArray_apply]
  have hc : k0_cond2 (grid0.coords t) (usedWord c (tbl m 1)) = 1#1 ↔ (((grid0.coords t) 0).val : Int) < (usedTiles m).toInt :=
    (usedWord_eq m c).symm ▸ cond2_iff _ _
  refine (tileOut_apply _ _ _ _ _ _ n d).trans ?_
  unfold result
  by_cases h : (((grid0.coords t) 0).val : Int) < (usedTiles m).toInt
  · refine (if_pos (hc.mpr h)).trans (Eq.trans ?_ (if_pos (show ((tile (grid0.coords t)).val : Int) < _ from h)).symm)
    have hX : (fun k => (iblk m hO c 0 t : Vec Ideal S512x1024 .f32) (ix2 n k)) = argX m c (row (tile (grid0.coords t)) n) := funext fun k =>
      iblk0_apply m hO c t n k (row (tile (grid0.coords t)) n) (by rw [rowBlock_used _ _ (coord_lt _) h]; rfl)
    have hG : (fun k f => (iblk m hO c 1 t : Vec Ideal S1x1024x512 .f32) (ix3 0 k f)) = argGate m c (expert m hr (tile (grid0.coords t))) :=
      funext fun k => funext fun f => iblk1_apply m hO c t 0 k f _ rfl
    have hU : (fun k f => (iblk m hO c 2 t : Vec Ideal S1x1024x512 .f32) (ix3 0 k f)) = argUp m c (expert m hr (tile (grid0.coords t))) :=
      funext fun k => funext fun f => iblk2_apply m hO c t 0 k f _ rfl
    have hD : (fun f d => (iblk m hO c 3 t : Vec Ideal S1x512x1024 .f32) (ix3 0 f d)) = argDown m c (expert m hr (tile (grid0.coords t))) :=
      funext fun f => funext fun d => iblk3_apply m hO c t 0 f d _ rfl
    rw [← hX, ← hG, ← hU, ← hD]
  · exact (if_neg (fun h' => h (hc.mp h'))).trans (if_neg (show ¬ ((tile (grid0.coords t)).val : Int) < _ from h)).symm

theorem transform4_eq (i : grid0.Coords) : cc0_transform_4 i = ![(i 0).val, 0] := by
  unfold cc0_transform_4
  have := coord_lt i
  have h : (BitVec.ofNat 32 (i 0).val).toNat = (i 0).val := WordCmp.toNat_ofNat_of_lt (by omega)
  exact congrArg (fun z : ℕ => ![z, 0]) h

/-- What a point writes back is its block of the array of results. -/
theorem flushed_eq (hO : Ok m) (c : Dev nD) (t : Fin (cfgM m hO).N) (_hf : ((cfgM m hO).win 4).flush t = true) :
    (dats m hO 0 c).flushed 4 t = (((cfgM m hO).win 4).blk t).view.read (Elt Ideal) (resultArray m hr c) := by
  show ((cfgM m hO).win 4).cut (grid0.coords t) ((dats m hO 0 c).after 4 t) = _
  rw [after0_4]
  refine funext fun (j : S512x1024.Idx) => ?_
  obtain ⟨n, d, rfl⟩ : ∃ (n : Fin 512) (d : Fin 1024), j = ix2 n d := ⟨j 0, j 1, ValueIdx.eq_ix2 j⟩
  refine (resultBlock_apply m hr hO c t n d).trans ?_
  have e : (((cfgM m hO).win 4).blk t).view.emb (ix2 n d : S512x1024.Idx) = (ix2 (row (tile (grid0.coords t)) n) d : S40960x1024.Idx) := by
    funext x
    apply Fin.ext
    match x with
    | ⟨0, _⟩ =>
      show cc0_transform_4 (grid0.coords t) 0 * 512 + 1 * n.val = 512 * ((grid0.coords t) 0).val + n.val
      rw [transform4_eq]; show ((grid0.coords t) 0).val * 512 + 1 * n.val = _; omega
    | ⟨1, _⟩ =>
      show cc0_transform_4 (grid0.coords t) 1 * 1024 + 1 * d.val = d.val
      rw [transform4_eq]; show 0 * 1024 + 1 * d.val = _; omega
  exact congrArg (resultArray m hr c) e.symm

/-- The final array is the array of results. -/
theorem final_array (hO : Ok m) (c : Dev nD) : (dats m hO 0 c).arrAt 4 (cfgM m hO).N = resultArray m hr c :=
  (dats m hO 0 c).arrAt_eq_of_cover 4 (resultArray m hr c) (flushed_eq m hr hO c) fun (i : S40960x1024.Idx) => by
    have h0 : (i 0 : Nat) < 40960 := (i 0).isLt
    have h1 : (i 1 : Nat) < 1024 := (i 1).isLt
    have hN : grid0.N = 80 := N_0
    let t : Fin grid0.N := ⟨(i 0 : Nat) / 512, by omega⟩
    refine ⟨t, flush0_4 (adm m hO) t, ?_⟩
    refine Eq.mpr (congrArg (i ∈ ·) (View.set_slice_whole main_v0 (((cfgM m hO).win 4).rect t))) (Rect.mem_set_unit.mpr fun a => ?_)
    match a with
    | ⟨0, _⟩ =>
      show cc0_transform_4 (grid0.coords t) 0 * 512 ≤ (i 0 : Nat) ∧ (i 0 : Nat) < cc0_transform_4 (grid0.coords t) 0 * 512 + 512
      rw [transform4_eq]
      show ((grid0.coords t) 0).val * 512 ≤ (i 0 : Nat) ∧ (i 0 : Nat) < ((grid0.coords t) 0).val * 512 + 512
      rw [coords_val]; show (i 0 : Nat) / 512 * 512 ≤ (i 0 : Nat) ∧ (i 0 : Nat) < (i 0 : Nat) / 512 * 512 + 512; omega
    | ⟨1, _⟩ =>
      show cc0_transform_4 (grid0.coords t) 1 * 1024 ≤ (i 1 : Nat) ∧ (i 1 : Nat) < cc0_transform_4 (grid0.coords t) 1 * 1024 + 1024
      rw [transform4_eq]; show 0 * 1024 ≤ (i 1 : Nat) ∧ (i 1 : Nat) < 0 * 1024 + 1024; omega

/-- The run: the result's array holds the results, and the arguments are as they were. -/
theorem run_value (ρ : Dev nD → PrngReg) (hO : Ok m) : θ_run defs (onTc (τ := τ) (main (F := Ideal))) ⟨m, fun _ => 0, ρ⟩ (fun r => ∀ c : Dev nD,
      r.2.mem ((c.tc : Thread nD τ).loc main_v0) = resultArray m hr c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 4).trans (final_array m hr hO c), h.2 c⟩)
    (θ_run_and (run_main m ρ hO) (unchanged m ρ hO))

end Cert.Kernel2Ideal.Experts

end
-- ==== Proof.Experts.RefValue.lean ====
/-
  The experts' reference at an index: every row through every expert, the gate made from the table of experts and the
  number of filled tiles, and the product that sums over experts and hidden units at once.  The last theorem says that an
  element of its result is the one of `Spec`.
-/
module

public import proofs.«01_k».proof.Proof.Experts.Spec
public import proofs.«01_k».proof.Proof.Gen.Reference2Ideal.Read
public import Idealize.ShloMosaic.Lib.IdealHost
public import Idealize.ShloMosaic.Lib.MatmulPlain
public import Idealize.ShloMosaic.Lib.ValueIdx
public import Idealize.ShloMosaic.Lib.WordCmp

@[expose] public section

set_option maxRecDepth 16384

noncomputable section

namespace Cert.Reference2Ideal.Experts

open Idealize.ShloMosaic Cert.Reference2Ideal Cert.Reference2Ideal.Gen Cert.Reference2Ideal.Read
open Idealize.ShloMosaic.ValueIdx (ix1 ix2 ix3 contrEquiv2 contrEquiv2_symm_val0 contrEquiv2_symm_val1)
open Cert.ExpertSpec
open scoped BigOperators

variable (x0 : IVec S80 32) (x1 : IVec S1 32) (x2 : Vec Ideal S40960x1024 .f32) (x3 x4 : Vec Ideal S32x1024x512 .f32) (x5 : Vec Ideal S32x512x1024 .f32)

/-- The arguments, by coordinates. -/
def argX (r : Fin 40960) (k : Fin 1024) : EReal := x2 (ix2 r k)
def argIn (w : Vec Ideal S32x1024x512 .f32) (e : Fin 32) (k : Fin 1024) (f : Fin 512) : EReal := w (ix3 e k f)
def argOut (w : Vec Ideal S32x512x1024 .f32) (e : Fin 32) (f : Fin 512) (d : Fin 1024) : EReal := w (ix3 e f d)

variable (hx : ∀ e : Fin 80, (x0 (ix1 e)).toNat < 32)

/-- The expert of a tile. -/
def expert (e : Fin 80) : Fin 32 := ⟨(x0 (ix1 e)).toNat, hx e⟩

/-! ### The gate -/

/-- A truth value as a float: one or zero. -/
theorem bit_apply (p : Prop) [Decidable p] : (FloatOps.uitofp .f32 (BitVec.ofBool (decide p)) : Ideal .f32) = (if p then 1 else 0 : EReal) := by
  by_cases h : p
  · rw [if_pos h, decide_eq_true h]
    show (((BitVec.ofBool true).toNat : ℝ) : EReal) = 1
    rw [show (BitVec.ofBool true).toNat = 1 from rfl]
    norm_num
  · rw [if_neg h, decide_eq_false h]
    show (((BitVec.ofBool false).toNat : ℝ) : EReal) = 0
    rw [show (BitVec.ofBool false).toNat = 0 from rfl]
    norm_num

/-- One where the tile's expert is `e`. -/
theorem one_hot_apply (t : Fin 80) (e : Fin 32) :
    val_main_v5 (F := Ideal) x0 (ix2 t e) = (if expert x0 hx t = e then 1 else 0 : EReal) := by
  have hw : val_main_call0_v4 (F := Ideal) x0 (ix2 t e) = BitVec.ofBool (decide (expert x0 hx t = e)) := by
    rw [val_main_call0_v4_apply, val_main_call0_v2_apply, val_main_call0_v0_apply, val_main_call0_v3_apply, val_main_call0_v1_apply]
    have ht : idx_main_call0_v0 (idx_main_call0_v2 (ix2 t e)) = (ix1 t : S80.Idx) := funext fun a => Fin.ext (by
      match a with | ⟨0, _⟩ => rfl)
    rw [ht]
    show BitVec.ofBool (x0 (ix1 t) == BitVec.ofNat 32 e.val) = _
    refine congrArg BitVec.ofBool (decide_eq_decide.mpr ?_)
    have h := hx t
    have he := e.isLt
    rw [Fin.ext_iff]
    show x0 (ix1 t) = BitVec.ofNat 32 e.val ↔ (x0 (ix1 t)).toNat = e.val
    rw [← BitVec.toNat_inj, BitVec.toNat_ofNat, Nat.mod_eq_of_lt (by omega)]
  rw [val_main_v5_apply, hw]
  exact bit_apply _

/-- One where the tile is filled. -/
theorem filled_apply (t : Fin 80) (e : Fin 32) :
    val_main_v7 (F := Ideal) x1 (ix2 t e) = (if (t.val : Int) < (x1 (ix1 (0 : Fin 1))).toInt then 1 else 0 : EReal) := by
  have hw : val_main_v3 (F := Ideal) x1 (idx_main_v6 (idx_main_v7 (ix2 t e)))
      = BitVec.ofBool (decide ((t.val : Int) < (x1 (ix1 (0 : Fin 1))).toInt)) := by
    rw [val_main_v3_apply, val_main_v0_apply, val_main_v2_apply, WordCmp.cmpi_slt_eq]
    have h1 : val_main_v1 (F := Ideal) x1 (idx_main_v2 (idx_main_v6 (idx_main_v7 (ix2 t e)))) = x1 (ix1 (0 : Fin 1)) :=
      congrArg x1 (funext fun a => Fin.ext (by
        match a with
        | ⟨0, h⟩ => exact congrArg Fin.val (Subsingleton.elim (α := Fin 1) _ _)))
    rw [h1]
    have ht : (BitVec.ofNat 32 t.val).toInt = t.val := WordCmp.toInt_ofNat_of_lt (by omega)
    exact congrArg (fun z : Int => BitVec.ofBool (decide (z < _))) ht
  rw [val_main_v7_apply, val_main_v6_apply, val_main_v4_apply, hw]
  exact bit_apply _

/-- The gate of expert `e` at row `n` of tile `t`. -/
theorem gate_apply (t : Fin 80) (n : Fin 512) (e : Fin 32) (f : Fin 512) : val_main_v17 (F := Ideal) x0 x1 (ix3 (row t n) e f)
    = (if expert x0 hx t = e then 1 else 0) * (if (t.val : Int) < (x1 (ix1 (0 : Fin 1))).toInt then 1 else 0 : EReal) := by
  rw [val_main_v17_apply, val_main_v16_apply, val_main_v11_apply, val_main_v10_apply, val_main_v9_apply]
  have hi : idx_main_v9 (idx_main_v10 (idx_main_v11 (idx_main_v16 (idx_main_v17 (ix3 (row t n) e f))))) = (ix2 t e : S80x32.Idx) :=
    funext fun a => Fin.ext (by
      match a with
      | ⟨0, _⟩ => show ((512 * t.val + n.val) * 32 + e.val) / 16384 = t.val; omega
      | ⟨1, _⟩ => show ((512 * t.val + n.val) * 32 + e.val) % 32 = e.val; omega)
  rw [hi, val_main_v8_apply, one_hot_apply x0 hx, filled_apply x1]
  rfl

/-! ### The network -/

theorem gate_project (r : Fin 40960) (e : Fin 32) (f : Fin 512) :
    val_main_v12 (F := Ideal) x2 x3 (ix3 r e f) = project (argX x2 r) (argIn x3 e) f := by
  rw [val_main_v12_apply]
  refine Finset.sum_congr rfl fun k _ => congrArg₂ (· * ·) (congrArg x2 (funext fun a => Fin.ext ?_)) (congrArg x3 (funext fun a => Fin.ext ?_))
  · match a with | ⟨0, _⟩ => rfl | ⟨1, _⟩ => rfl
  · match a with | ⟨0, _⟩ => rfl | ⟨1, _⟩ => rfl | ⟨2, _⟩ => rfl

theorem up_project (r : Fin 40960) (e : Fin 32) (f : Fin 512) :
    val_main_v14 (F := Ideal) x2 x4 (ix3 r e f) = project (argX x2 r) (argIn x4 e) f := gate_project x2 x4 r e f

/-- The hidden layer: the reference writes the logistic function out. -/
theorem hidden_apply (r : Fin 40960) (e : Fin 32) (f : Fin 512) : val_main_v15 (F := Ideal) x2 x3 x4 (ix3 r e f)
    = hidden (argX x2 r) (argIn x3 e) (argIn x4 e) f := by
  rw [val_main_v15_apply, val_main_v13_apply, up_project x2 x4, val_main_call1_v5_apply, val_main_call1_v4_apply,
    val_main_call1_cst_0_apply, val_main_call1_v3_apply, val_main_call1_v2_apply, val_main_call1_cst_apply, val_main_call1_v1_apply,
    val_main_call1_v0_apply, gate_project x2 x3]
  unfold ExpertSpec.hidden Ideal.logistic
  refine congrArg (· * _) (congrArg (_ * ·) ?_)
  show Ideal.div (Ideal.ofBits .f32 0x3F800000#32) (Ideal.ofBits .f32 0x3F800000#32 + _) = _
  rw [Ideal.ofBits_one_f32]
  rfl

/-- The last product sums over the experts and the hidden units. -/
theorem product_apply (r : Fin 40960) (d : Fin 1024) : val_main_v19 (F := Ideal) x0 x1 x2 x3 x4 x5 (ix2 r d)
    = ∑ e : Fin 32, ∑ f : Fin 512, val_main_v18 (F := Ideal) x0 x1 x2 x3 x4 (ix3 r e f) * x5 (ix3 e f d) := by
  unfold val_main_v19
  generalize val_main_v18 (F := Ideal) x0 x1 x2 x3 x4 = y
  let D := dot_S40960x32x512_S32x512x1024_S40960x1024_12_01_0_2_n_n
  have hr : D.contr.rank = 2 := rfl
  have c0 : D.contr.size ⟨0, by rw [hr]; omega⟩ = 32 := rfl
  have c1 : D.contr.size ⟨1, by rw [hr]; omega⟩ = 512 := rfl
  simp only [Host.dotGeneral]
  rw [Ideal.dotGeneral_apply, ← Equiv.sum_comp (contrEquiv2 D 32 512 hr c0 c1).symm, Fintype.sum_prod_type]
  refine Finset.sum_congr rfl fun e _ => Finset.sum_congr rfl fun f _ => ?_
  have h0 := contrEquiv2_symm_val0 D 32 512 hr c0 c1 (e, f)
  have h1 := contrEquiv2_symm_val1 D 32 512 hr c0 c1 (e, f)
  refine congrArg₂ (· * ·) (congrArg y (funext fun a => Fin.ext ?_)) (congrArg x5 (funext fun a => Fin.ext ?_))
  · match a with | ⟨0, _⟩ => rfl | ⟨1, _⟩ => exact h0 | ⟨2, _⟩ => exact h1
  · match a with | ⟨0, _⟩ => exact h0 | ⟨1, _⟩ => exact h1 | ⟨2, _⟩ => rfl

/-- An element of the reference's result. -/
theorem reference_eq (t : Fin 80) (n : Fin 512) (d : Fin 1024) : val_main_v19 (F := Ideal) x0 x1 x2 x3 x4 x5 (ix2 (row t n) d)
    = result (x1 (ix1 (0 : Fin 1))).toInt (expert x0 hx) (argX x2) (argIn x3) (argIn x4) (argOut x5) t n d := by
  rw [product_apply, ← dense_eq_result]
  refine Finset.sum_congr rfl fun e _ => Finset.sum_congr rfl fun f _ => congrArg (· * _) ?_
  rw [val_main_v18_apply, hidden_apply, gate_apply x0 x1 hx]
  rfl

end Cert.Reference2Ideal.Experts

end
-- ==== Proof.Experts.Agree.lean ====
/-
  The experts' kernel and reference agree, where every tile's expert is in range: both leave the array of results of `Spec`.
-/
module

public import proofs.«01_k».proof.Proof.Experts.Printed
public import proofs.«01_k».proof.Proof.Experts.KernelValue
public import proofs.«01_k».proof.Proof.Experts.RefValue

@[expose] public section

noncomputable section

namespace Cert.Experts

open Idealize.ShloMosaic Idealize.SL.Sem
open Idealize.ShloMosaic.ValueIdx (ix1 ix2 ix3)
open Cert.ExpertSpec (row exists_row)

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two arrays of results agree, when the arguments do. -/
theorem arrays_eq (m : (ℓ : Loc Cert.Kernel2Ideal.nD Cert.Kernel2Ideal.τ Cert.Kernel2Ideal.sig) → Buf (Elt Ideal) ℓ) (c : Dev Cert.Kernel2Ideal.nD)
    (hr : ∀ e, (Cert.Kernel2Ideal.Experts.tileExpert m e).toNat < 32)
    (x0 : IVec Cert.Reference2Ideal.S80 32) (x1 : IVec Cert.Reference2Ideal.S1 32) (x2 : Vec Ideal Cert.Reference2Ideal.S40960x1024 .f32)
    (x3 x4 : Vec Ideal Cert.Reference2Ideal.S32x1024x512 .f32) (x5 : Vec Ideal Cert.Reference2Ideal.S32x512x1024 .f32)
    (e0 : x0 = m ((c.tc : Thread Cert.Kernel2Ideal.nD Cert.Kernel2Ideal.τ).loc Cert.Kernel2Ideal.main_arg0))
    (e1 : x1 = m ((c.tc : Thread Cert.Kernel2Ideal.nD Cert.Kernel2Ideal.τ).loc Cert.Kernel2Ideal.main_arg1))
    (e2 : x2 = m ((c.tc : Thread Cert.Kernel2Ideal.nD Cert.Kernel2Ideal.τ).loc Cert.Kernel2Ideal.main_arg2))
    (e3 : x3 = m ((c.tc : Thread Cert.Kernel2Ideal.nD Cert.Kernel2Ideal.τ).loc Cert.Kernel2Ideal.main_arg3))
    (e4 : x4 = m ((c.tc : Thread Cert.Kernel2Ideal.nD Cert.Kernel2Ideal.τ).loc Cert.Kernel2Ideal.main_arg4))
    (e5 : x5 = m ((c.tc : Thread Cert.Kernel2Ideal.nD Cert.Kernel2Ideal.τ).loc Cert.Kernel2Ideal.main_arg5)) :
    Cert.Kernel2Ideal.Experts.resultArray m hr c = Cert.Reference2Ideal.Read.val_main_v19 (F := Ideal) x0 x1 x2 x3 x4 x5 := by
  obtain rfl : c = 0 := Subsingleton.elim (α := Fin 1) c 0
  subst e0 e1 e2 e3 e4 e5
  refine funext fun (y : Cert.Reference2Ideal.S40960x1024.Idx) => ?_
  obtain ⟨r, d, rfl⟩ : ∃ (r : Fin 40960) (d : Fin 1024), y = ix2 r d := ⟨y 0, y 1, ValueIdx.eq_ix2 y⟩
  obtain ⟨t, n, rfl⟩ := exists_row r
  exact (Cert.Kernel2Ideal.Experts.resultArray_apply m hr 0 t n d).trans
    (Cert.Reference2Ideal.Experts.reference_eq _ _ _ _ _ _ hr t n d).symm

theorem algebraic : Cert.algebraic_Kernel2Ideal_Reference2Ideal (hKernel2Ideal := Cert.Kernel2Ideal.Gen.facts)
    (hReference2Ideal := Cert.Reference2Ideal.Gen.facts) (hPre_expert_in_range := Cert.ExpertRange.facts) := by
  intro m g m' g' hpre hagree
  have hr : ∀ e, (Cert.Kernel2Ideal.Experts.tileExpert m e).toNat < 32 := fun e => Cert.ExpertRange.word_lt (hpre 0) e
  refine ⟨fun c => Cert.Kernel2Ideal.Experts.resultArray m hr c,
    Cert.Kernel2Ideal.Experts.run_value m hr g (Cert.Kernel2Ideal.Experts.ok_of_pre m hpre), ?_⟩
  refine (θ_run Cert.Reference2Ideal.defs _ _).mono (fun r h c => ⟨(h c).1.trans ?_, (h c).2⟩) (Cert.Reference2Ideal.Value.run (F := Ideal) m' g')
  rw [Cert.Reference2Ideal.Read.val_main_v19_eq]
  obtain ⟨a0, a1, a2, a3, a4, a5⟩ := hagree c
  exact (arrays_eq m c hr _ _ _ _ _ _ a0 a1 a2 a3 a4 a5).symm

end Cert.Experts

end
-- ==== Proof.Gates.Spec.lean ====
/-
  The gates as mathematics, on arrays of extended reals: the logistic function of a row against a column of the weights,
  whose columns are three groups of 1024, one for each of the three results.  No program is mentioned here.
-/
module

public import Idealize.ShloMosaic.PureOps.Ideal

@[expose] public section

noncomputable section

namespace Cert.GateSpec

open Idealize.ShloMosaic
open scoped BigOperators

/-- Column `d` of group `s`. -/
def column (s : Fin 3) (d : Fin 1024) : Fin 3072 := ⟨1024 * s.val + d.val, by omega⟩

/-- The gate of group `s` at row `r` and column `d`. -/
def gate (x : Fin 16384 → Fin 1024 → EReal) (w : Fin 1024 → Fin 3072 → EReal) (s : Fin 3) (r : Fin 16384) (d : Fin 1024) : EReal :=
  Ideal.logistic (∑ k, x r k * w k (column s d))

end Cert.GateSpec

end
-- ==== Proof.Gates.KernelValue.lean ====
/-
  The three arrays that the gates' call leaves, in exact arithmetic: every grid point writes 512 rows of each of the three
  groups of gates of `Spec`, and the tiles cover the arrays.  What is said of one group's stored tile and of one tile's
  place in its array is said once, and used for the three.
-/
module

public import proofs.«01_k».proof.Proof.Gates.Spec
public import proofs.«01_k».proof.Proof.Gen.Kernel3Ideal.Value
public import Idealize.ShloMosaic.Lib.Pipeline.ValueKit.Basic
public import Idealize.ShloMosaic.Lib.MatmulPlain
public import Idealize.ShloMosaic.Lib.ValueIdx
public import Idealize.ShloMosaic.Lib.WordCmp

@[expose] public section

set_option maxRecDepth 16384

noncomputable section

namespace Cert.Kernel3Ideal.Gates

open Cert.Kernel3Ideal Cert.Kernel3Ideal.Gen
open Idealize.ShloMosaic Idealize.ShloMosaic.TcCoe Idealize.SL.Sem
open Idealize.ShloMosaic.ValueIdx (ix2)
open Cert.GateSpec
open scoped BigOperators

variable (m : (ℓ : Loc nD τ sig) → Buf (Elt Ideal) ℓ) (c : Dev nD)

/-- The arguments, by coordinates. -/
def argX (r : Fin 16384) (k : Fin 1024) : EReal := (m ((c : Thread nD τ).loc main_arg0) : Vec Ideal S16384x1024 .bf16) (ix2 r k)
def argW (k : Fin 1024) (j : Fin 3072) : EReal := (m ((c : Thread nD τ).loc main_arg1) : Vec Ideal S1024x3072 .bf16) (ix2 k j)

/-- The array of the gates of group `s`. -/
def gateArray (s : Fin 3) : Vec Ideal S16384x1024 .bf16 := fun y => gate (argX m c) (argW m c) s (y 0) (y 1)

/-! ### The grid -/

theorem t_lt (t : Fin grid0.N) : t.val < 32 := lt_of_lt_of_eq t.isLt N_0

theorem coords_val : ∀ t : Fin grid0.N, ((grid0.coords t) 0).val = t.val := by decide +kernel

/-- Row `n` of the tile of point `t`. -/
def row (t : Fin grid0.N) (n : Fin 512) : Fin 16384 := ⟨512 * t.val + n.val, by have := t_lt t; omega⟩

/-- Point `t` is given, and writes, tile `t` of the rows. -/
theorem transform_eq (t : Fin grid0.N) : cc0_transform_2 (grid0.coords t) = ![t.val, 0] := by
  unfold cc0_transform_2
  have := t_lt t
  have h : (BitVec.ofNat 32 ((grid0.coords t) 0).val).toNat = t.val := by
    rw [coords_val]; exact WordCmp.toNat_ofNat_of_lt (by omega)
  exact congrArg (fun z : ℕ => ![z, 0]) h

/-- The place of a tile's entry in its array. -/
theorem place (t : Fin grid0.N) (n : Fin 512) (d : Fin 1024) :
    (win0_2.rect t).emb (ix2 n d : S512x1024.Idx) = (ix2 (row t n) d : S16384x1024.Idx) := by
  funext x
  apply Fin.ext
  match x with
  | ⟨0, _⟩ =>
    show cc0_transform_2 (grid0.coords t) 0 * 512 + 1 * n.val = 512 * t.val + n.val
    rw [transform_eq]; show t.val * 512 + 1 * n.val = _; omega
  | ⟨1, _⟩ =>
    show cc0_transform_2 (grid0.coords t) 1 * 1024 + 1 * d.val = d.val
    rw [transform_eq]; show 0 * 1024 + 1 * d.val = _; omega

/-- Every index of a result is in the tile of some point. -/
theorem covered (i : S16384x1024.Idx) : ∃ t : Fin grid0.N, i ∈ (win0_2.rect t).set := by
  have h0 : (i 0 : Nat) < 16384 := (i 0).isLt
  have h1 : (i 1 : Nat) < 1024 := (i 1).isLt
  have hN : grid0.N = 32 := N_0
  let t : Fin grid0.N := ⟨(i 0 : Nat) / 512, by omega⟩
  refine ⟨t, Rect.mem_set_unit.mpr fun a => ?_⟩
  match a with
  | ⟨0, _⟩ =>
    show cc0_transform_2 (grid0.coords t) 0 * 512 ≤ (i 0 : Nat) ∧ (i 0 : Nat) < cc0_transform_2 (grid0.coords t) 0 * 512 + 512
    rw [transform_eq]
    show (i 0 : Nat) / 512 * 512 ≤ (i 0 : Nat) ∧ (i 0 : Nat) < (i 0 : Nat) / 512 * 512 + 512; omega
  | ⟨1, _⟩ =>
    show cc0_transform_2 (grid0.coords t) 1 * 1024 ≤ (i 1 : Nat) ∧ (i 1 : Nat) < cc0_transform_2 (grid0.coords t) 1 * 1024 + 1024
    rw [transform_eq]; show 0 * 1024 ≤ (i 1 : Nat) ∧ (i 1 : Nat) < 0 * 1024 + 1024; omega

/-! ### The blocks -/

/-- The rows a point is given are the rows of its tile, -/
theorem rows_apply (t : Fin grid0.N) (n : Fin 512) (k : Fin 1024) :
    (iblk m c 0 t : Vec Ideal S512x1024 .bf16) (ix2 n k) = argX m c (row t n) k := by
  unfold iblk
  refine (View.read_apply _ _).trans ?_
  show V m c main_arg0 _ = m (c.tc.loc main_arg0) _
  exact congrArg (V m c main_arg0) (place t n k)

/-- and the weights are all of them. -/
theorem weights_apply (t : Fin grid0.N) (k : Fin 1024) (j : Fin 3072) :
    (iblk m c 1 t : Vec Ideal S1024x3072 .bf16) (ix2 k j) = argW m c k j := by
  unfold iblk
  refine (View.read_apply _ _).trans ?_
  show V m c main_arg1 _ = m (c.tc.loc main_arg1) _
  refine congrArg (V m c main_arg1) (funext fun x => Fin.ext ?_)
  match x with
  | ⟨0, _⟩ => show 0 * 1024 + 1 * k.val = k.val; omega
  | ⟨1, _⟩ => show 0 * 3072 + 1 * j.val = j.val; omega

/-! ### The tiles -/

/-- A product of matrices onto zero: a sum over the contracted coordinate. -/
theorem product_apply (x : FVec Ideal S512x1024 .bf16) (w : FVec Ideal S1024x1024 .bf16) (n : Fin 512) (d : Fin 1024) :
    matmul dot_S512x1024_S1024x1024_S512x1024_1_0_0_1_n_n none x w (constant S512x1024 .f32 0x00000000#32) (ix2 n d)
      = ∑ k : Fin 1024, x (ix2 n k) * w (ix2 k d) := by
  refine (Ideal.matmul_plain_apply (φ₁ := .bf16) (φ₂ := .bf16) none x w (constant S512x1024 .f32 0x00000000#32) n d).trans ?_
  change Ideal.ofBits .f32 0x00000000#32 + _ = _
  rw [Ideal.ofBits_zero_f32, zero_add]

/-- What the body stores, where the columns it has read are those of group `s`: that group's tile of the gates. -/
theorem stored_eq (s : Fin 3) (t : Fin grid0.N) (x : Vec Ideal S512x1024 .bf16) (w : Vec Ideal S1024x1024 .bf16)
    (hx : x = iblk m c 0 t) (hw : ∀ k d, w (ix2 k d) = argW m c k (column s d)) :
    k0_pay1 (F := Ideal) x w = fun j => gateArray m c s ((win0_2.rect t).emb j) := by
  refine funext fun (j : S512x1024.Idx) => ?_
  obtain ⟨n, d, rfl⟩ : ∃ (n : Fin 512) (d : Fin 1024), j = ix2 n d := ⟨j 0, j 1, ValueIdx.eq_ix2 j⟩
  refine Eq.trans ?_ (congrArg (gateArray m c s) (place t n d)).symm
  refine (congrArg Ideal.logistic (product_apply x w n d) : k0_pay1 (F := Ideal) x w (ix2 n d) = _).trans ?_
  refine congrArg Ideal.logistic (Finset.sum_congr rfl fun k _ => ?_)
  rw [hw, hx, rows_apply]

/-- The columns from `o` on of the weights, where group `s` begins at `o`. -/
theorem columns_apply (s : Fin 3) (t : Fin grid0.N) (o : ℕ) (ho : o = 1024 * s.val)
    (inb : ∀ a, (![0, o] : Fin 2 → ℕ) a + S1024x1024.size a ≤ S1024x3072.size a) (k d : Fin 1024) :
    View.ld (iblk m c 1 t : Vec Ideal S1024x3072 .bf16) (Rect.unit (s := S1024x3072) ![0, o] S1024x1024.size inb) (ix2 k d)
      = argW m c k (column s d) := by
  refine Eq.trans (congrArg (iblk m c 1 t : Vec Ideal S1024x3072 .bf16) (funext fun x => Fin.ext ?_)) (weights_apply m c t k (column s d))
  match x with
  | ⟨0, _⟩ => show 0 + 1 * k.val = k.val; omega
  | ⟨1, _⟩ => show o + 1 * d.val = 1024 * s.val + d.val; omega

/-- The whole of a block read, and the whole of a buffer written. -/
theorem whole_read (x : Vec Ideal S512x1024 .bf16) : View.ld x r0_0 = x :=
  View.ld_unit_lit inb_S512x1024_S512x1024_0_0 x (by decide)

theorem whole_written (v : Vec Ideal S512x1024 .bf16) : View.canon ([⟨r0_0, v⟩] : List (View.Piece (Elt Ideal) S512x1024 .bf16)) = v :=
  View.canon_cons_unit_lit inb_S512x1024_S512x1024_0_0 v [] (by decide)

/-- The three tiles of a point. -/
theorem tile0 (t : Fin grid0.N) : out0_2 (F := Ideal) (iblk m c 0 t) (iblk m c 1 t) = fun j => gateArray m c 0 ((win0_2.rect t).emb j) :=
  (whole_written _).trans (stored_eq m c 0 t _ _ (whole_read _) (columns_apply m c 0 t 0 rfl _))

theorem tile1 (t : Fin grid0.N) : out0_3 (F := Ideal) (iblk m c 0 t) (iblk m c 1 t) = fun j => gateArray m c 1 ((win0_2.rect t).emb j) :=
  (whole_written _).trans (stored_eq m c 1 t _ _ (whole_read _) (columns_apply m c 1 t 1024 rfl _))

theorem tile2 (t : Fin grid0.N) : out0_4 (F := Ideal) (iblk m c 0 t) (iblk m c 1 t) = fun j => gateArray m c 2 ((win0_2.rect t).emb j) :=
  (whole_written _).trans (stored_eq m c 2 t _ _ (whole_read _) (columns_apply m c 2 t 2048 rfl _))

/-! ### The arrays -/

/-- The three final arrays are the three groups of gates. -/
theorem final0 : (dats m 0 c).arrAt 2 cfg0.N = gateArray m c 0 :=
  (dats m 0 c).arrAt_eq_of_cover 2 (gateArray m c 0) (fun t _ => (Value.flushed2 m c t).trans (tile0 m c t)) fun (i : S16384x1024.Idx) => by
    obtain ⟨t, ht⟩ := covered i
    exact ⟨t, flush0_2 t, Eq.mpr (congrArg (i ∈ ·) (View.set_slice_whole main_v0_0 (win0_2.rect t))) ht⟩

theorem final1 : (dats m 0 c).arrAt 3 cfg0.N = gateArray m c 1 :=
  (dats m 0 c).arrAt_eq_of_cover 3 (gateArray m c 1) (fun t _ => (Value.flushed3 m c t).trans (tile1 m c t)) fun (i : S16384x1024.Idx) => by
    obtain ⟨t, ht⟩ := covered i
    exact ⟨t, flush0_3 t, Eq.mpr (congrArg (i ∈ ·) (View.set_slice_whole main_v0_1 (win0_3.rect t))) ht⟩

theorem final2 : (dats m 0 c).arrAt 4 cfg0.N = gateArray m c 2 :=
  (dats m 0 c).arrAt_eq_of_cover 4 (gateArray m c 2) (fun t _ => (Value.flushed4 m c t).trans (tile2 m c t)) fun (i : S16384x1024.Idx) => by
    obtain ⟨t, ht⟩ := covered i
    exact ⟨t, flush0_4 t, Eq.mpr (congrArg (i ∈ ·) (View.set_slice_whole main_v0_2 (win0_4.rect t))) ht⟩

end Cert.Kernel3Ideal.Gates

end
-- ==== Proof.Gates.RefValue.lean ====
/-
  The gates' reference at an index: one product with all the weights, the logistic function written out, and the three
  groups of columns cut apart.  An element of a result is the gate of `Spec`.
-/
module

public import proofs.«01_k».proof.Proof.Gates.Spec
public import proofs.«01_k».proof.Proof.Gen.Reference3Ideal.Read
public import Idealize.ShloMosaic.Lib.IdealHost
public import Idealize.ShloMosaic.Lib.ValueIdx

@[expose] public section

set_option maxRecDepth 16384

noncomputable section

namespace Cert.Reference3Ideal.Gates

open Idealize.ShloMosaic Cert.Reference3Ideal Cert.Reference3Ideal.Gen Cert.Reference3Ideal.Read
open Idealize.ShloMosaic.ValueIdx (ix2 ix3)
open Cert.GateSpec
open scoped BigOperators

variable (x0 : Vec Ideal S16384x1024 .bf16) (x1 : Vec Ideal S1024x3072 .bf16)

/-- The arguments, by coordinates. -/
def argX (r : Fin 16384) (k : Fin 1024) : EReal := x0 (ix2 r k)
def argW (k : Fin 1024) (j : Fin 3072) : EReal := x1 (ix2 k j)

/-- The product. -/
theorem product_apply (r : Fin 16384) (j : Fin 3072) :
    val_main_v0 (F := Ideal) x0 x1 (ix2 r j) = ∑ k, argX x0 r k * argW x1 k j := by
  rw [val_main_v0_apply]
  refine Finset.sum_congr rfl fun k _ => congrArg₂ (· * ·) (congrArg x0 (funext fun a => Fin.ext ?_)) (congrArg x1 (funext fun a => Fin.ext ?_))
  · match a with | ⟨0, _⟩ => rfl | ⟨1, _⟩ => rfl
  · match a with | ⟨0, _⟩ => rfl | ⟨1, _⟩ => rfl

/-- The gates before they are cut apart. -/
theorem all_apply (s : Fin 3) (r : Fin 16384) (d : Fin 1024) :
    val_main_v8 (F := Ideal) x0 x1 (ix3 r s d) = gate (argX x0) (argW x1) s r d := by
  have hi : idx_main_v8 (ix3 r s d) = (ix2 r (column s d) : S16384x3072.Idx) := funext fun a => Fin.ext (by
    have := s.isLt
    match a with
    | ⟨0, _⟩ => show ((r.val * 3 + s.val) * 1024 + d.val) / 3072 = r.val; omega
    | ⟨1, _⟩ => show ((r.val * 3 + s.val) * 1024 + d.val) % 3072 = 1024 * s.val + d.val; omega)
  rw [val_main_v8_apply, hi, val_main_v7_apply, val_main_v6_apply, val_main_v5_apply, val_main_cst_0_apply, val_main_v4_apply,
    val_main_v3_apply, val_main_cst_apply, val_main_v2_apply, val_main_v1_apply, product_apply]
  unfold gate Ideal.logistic
  show Ideal.div (Ideal.ofBits .f32 0x3F800000#32) (Ideal.ofBits .f32 0x3F800000#32 + _) = _
  rw [Ideal.ofBits_one_f32]
  rfl

/-- The way of an index of a result to the array of one group: the same for the three. -/
theorem index_eq (r : Fin 16384) (d : Fin 1024) : idx_main_v10 (ix2 r d) = (ix3 r 0 d : S16384x1x1024.Idx) := funext fun a => Fin.ext (by
  match a with
  | ⟨0, _⟩ => show (r.val * 1024 + d.val) / 1024 = r.val; omega
  | ⟨1, _⟩ => rfl
  | ⟨2, _⟩ => show (r.val * 1024 + d.val) % 1024 = d.val; omega)

/-- The three results. -/
theorem result0 (r : Fin 16384) (d : Fin 1024) : val_main_v10 (F := Ideal) x0 x1 (ix2 r d) = gate (argX x0) (argW x1) 0 r d := by
  rw [val_main_v10_apply, index_eq, val_main_v9_apply, ← all_apply x0 x1]
  exact congrArg _ (funext fun a => Fin.ext (by match a with | ⟨0, _⟩ => rfl | ⟨1, _⟩ => rfl | ⟨2, _⟩ => rfl))

theorem result1 (r : Fin 16384) (d : Fin 1024) : val_main_v12 (F := Ideal) x0 x1 (ix2 r d) = gate (argX x0) (argW x1) 1 r d := by
  rw [val_main_v12_apply, show idx_main_v12 (ix2 r d) = _ from index_eq r d, val_main_v11_apply, ← all_apply x0 x1]
  exact congrArg _ (funext fun a => Fin.ext (by match a with | ⟨0, _⟩ => rfl | ⟨1, _⟩ => rfl | ⟨2, _⟩ => rfl))

theorem result2 (r : Fin 16384) (d : Fin 1024) : val_main_v14 (F := Ideal) x0 x1 (ix2 r d) = gate (argX x0) (argW x1) 2 r d := by
  rw [val_main_v14_apply, show idx_main_v14 (ix2 r d) = _ from index_eq r d, val_main_v13_apply, ← all_apply x0 x1]
  exact congrArg _ (funext fun a => Fin.ext (by match a with | ⟨0, _⟩ => rfl | ⟨1, _⟩ => rfl | ⟨2, _⟩ => rfl))

end Cert.Reference3Ideal.Gates

end
-- ==== Proof.Gates.Agree.lean ====
/-
  The claims about the gates: kernel and reference run and leave their arguments and semaphores as they found them, and both
  leave the three groups of gates of `Spec`.
-/
module

public import proofs.«01_k».proof.Defs
public import proofs.«01_k».proof.Proof.Gen.Kernel3.Frame
public import proofs.«01_k».proof.Proof.Gen.Reference3Ideal.Run
public import proofs.«01_k».proof.Proof.Gates.KernelValue
public import proofs.«01_k».proof.Proof.Gates.RefValue

@[expose] public section

noncomputable section

namespace Cert.Gates

open Idealize.ShloMosaic Idealize.SL.Sem
open Idealize.ShloMosaic.ValueIdx (ix2)

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) :=
  fun m ρ _ => Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The gates' kernel is its own idealized reading. -/
theorem preserves : Cert.preserves_Kernel3_Kernel3Ideal := trivial

/-- The three pairs of results agree, when the arguments do. -/
theorem arrays_eq (m : (ℓ : Loc Cert.Kernel3Ideal.nD Cert.Kernel3Ideal.τ Cert.Kernel3Ideal.sig) → Buf (Elt Ideal) ℓ) (c : Dev Cert.Kernel3Ideal.nD)
    (x0 : Vec Ideal Cert.Reference3Ideal.S16384x1024 .bf16) (x1 : Vec Ideal Cert.Reference3Ideal.S1024x3072 .bf16)
    (e0 : x0 = m ((c.tc : Thread Cert.Kernel3Ideal.nD Cert.Kernel3Ideal.τ).loc Cert.Kernel3Ideal.main_arg0))
    (e1 : x1 = m ((c.tc : Thread Cert.Kernel3Ideal.nD Cert.Kernel3Ideal.τ).loc Cert.Kernel3Ideal.main_arg1)) :
    Cert.Reference3Ideal.Read.val_main_v10 (F := Ideal) x0 x1 = Cert.Kernel3Ideal.Gates.gateArray m c 0
    ∧ Cert.Reference3Ideal.Read.val_main_v12 (F := Ideal) x0 x1 = Cert.Kernel3Ideal.Gates.gateArray m c 1
    ∧ Cert.Reference3Ideal.Read.val_main_v14 (F := Ideal) x0 x1 = Cert.Kernel3Ideal.Gates.gateArray m c 2 := by
  subst e0 e1
  have at_index : ∀ {s : Fin 3} {v : Vec Ideal Cert.Reference3Ideal.S16384x1024 .bf16},
      (∀ r d, v (ix2 r d) = Cert.GateSpec.gate (Cert.Kernel3Ideal.Gates.argX m c) (Cert.Kernel3Ideal.Gates.argW m c) s r d) →
      v = Cert.Kernel3Ideal.Gates.gateArray m c s := fun h => funext fun (y : Cert.Reference3Ideal.S16384x1024.Idx) =>
    (congrArg _ (ValueIdx.eq_ix2 y)).trans (h (y 0) (y 1))
  exact ⟨at_index (Cert.Reference3Ideal.Gates.result0 _ _), at_index (Cert.Reference3Ideal.Gates.result1 _ _),
    at_index (Cert.Reference3Ideal.Gates.result2 _ _)⟩

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Gates.gateArray m c 0, fun c => Cert.Kernel3Ideal.Gates.gateArray m c 1,
    fun c => Cert.Kernel3Ideal.Gates.gateArray m c 2, ?_, ?_⟩
  · exact (θ_run Cert.Kernel3Ideal.defs _ _).mono (fun r h c => ⟨(h c).1.trans (Cert.Kernel3Ideal.Gates.final0 m c),
      (h c).2.1.trans (Cert.Kernel3Ideal.Gates.final1 m c), (h c).2.2.1.trans (Cert.Kernel3Ideal.Gates.final2 m c), (h c).2.2.2⟩)
      (Cert.Kernel3Ideal.Value.run_blocks m g)
  · refine (θ_run Cert.Reference3Ideal.defs _ _).mono (fun r h c => ?_) (Cert.Reference3Ideal.Value.run (F := Ideal) m' g')
    obtain ⟨a0, a1⟩ := hagree c
    obtain ⟨r0, r1, r2⟩ := arrays_eq m c _ _ a0 a1
    obtain ⟨h0, h1, h2, h3⟩ := h c
    rw [Cert.Reference3Ideal.Read.val_main_v10_eq] at h0
    rw [Cert.Reference3Ideal.Read.val_main_v12_eq] at h1
    rw [Cert.Reference3Ideal.Read.val_main_v14_eq] at h2
    exact ⟨h0.trans r0, h1.trans r1, h2.trans r2, h3⟩

end Cert.Gates

end
-- ==== Proof.Merge.Spec.lean ====
/-
  The merging of the branches as mathematics, on arrays of extended reals: a row's three branch outputs are multiplied by
  their weights, the gates weigh the three products, their sum is multiplied by the output weights and added to the scaled
  row, and the result is normalised.  No program is mentioned here.
-/
module

public import Idealize.ShloMosaic.PureOps.Ideal

@[expose] public section

noncomputable section

namespace Cert.MergeSpec

open Idealize.ShloMosaic
open scoped BigOperators

/-- What the merging reads of one row: the outputs and the gates of the three branches, and the row itself. -/
structure Row where
  branch : Fin 3 → Fin 512 → EReal
  gate : Fin 3 → Fin 1024 → EReal
  self : Fin 1024 → EReal

/-- What it reads for every row: the weights of the three branches, the output weights, and the gain and bias of the norm. -/
structure Weights where
  branch : Fin 3 → Fin 512 → Fin 1024 → EReal
  out : Fin 1024 → Fin 1024 → EReal
  gain : Fin 1024 → EReal
  bias : Fin 1024 → EReal

/-- One branch's share of the merged row. -/
def share (r : Row) (w : Weights) (s : Fin 3) (d : Fin 1024) : EReal := r.gate s d * ∑ k, r.branch s k * w.branch s k d

def merged (r : Row) (w : Weights) (d : Fin 1024) : EReal := share r w 0 d + share r w 1 d + share r w 2 d

/-- The row before it is normalised; the scale is the float nearest to the square root of two. -/
def mixed (r : Row) (w : Weights) (d : Fin 1024) : EReal :=
  Ideal.ofBits .f32 0x3FB504F3#32 * r.self d + ∑ k, merged r w k * w.out k d

/-- The mean of a row of 1024. -/
def mean (z : Fin 1024 → EReal) : EReal := Ideal.div (∑ k, z k) (Ideal.ofBits .f32 0x44800000#32)

def centred (z : Fin 1024 → EReal) (d : Fin 1024) : EReal := z d - mean z

/-- The layer norm; what is added to the variance is the float nearest to `1e-5`. -/
def normal (z gain bias : Fin 1024 → EReal) (d : Fin 1024) : EReal :=
  centred z d * Ideal.rsqrt (mean (fun k => centred z k * centred z k) + Ideal.ofBits .f32 0x3727C5AC#32) * gain d + bias d

/-- The result at a row. -/
def result (r : Row) (w : Weights) (d : Fin 1024) : EReal := normal (mixed r w) w.gain w.bias d

end Cert.MergeSpec

end
-- ==== Proof.Merge.Tile.lean ====
/-
  What the merging's body computes for the rows of a tile, in exact arithmetic: at every row, the result of `Spec` of what
  the blocks hold there.
-/
module

public import proofs.«01_k».proof.Proof.Merge.Spec
public import proofs.«01_k».proof.Proof.Gen.Kernel4Ideal.Skeleton
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.Kernel4Ideal.Merge

open Cert.Kernel4Ideal Cert.Kernel4Ideal.Gen
open Idealize.ShloMosaic
open Idealize.ShloMosaic.ValueIdx (ix1 ix2)
open Cert.MergeSpec (Row Weights)
open scoped BigOperators

/-! ### The norm -/

/-- The sum of a row. -/
theorem row_sum (z : FVec Ideal S512x1024 .f32) (n : Fin 512) :
    multiReduction .add [1] S512 z 0x00000000#32 reduces_S512x1024_S512 (.inl rfl) rfl (ix1 n) = ∑ k : Fin 1024, z (ix2 n k) := by
  refine (Ideal.multiReduction_add_single z _ reduces_S512x1024_S512 (.inl rfl) rfl (ix1 n)).trans ?_
  refine Finset.sum_congr rfl fun k _ => congrArg z (funext fun a => Fin.ext ?_)
  match a with | ⟨0, _⟩ => rfl | ⟨1, _⟩ => rfl

/-- The means of a tile's rows, one beside another, -/
def means (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

theorem means_apply (z : FVec Ideal S512x1024 .f32) (n : Fin 512) :
    means z (ix2 n (0 : Fin 1)) = MergeSpec.mean fun k => z (ix2 n k) := by
  refine congrArg (fun s => Ideal.div s (Ideal.ofBits .f32 0x44800000#32)) (Eq.trans ?_ (row_sum z n))
  refine shapeCast_apply _ shapeCasts_S512_S512x1 _ (ix1 n) ?_
  rw [Shape.rowMajor_val_one, Shape.rowMajor_val_two]
  show n.val = n.val * 1 + 0; omega

/-- and a column of one number a row, repeated along the rows. -/
theorem along_apply (v : FVec Ideal S512x1 .f32) (n : Fin 512) (d : Fin 1024) :
    broadcastTo S512x1024 v broadcasts_S512x1_S512x1024 (ix2 n d) = v (ix2 n (0 : Fin 1)) :=
  broadcastTo_apply v _ _ _ fun a => match a with | ⟨0, _⟩ => rfl | ⟨1, _⟩ => rfl

def centred (z : FVec Ideal S512x1024 .f32) : FVec Ideal S512x1024 .f32 :=
  subf z (broadcastTo S512x1024 (means z) broadcasts_S512x1_S512x1024)

theorem centred_apply (z : FVec Ideal S512x1024 .f32) (n : Fin 512) (d : Fin 1024) :
    centred z (ix2 n d) = MergeSpec.centred (fun k => z (ix2 n k)) d :=
  congrArg (z (ix2 n d) - ·) ((along_apply (means z) n d).trans (means_apply z n))

/-- The body's norm, at a row. -/
theorem norm_apply (z : FVec Ideal S512x1024 .f32) (gain bias : Vec Ideal S1x1024 .f32) (n : Fin 512) (d : Fin 1024) :
    k0_pay5 (F := Ideal) z gain bias (ix2 n d)
      = MergeSpec.normal (fun k => z (ix2 n k)) (fun k => gain (ix2 (0 : Fin 1) k)) (fun k => bias (ix2 (0 : Fin 1) k)) d := by
  have spread : rsqrt (addf (means (mulf (centred z) (centred z))) (broadcast S512x1 (Scalar.ofBits .f32 0x3727C5AC#32))) (ix2 n (0 : Fin 1))
      = Ideal.rsqrt (MergeSpec.mean (fun k => MergeSpec.centred (fun k => z (ix2 n k)) k * MergeSpec.centred (fun k => z (ix2 n k)) k)
        + Ideal.ofBits .f32 0x3727C5AC#32) := by
    refine congrArg (fun v => Ideal.rsqrt (v + Ideal.ofBits .f32 0x3727C5AC#32)) ((means_apply _ n).trans (congrArg MergeSpec.mean (funext fun k => ?_)))
    exact congrArg₂ (· * ·) (centred_apply z n k) (centred_apply z n k)
  exact congrArg₂ (· + ·)
    (congrArg₂ (· * ·) (congrArg₂ (· * ·) (centred_apply z n d) ((along_apply _ n d).trans spread))
      (ValueIdx.broadcastTo_1b_ab_apply gain broadcasts_S1x1024_S512x1024 n d))
    (ValueIdx.broadcastTo_1b_ab_apply bias broadcasts_S1x1024_S512x1024 n d)

/-! ### The products -/

/-- A branch's product with its weights: a sum over the contracted coordinate, -/
theorem branch_apply (x : FVec Ideal S512x512 .bf16) (w : FVec Ideal S512x1024 .bf16) (n : Fin 512) (d : Fin 1024) :
    matmul dot_S512x512_S512x1024_S512x1024_1_0_0_1_n_n none x w (constant S512x1024 .f32 0x00000000#32) (ix2 n d)
      = ∑ k : Fin 512, x (ix2 n k) * w (ix2 k d) := by
  refine (Ideal.matmul_plain_apply (φ₁ := .bf16) (φ₂ := .bf16) none x w (constant S512x1024 .f32 0x00000000#32) n d).trans ?_
  change Ideal.ofBits .f32 0x00000000#32 + _ = _
  rw [Ideal.ofBits_zero_f32, zero_add]

/-- and the product with the output weights. -/
theorem out_apply (x : FVec Ideal S512x1024 .bf16) (w : FVec Ideal S1024x1024 .bf16) (n : Fin 512) (d : Fin 1024) :
    matmul dot_S512x1024_S1024x1024_S512x1024_1_0_0_1_n_n none x w (constant S512x1024 .f32 0x00000000#32) (ix2 n d)
      = ∑ k : Fin 1024, x (ix2 n k) * w (ix2 k d) := by
  refine (Ideal.matmul_plain_apply (φ₁ := .bf16) (φ₂ := .bf16) none x w (constant S512x1024 .f32 0x00000000#32) n d).trans ?_
  change Ideal.ofBits .f32 0x00000000#32 + _ = _
  rw [Ideal.ofBits_zero_f32, zero_add]

/-! ### A tile -/

/-- The blocks that differ from tile to tile, -/
structure Blocks where
  branch : Fin 3 → Vec Ideal S512x512 .bf16
  gate : Fin 3 → Vec Ideal S512x1024 .bf16
  self : Vec Ideal S512x1024 .f32

/-- and those that do not. -/
structure Fixed where
  branch : Fin 3 → Vec Ideal S512x1024 .bf16
  out : Vec Ideal S1024x1024 .bf16
  gain : Vec Ideal S1x1024 .f32
  bias : Vec Ideal S1x1024 .f32

def Blocks.row (b : Blocks) (n : Fin 512) : Row :=
  ⟨fun s k => b.branch s (ix2 n k), fun s d => b.gate s (ix2 n d), fun d => b.self (ix2 n d)⟩

def Fixed.weights (f : Fixed) : Weights :=
  ⟨fun s k d => f.branch s (ix2 k d), fun k d => f.out (ix2 k d), fun d => f.gain (ix2 (0 : Fin 1) d), fun d => f.bias (ix2 (0 : Fin 1) d)⟩

/-- The tile before the norm, and after it. -/
def mixedTile (b : Blocks) (f : Fixed) : FVec Ideal S512x1024 .f32 :=
  k0_pay4 (F := Ideal) (b.gate 0) (b.branch 0) (f.branch 0) (b.gate 1) (b.branch 1) (f.branch 1) (b.gate 2) (b.branch 2) (f.branch 2) f.out b.self

def tile (b : Blocks) (f : Fixed) : FVec Ideal S512x1024 .f32 := k0_pay5 (F := Ideal) (mixedTile b f) f.gain f.bias

theorem mixed_apply (b : Blocks) (f : Fixed) (n : Fin 512) (d : Fin 1024) :
    mixedTile b f (ix2 n d) = MergeSpec.mixed (b.row n) f.weights d := by
  refine congrArg (Ideal.ofBits .f32 0x3FB504F3#32 * b.self (ix2 n d) + ·) ((out_apply _ f.out n d).trans (Finset.sum_congr rfl fun k _ => ?_))
  have share : ∀ s : Fin 3, mulf (F := Ideal) (extf .f32 (b.gate s) bitsLt_bf16_f32)
      (matmul (F := Ideal) (φ₁ := .bf16) (φ₂ := .bf16) dot_S512x512_S512x1024_S512x1024_1_0_0_1_n_n none (b.branch s) (f.branch s) (constant S512x1024 .f32 0x00000000#32)) (ix2 n k)
      = MergeSpec.share (b.row n) f.weights s k := fun s =>
    congrArg (fun p : EReal => (b.gate s (ix2 n k) : EReal) * p) (branch_apply (b.branch s) (f.branch s) n k)
  exact congrArg (fun p : EReal => p * (f.out (ix2 k d) : EReal)) (congrArg₂ (fun p q : EReal => p + q) (congrArg₂ (fun p q : EReal => p + q) (share 0) (share 1)) (share 2))

theorem tile_apply (b : Blocks) (f : Fixed) (n : Fin 512) (d : Fin 1024) :
    tile b f (ix2 n d) = MergeSpec.result (b.row n) f.weights d :=
  (norm_apply (mixedTile b f) f.gain f.bias n d).trans
    (congrArg (fun z => MergeSpec.normal z f.weights.gain f.weights.bias d) (funext fun k => mixed_apply b f n k))

end Cert.Kernel4Ideal.Merge

end
-- ==== Proof.Merge.Stored.lean ====
/-
  What a point of the merging's grid leaves in the block of its first result: the norm of the merged rows of the blocks it
  is given, at the first point of the grid, which also clears the counts, as at the others.
-/
module

public import proofs.«01_k».proof.Proof.Gen.Kernel4Ideal.Frame
public import Idealize.ShloMosaic.Lib.VecWindow
public import Idealize.ShloMosaic.Lib.WritesUnit

@[expose] public section

set_option maxRecDepth 65536

noncomputable section

namespace Cert.Kernel4Ideal.Merge

open Cert.Kernel4Ideal Cert.Kernel4Ideal.Gen
open Idealize.ShloMosaic Idealize.ShloMosaic.TcCoe

variable {F : FTy → Type} [FloatOps F]

/-- What a load of the whole of a block reads, when the block holds `x`: `x`; -/
def load {s : Shape} {e : EltTy} (a : Memref sig .tc .vmem s e) (ha : a.IsWhole) (x : Vec F s e) {off : Fin s.rank → ℕ}
    (inb : ∀ b, off b + s.size b ≤ s.size b) : Vec F s e :=
  a.view.readAt (Elt F) (Rect.unit off s.size inb).toLoadRect (ha.unread x)

theorem load_eq {s : Shape} {e : EltTy} (a : Memref sig .tc .vmem s e) (ha : a.IsWhole) (x : Vec F s e) {off : Fin s.rank → ℕ}
    (inb : ∀ b, off b + s.size b ≤ s.size b) : load a ha x inb = x :=
  (View.readAt_full a.view (ha.unread x) inb).trans (ha.read_unread x)

/-- and one write of the whole of a buffer, read back. -/
theorem read_write (v : View sig .tc .vmem S512x1024 .f32) (f : v.ty.Contents (Elt F)) (w : Vec F S512x1024 .f32) :
    v.read (Elt F) (v.writes (Elt F) f [⟨Rect.unit ![0, 0] S512x1024.size inb_S512x1024_S512x1024_0_0, w⟩]) = w :=
  funext fun y => View.read_writes_cons_unit_of_mem v f inb_S512x1024_S512x1024_0_0 w [] y y rfl fun a =>
    match a with | ⟨0, _⟩ => (Nat.zero_add _).symm | ⟨1, _⟩ => (Nat.zero_add _).symm

variable (c : Dev nD) (i : grid0.Coords)
  (arg1 : Memref sig .tc .vmem S512x512 .bf16) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S512x1024 .bf16) (harg6 : arg6.IsWhole)
  (arg7 : Memref sig .tc .vmem S512x1024 .f32) (harg7 : arg7.IsWhole) (arg8 : Memref sig .tc .vmem S512x1024 .bf16) (harg8 : arg8.IsWhole)
  (arg9 : Memref sig .tc .vmem S512x1024 .bf16) (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S16x1024 .f32) (harg14 : arg14.IsWhole)
  (arg15 : Memref sig .tc .vmem S16x1 .f32) (harg15 : arg15.IsWhole) (arg16 : Memref sig .tc .vmem S512x1024 .f32) (harg16 : arg16.IsWhole)
  (arg17 : Memref sig .tc .vmem S8x512 .i32) (harg17 : arg17.IsWhole) (arg18 : Memref sig .tc .vmem S8x512 .f32) (harg18 : arg18.IsWhole)
  (arg19 : Memref sig .tc .vmem S16x128 .f32) (harg19 : arg19.IsWhole) (arg20 : Memref sig .tc .vmem S16x512 .f32) (harg20 : arg20.IsWhole)
  (arg21 : Memref sig .tc .vmem S16x1 .f32) (harg21 : arg21.IsWhole)
  (x0 : Vec F S512x512 .bf16) (x1 : Vec F S512x512 .bf16) (x2 : Vec F S512x512 .bf16) (x3 : Vec F S512x1024 .bf16) (x4 : Vec F S512x1024 .bf16)
  (x5 : Vec F S512x1024 .bf16) (x6 : Vec F S512x1024 .f32) (x7 : Vec F S512x1024 .bf16) (x8 : Vec F S512x1024 .bf16) (x9 : Vec F S512x1024 .bf16)
  (x10 : Vec F S1024x1024 .bf16) (x11 : Vec F S1x1024 .f32) (x12 : Vec F S1x1024 .f32) (x13 : Vec F S16x1024 .f32) (x14 : Vec F S16x1 .f32)

/-- The rows that the body computes from its loads are those of the blocks. -/
theorem loads_eq :
    k0_pay5 (F := F) (k0_pay4 (load arg4 harg4 x3 inb_S512x1024_S512x1024_0_0) (load arg1 harg1 x0 inb_S512x512_S512x512_0_0) (load arg8 harg8 x7 inb_S512x1024_S512x1024_0_0)
        (load arg5 harg5 x4 inb_S512x1024_S512x1024_0_0) (load arg2 harg2 x1 inb_S512x512_S512x512_0_0) (load arg9 harg9 x8 inb_S512x1024_S512x1024_0_0)
        (load arg6 harg6 x5 inb_S512x1024_S512x1024_0_0) (load arg3 harg3 x2 inb_S512x512_S512x512_0_0) (load arg10 harg10 x9 inb_S512x1024_S512x1024_0_0)
        (load arg11 harg11 x10 inb_S1024x1024_S1024x1024_0_0) (load arg7 harg7 x6 inb_S512x1024_S512x1024_0_0))
      (load arg12 harg12 x11 inb_S1x1024_S1x1024_0_0) (load arg13 harg13 x12 inb_S1x1024_S1x1024_0_0)
      = k0_pay5 (k0_pay4 x3 x0 x7 x4 x1 x8 x5 x2 x9 x10 x6) x11 x12 := by
  simp only [load_eq]

/-- The first point's rows, -/
theorem rows_A (hc : cond0_0 i) :
    out0_A_15 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 hc
        x0 x1 x2 x3 x4 x5 x6 x7 x8 x9 x10 x11 x12 x13 x14
      = k0_pay5 (k0_pay4 x3 x0 x7 x4 x1 x8 x5 x2 x9 x10 x6) x11 x12 := by
  unfold out0_A_15 kernelRun0_A
  exact (read_write VO0_15 _ _).trans (loads_eq arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7 x8 x9 x10 x11 x12)

/-- and the other points'. -/
theorem rows_B (hc : ¬cond0_0 i) (xs1 : Vec F S16x1 .f32) :
    out0_B_15 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 hc
        x0 x1 x2 x3 x4 x5 x6 x7 x8 x9 x10 x11 x12 x13 x14 xs1
      = k0_pay5 (k0_pay4 x3 x0 x7 x4 x1 x8 x5 x2 x9 x10 x6) x11 x12 := by
  unfold out0_B_15 kernelRun0_B
  exact (read_write VO0_15 _ _).trans (loads_eq arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7 x8 x9 x10 x11 x12)

end Cert.Kernel4Ideal.Merge

end
-- ==== Proof.Merge.KernelValue.lean ====
/-
  The first array that the merging's call leaves, in exact arithmetic: every grid point writes 512 rows of the result of
  `Spec`, and the tiles cover the array.
-/
module

public import proofs.«01_k».proof.Proof.Merge.Tile
public import proofs.«01_k».proof.Proof.Merge.Stored
public import proofs.«01_k».proof.Proof.Gen.Kernel4Ideal.Value
public import Idealize.ShloMosaic.Lib.Pipeline.ValueKit.Basic
public import Idealize.ShloMosaic.Lib.WordCmp

@[expose] public section

set_option maxRecDepth 16384

noncomputable section

namespace Cert.Kernel4Ideal.Merge

open Cert.Kernel4Ideal Cert.Kernel4Ideal.Gen
open Idealize.ShloMosaic Idealize.ShloMosaic.TcCoe Idealize.SL.Sem
open Idealize.ShloMosaic.ValueIdx (ix2)
open Cert.MergeSpec (Row Weights)
open scoped BigOperators

variable (m : (ℓ : Loc nD τ sig) → Buf (Elt Ideal) ℓ) (c : Dev nD)

/-! ### The arguments -/

/-- The arguments that the tiles cut, -/
def branches : Fin 3 → Vec Ideal S16384x512 .bf16 :=
  ![m ((c : Thread nD τ).loc main_arg0), m ((c : Thread nD τ).loc main_arg1), m ((c : Thread nD τ).loc main_arg2)]

def gates : Fin 3 → Vec Ideal S16384x1024 .bf16 :=
  ![m ((c : Thread nD τ).loc main_arg3), m ((c : Thread nD τ).loc main_arg4), m ((c : Thread nD τ).loc main_arg5)]

/-- by rows, -/
def rowAt (r : Fin 16384) : Row :=
  ⟨fun s k => branches m c s (ix2 r k), fun s d => gates m c s (ix2 r d),
    fun d => (m ((c : Thread nD τ).loc main_arg6) : Vec Ideal S16384x1024 .f32) (ix2 r d)⟩

/-- and those that every point is given whole. -/
def fixed : Fixed :=
  ⟨![m ((c : Thread nD τ).loc main_arg7), m ((c : Thread nD τ).loc main_arg8), m ((c : Thread nD τ).loc main_arg9)],
    m ((c : Thread nD τ).loc main_arg10), m ((c : Thread nD τ).loc main_arg11), m ((c : Thread nD τ).loc main_arg12)⟩

/-- The array of the results. -/
def array : Vec Ideal S16384x1024 .f32 := fun y => MergeSpec.result (rowAt m c (y 0)) (fixed m c).weights (y 1)

/-! ### The grid -/

theorem t_lt (t : Fin grid0.N) : t.val < 32 := lt_of_lt_of_eq t.isLt N_0

theorem coords_val : ∀ t : Fin grid0.N, ((grid0.coords t) 0).val = t.val := by decide +kernel

/-- Row `n` of the tile of point `t`. -/
def row (t : Fin grid0.N) (n : Fin 512) : Fin 16384 := ⟨512 * t.val + n.val, by have := t_lt t; omega⟩

/-- Point `t` is given, and writes, tile `t` of the rows. -/
theorem transform_eq (t : Fin grid0.N) : cc0_transform_15 (grid0.coords t) = ![t.val, 0] := by
  unfold cc0_transform_15
  have := t_lt t
  have h : (BitVec.ofNat 32 ((grid0.coords t) 0).val).toNat = t.val := by
    rw [coords_val]; exact WordCmp.toNat_ofNat_of_lt (by omega)
  exact congrArg (fun z : ℕ => ![z, 0]) h

/-- The place of a tile's entry in an array with rows of 1024, -/
theorem place (t : Fin grid0.N) (n : Fin 512) (d : Fin 1024) :
    (win0_15.rect t).emb (ix2 n d : S512x1024.Idx) = (ix2 (row t n) d : S16384x1024.Idx) := by
  funext x
  apply Fin.ext
  match x with
  | ⟨0, _⟩ =>
    show cc0_transform_15 (grid0.coords t) 0 * 512 + 1 * n.val = 512 * t.val + n.val
    rw [transform_eq]; show t.val * 512 + 1 * n.val = _; omega
  | ⟨1, _⟩ =>
    show cc0_transform_15 (grid0.coords t) 1 * 1024 + 1 * d.val = d.val
    rw [transform_eq]; show 0 * 1024 + 1 * d.val = _; omega

/-- and in one with rows of 512. -/
theorem place' (t : Fin grid0.N) (n k : Fin 512) :
    (win0_0.rect t).emb (ix2 n k : S512x512.Idx) = (ix2 (row t n) k : S16384x512.Idx) := by
  funext x
  apply Fin.ext
  match x with
  | ⟨0, _⟩ =>
    show cc0_transform_15 (grid0.coords t) 0 * 512 + 1 * n.val = 512 * t.val + n.val
    rw [transform_eq]; show t.val * 512 + 1 * n.val = _; omega
  | ⟨1, _⟩ =>
    show cc0_transform_15 (grid0.coords t) 1 * 512 + 1 * k.val = k.val
    rw [transform_eq]; show 0 * 512 + 1 * k.val = _; omega

/-- Every index of the result is in the tile of some point. -/
theorem covered (i : S16384x1024.Idx) : ∃ t : Fin grid0.N, i ∈ (win0_15.rect t).set := by
  have h0 : (i 0 : Nat) < 16384 := (i 0).isLt
  have h1 : (i 1 : Nat) < 1024 := (i 1).isLt
  have hN : grid0.N = 32 := N_0
  let t : Fin grid0.N := ⟨(i 0 : Nat) / 512, by omega⟩
  refine ⟨t, Rect.mem_set_unit.mpr fun a => ?_⟩
  match a with
  | ⟨0, _⟩ =>
    show cc0_transform_15 (grid0.coords t) 0 * 512 ≤ (i 0 : Nat) ∧ (i 0 : Nat) < cc0_transform_15 (grid0.coords t) 0 * 512 + 512
    rw [transform_eq]
    show (i 0 : Nat) / 512 * 512 ≤ (i 0 : Nat) ∧ (i 0 : Nat) < (i 0 : Nat) / 512 * 512 + 512; omega
  | ⟨1, _⟩ =>
    show cc0_transform_15 (grid0.coords t) 1 * 1024 ≤ (i 1 : Nat) ∧ (i 1 : Nat) < cc0_transform_15 (grid0.coords t) 1 * 1024 + 1024
    rw [transform_eq]; show 0 * 1024 ≤ (i 1 : Nat) ∧ (i 1 : Nat) < 0 * 1024 + 1024; omega

/-! ### The blocks -/

/-- The blocks of a point that differ from tile to tile. -/
def blocks (t : Fin grid0.N) : Blocks :=
  ⟨![iblk m c 0 t, iblk m c 1 t, iblk m c 2 t], ![iblk m c 3 t, iblk m c 4 t, iblk m c 5 t], iblk m c 6 t⟩

theorem branch_block (t : Fin grid0.N) (s : Fin 3) (n k : Fin 512) :
    (blocks m c t).branch s (ix2 n k) = branches m c s (ix2 (row t n) k) :=
  match s with
  | 0 => congrArg (V m c main_arg0) (place' t n k)
  | 1 => congrArg (V m c main_arg1) (place' t n k)
  | 2 => congrArg (V m c main_arg2) (place' t n k)

theorem gate_block (t : Fin grid0.N) (s : Fin 3) (n : Fin 512) (d : Fin 1024) :
    (blocks m c t).gate s (ix2 n d) = gates m c s (ix2 (row t n) d) :=
  match s with
  | 0 => congrArg (V m c main_arg3) (place t n d)
  | 1 => congrArg (V m c main_arg4) (place t n d)
  | 2 => congrArg (V m c main_arg5) (place t n d)

/-- Their rows are the rows of the tile. -/
theorem row_block (t : Fin grid0.N) (n : Fin 512) : (blocks m c t).row n = rowAt m c (row t n) := by
  unfold Blocks.row rowAt
  congr 1
  · exact funext fun s => funext fun k => branch_block m c t s n k
  · exact funext fun s => funext fun d => gate_block m c t s n d
  · exact funext fun d => congrArg (V m c main_arg6) (place t n d)

/-- A block of an array's own sizes has every entry in its own place, -/
theorem whole_emb {s : Shape} {off : Fin s.rank → ℕ} (h : ∀ a, off a = 0) (inb : ∀ a, off a + s.size a ≤ s.size a) (y : s.Idx) :
    (Rect.unit off s.size inb).emb y = y :=
  funext fun a => Fin.ext (by show off a + 1 * (y a).val = (y a).val; rw [h a]; omega)

theorem zero_offset (sz : Fin 2 → ℕ) : ∀ a : Fin 2, (![0, 0] : Fin 2 → ℕ) a * sz a = 0
  | 0 => Nat.zero_mul _
  | 1 => Nat.zero_mul _

/-- so that the blocks that do not differ from tile to tile -/
def fixedBlocks (t : Fin grid0.N) : Fixed :=
  ⟨![iblk m c 7 t, iblk m c 8 t, iblk m c 9 t], iblk m c 10 t, iblk m c 11 t, iblk m c 12 t⟩

/-- are the arguments. -/
theorem fixed_block (t : Fin grid0.N) : fixedBlocks m c t = fixed m c := by
  unfold fixedBlocks fixed
  congr 1
  · refine funext fun s => ?_
    match s with
    | 0 => exact funext fun y => congrArg (V m c main_arg7) (whole_emb (zero_offset _) _ y)
    | 1 => exact funext fun y => congrArg (V m c main_arg8) (whole_emb (zero_offset _) _ y)
    | 2 => exact funext fun y => congrArg (V m c main_arg9) (whole_emb (zero_offset _) _ y)
  · exact funext fun y => congrArg (V m c main_arg10) (whole_emb (zero_offset _) _ y)
  · exact funext fun y => congrArg (V m c main_arg11) (whole_emb (zero_offset _) _ y)
  · exact funext fun y => congrArg (V m c main_arg12) (whole_emb (zero_offset _) _ y)

/-! ### The array -/

/-- The tile of the blocks of a point is its tile of the array. -/
theorem tile_eq (t : Fin grid0.N) : tile (blocks m c t) (fixedBlocks m c t) = fun j => array m c ((win0_15.rect t).emb j) := by
  refine funext fun (j : S512x1024.Idx) => ?_
  obtain ⟨n, d, rfl⟩ : ∃ (n : Fin 512) (d : Fin 1024), j = ix2 n d := ⟨j 0, j 1, ValueIdx.eq_ix2 j⟩
  refine Eq.trans ?_ (congrArg (array m c) (place t n d)).symm
  rw [tile_apply, row_block, fixed_block]
  rfl

/-- What a point writes back. -/
theorem flushed_eq (t : Fin grid0.N) : (dats m 0 c).flushed 15 t = fun j => array m c ((win0_15.rect t).emb j) := by
  by_cases h0 : t.val % 32 = 0
  · exact (Value.flushed15_A m c t h0).trans ((congrArg ((cfg0.win 15).cut (grid0.coords t)) (rows_A ..)).trans (tile_eq m c t))
  · exact (Value.flushed15_B m c t h0).trans ((congrArg ((cfg0.win 15).cut (grid0.coords t)) (rows_B ..)).trans (tile_eq m c t))

/-- The final array. -/
theorem final : (dats m 0 c).arrAt 15 cfg0.N = array m c :=
  (dats m 0 c).arrAt_eq_of_cover 15 (array m c) (fun t _ => flushed_eq m c t) fun (i : S16384x1024.Idx) => by
    obtain ⟨t, ht⟩ := covered i
    exact ⟨t, flush0_15 t, Eq.mpr (congrArg (i ∈ ·) (View.set_slice_whole main_v0_0 (win0_15.rect t))) ht⟩

end Cert.Kernel4Ideal.Merge

end
-- ==== Proof.Merge.RefValue.lean ====
/-
  The merging's reference at an index: three products, the gates, the product with the output weights, the scaled row added
  and the layer norm.  An element of its result is the result of `Spec`.
-/
module

public import proofs.«01_k».proof.Proof.Merge.Spec
public import proofs.«01_k».proof.Proof.Gen.Reference4Ideal.Read
public import Idealize.ShloMosaic.Lib.IdealHost
public import Idealize.ShloMosaic.Lib.ValueIdx

@[expose] public section

set_option maxRecDepth 16384

noncomputable section

namespace Cert.Reference4Ideal.Merge

open Idealize.ShloMosaic Cert.Reference4Ideal Cert.Reference4Ideal.Gen Cert.Reference4Ideal.Read
open Idealize.ShloMosaic.ValueIdx (ix1 ix2)
open Cert.MergeSpec (Row Weights)
open scoped BigOperators

/-- An index with two coordinates is known by them. -/
theorem idx_eq {a b : ℕ} {i j : (⟨2, ![a, b]⟩ : Shape).Idx} (h0 : (i 0).val = (j 0).val) (h1 : (i 1).val = (j 1).val) : i = j :=
  funext fun x => Fin.ext (match x with | ⟨0, _⟩ => h0 | ⟨1, _⟩ => h1)

variable (x0 x1 x2 : Vec Ideal S16384x512 .bf16) (x3 x4 x5 : Vec Ideal S16384x1024 .bf16) (x6 : Vec Ideal S16384x1024 .f32)
  (x7 x8 x9 : Vec Ideal S512x1024 .bf16) (x10 : Vec Ideal S1024x1024 .bf16) (x11 x12 : Vec Ideal S1x1024 .f32)

/-- The arguments, by coordinates. -/
def rowAt (r : Fin 16384) : Row :=
  ⟨fun s k => (![x0, x1, x2] : Fin 3 → Vec Ideal S16384x512 .bf16) s (ix2 r k),
    fun s d => (![x3, x4, x5] : Fin 3 → Vec Ideal S16384x1024 .bf16) s (ix2 r d), fun d => x6 (ix2 r d)⟩

def weights : Weights :=
  ⟨fun s k d => (![x7, x8, x9] : Fin 3 → Vec Ideal S512x1024 .bf16) s (ix2 k d), fun k d => x10 (ix2 k d),
    fun d => x11 (ix2 (0 : Fin 1) d), fun d => x12 (ix2 (0 : Fin 1) d)⟩

/-- A branch's product; it is the same operation for the three. -/
theorem product_apply (r : Fin 16384) (d : Fin 1024) :
    val_main_v0 (F := Ideal) x0 x7 (ix2 r d) = ∑ k, x0 (ix2 r k) * x7 (ix2 k d) := by
  rw [val_main_v0_apply]
  exact Finset.sum_congr rfl fun k _ => congrArg₂ (· * ·) (congrArg x0 (idx_eq rfl rfl)) (congrArg x7 (idx_eq rfl rfl))

/-- The merged row. -/
theorem merged_apply (r : Fin 16384) (d : Fin 1024) :
    val_main_v10 (F := Ideal) x0 x1 x2 x3 x4 x5 x7 x8 x9 (ix2 r d)
      = MergeSpec.merged (rowAt x0 x1 x2 x3 x4 x5 x6 r) (weights x7 x8 x9 x10 x11 x12) d :=
  congrArg₂ (fun p q : EReal => p + q) (congrArg₂ (fun p q : EReal => p + q)
    (congrArg (fun p : EReal => (x3 (ix2 r d) : EReal) * p) (product_apply x0 x7 r d))
    (congrArg (fun p : EReal => (x4 (ix2 r d) : EReal) * p) (product_apply x1 x8 r d)))
    (congrArg (fun p : EReal => (x5 (ix2 r d) : EReal) * p) (product_apply x2 x9 r d))

/-- The row before the norm. -/
theorem mixed_apply (r : Fin 16384) (d : Fin 1024) :
    val_main_v15 (F := Ideal) x0 x1 x2 x3 x4 x5 x6 x7 x8 x9 x10 (ix2 r d)
      = MergeSpec.mixed (rowAt x0 x1 x2 x3 x4 x5 x6 r) (weights x7 x8 x9 x10 x11 x12) d := by
  rw [val_main_v15_apply, val_main_v14_apply, val_main_v13_apply, val_main_v12_apply]
  refine congrArg (fun p : EReal => Ideal.ofBits .f32 0x3FB504F3#32 * (x6 (ix2 r d) : EReal) + p) (Finset.sum_congr rfl fun k _ => ?_)
  refine congrArg₂ (fun p q : EReal => p * q) ?_ (congrArg x10 (idx_eq rfl rfl))
  exact (congrArg _ (idx_eq rfl rfl : lidx_main_v12 (ix2 r d) k = ix2 r k)).trans (merged_apply x0 x1 x2 x3 x4 x5 x6 x7 x8 x9 x10 x11 x12 r k)

/-- Its mean. -/
theorem mean_apply (r : Fin 16384) :
    val_main_v19 (F := Ideal) x0 x1 x2 x3 x4 x5 x6 x7 x8 x9 x10 (ix2 r (0 : Fin 1))
      = MergeSpec.mean (MergeSpec.mixed (rowAt x0 x1 x2 x3 x4 x5 x6 r) (weights x7 x8 x9 x10 x11 x12)) := by
  rw [val_main_v19_apply, val_main_v17_apply, val_main_v16_apply, val_main_v18_apply]
  refine congrArg (fun p => Ideal.div p (Ideal.ofBits .f32 0x44800000#32)) ?_
  refine (congrArg (fun p : EReal => p + _) Ideal.ofBits_zero_f32).trans ((zero_add _).trans (Finset.sum_congr rfl fun k _ => ?_))
  exact (congrArg (val_main_v15 (F := Ideal) x0 x1 x2 x3 x4 x5 x6 x7 x8 x9 x10)
    (idx_eq rfl rfl : idx_main_v16 (idx_main_v17 (ix2 r (0 : Fin 1))) k = ix2 r k)).trans (mixed_apply x0 x1 x2 x3 x4 x5 x6 x7 x8 x9 x10 x11 x12 r k)

/-- What is normalised; the program computes it twice. -/
theorem centred_apply (r : Fin 16384) (d : Fin 1024) :
    val_main_v21 (F := Ideal) x0 x1 x2 x3 x4 x5 x6 x7 x8 x9 x10 (ix2 r d)
      = MergeSpec.centred (MergeSpec.mixed (rowAt x0 x1 x2 x3 x4 x5 x6 r) (weights x7 x8 x9 x10 x11 x12)) d := by
  rw [val_main_v21_apply, val_main_v20_apply]
  exact congrArg₂ (fun p q : EReal => p - q) (mixed_apply x0 x1 x2 x3 x4 x5 x6 x7 x8 x9 x10 x11 x12 r d)
    ((congrArg (val_main_v19 (F := Ideal) x0 x1 x2 x3 x4 x5 x6 x7 x8 x9 x10)
      (idx_eq rfl rfl : idx_main_v20 (ix2 r d) = ix2 r (0 : Fin 1))).trans (mean_apply x0 x1 x2 x3 x4 x5 x6 x7 x8 x9 x10 x11 x12 r))

/-- One over the spread. -/
theorem spread_apply (r : Fin 16384) :
    val_main_v31 (F := Ideal) x0 x1 x2 x3 x4 x5 x6 x7 x8 x9 x10 (ix2 r (0 : Fin 1))
      = Ideal.rsqrt (MergeSpec.mean (fun k =>
          MergeSpec.centred (MergeSpec.mixed (rowAt x0 x1 x2 x3 x4 x5 x6 r) (weights x7 x8 x9 x10 x11 x12)) k
            * MergeSpec.centred (MergeSpec.mixed (rowAt x0 x1 x2 x3 x4 x5 x6 r) (weights x7 x8 x9 x10 x11 x12)) k)
        + Ideal.ofBits .f32 0x3727C5AC#32) := by
  rw [val_main_v31_apply, val_main_v30_apply, val_main_v26_apply, val_main_v24_apply, val_main_v23_apply, val_main_v25_apply, val_main_v29_apply]
  refine congrArg (fun p => Ideal.rsqrt (Ideal.div p (Ideal.ofBits .f32 0x44800000#32) + Ideal.ofBits .f32 0x3727C5AC#32)) ?_
  refine (congrArg (fun p : EReal => p + _) Ideal.ofBits_zero_f32).trans ((zero_add _).trans (Finset.sum_congr rfl fun k _ => ?_))
  have e := (congrArg (val_main_v21 (F := Ideal) x0 x1 x2 x3 x4 x5 x6 x7 x8 x9 x10) (idx_eq rfl rfl :
    idx_main_v23 (idx_main_v24 (ix2 r (0 : Fin 1))) k = ix2 r k)).trans (centred_apply x0 x1 x2 x3 x4 x5 x6 x7 x8 x9 x10 x11 x12 r k)
  exact congrArg₂ (fun p q : EReal => p * q) e e

/-- The result. -/
theorem result_apply (r : Fin 16384) (d : Fin 1024) :
    val_main_v37 (F := Ideal) x0 x1 x2 x3 x4 x5 x6 x7 x8 x9 x10 x11 x12 (ix2 r d)
      = MergeSpec.result (rowAt x0 x1 x2 x3 x4 x5 x6 r) (weights x7 x8 x9 x10 x11 x12) d := by
  rw [val_main_v37_apply, val_main_v35_apply, val_main_v33_apply, val_main_v32_apply, val_main_v34_apply, val_main_v36_apply]
  refine congrArg₂ (fun p q : EReal => p + q) (congrArg₂ (fun p q : EReal => p * q) (congrArg₂ (fun p q : EReal => p * q) ?_ ?_)
    (congrArg x11 (idx_eq rfl rfl))) (congrArg x12 (idx_eq rfl rfl))
  · exact centred_apply x0 x1 x2 x3 x4 x5 x6 x7 x8 x9 x10 x11 x12 r d
  · exact (congrArg (val_main_v31 (F := Ideal) x0 x1 x2 x3 x4 x5 x6 x7 x8 x9 x10)
      (idx_eq rfl rfl : idx_main_v32 (ix2 r d) = ix2 r (0 : Fin 1))).trans (spread_apply x0 x1 x2 x3 x4 x5 x6 x7 x8 x9 x10 x11 x12 r)

end Cert.Reference4Ideal.Merge

end
-- ==== Proof.Merge.Agree.lean ====
/-
  The claims about the merging: kernel and reference run and leave their arguments and semaphores as they found them, and
  both leave the rows of `Spec`.
-/
module

public import proofs.«01_k».proof.Defs
public import proofs.«01_k».proof.Proof.Gen.Kernel4.Frame
public import proofs.«01_k».proof.Proof.Gen.Reference4Ideal.Run
public import proofs.«01_k».proof.Proof.Merge.KernelValue
public import proofs.«01_k».proof.Proof.Merge.RefValue

@[expose] public section

noncomputable section

namespace Cert.Merge

open Idealize.ShloMosaic Idealize.SL.Sem
open Idealize.ShloMosaic.ValueIdx (ix2)

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) :=
  fun m ρ _ => Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The merging's kernel is its own idealized reading. -/
theorem preserves : Cert.preserves_Kernel4_Kernel4Ideal := trivial

/-- The results agree, when the arguments do. -/
theorem array_eq (m : (ℓ : Loc Cert.Kernel4Ideal.nD Cert.Kernel4Ideal.τ Cert.Kernel4Ideal.sig) → Buf (Elt Ideal) ℓ) (c : Dev Cert.Kernel4Ideal.nD)
    (x0 x1 x2 : Vec Ideal Cert.Reference4Ideal.S16384x512 .bf16)
    (x3 x4 x5 : Vec Ideal Cert.Reference4Ideal.S16384x1024 .bf16)
    (x6 : Vec Ideal Cert.Reference4Ideal.S16384x1024 .f32)
    (x7 x8 x9 : Vec Ideal Cert.Reference4Ideal.S512x1024 .bf16)
    (x10 : Vec Ideal Cert.Reference4Ideal.S1024x1024 .bf16)
    (x11 x12 : Vec Ideal Cert.Reference4Ideal.S1x1024 .f32)
    (e0 : x0 = m ((c.tc : Thread Cert.Kernel4Ideal.nD Cert.Kernel4Ideal.τ).loc Cert.Kernel4Ideal.main_arg0))
    (e1 : x1 = m ((c.tc : Thread Cert.Kernel4Ideal.nD Cert.Kernel4Ideal.τ).loc Cert.Kernel4Ideal.main_arg1))
    (e2 : x2 = m ((c.tc : Thread Cert.Kernel4Ideal.nD Cert.Kernel4Ideal.τ).loc Cert.Kernel4Ideal.main_arg2))
    (e3 : x3 = m ((c.tc : Thread Cert.Kernel4Ideal.nD Cert.Kernel4Ideal.τ).loc Cert.Kernel4Ideal.main_arg3))
    (e4 : x4 = m ((c.tc : Thread Cert.Kernel4Ideal.nD Cert.Kernel4Ideal.τ).loc Cert.Kernel4Ideal.main_arg4))
    (e5 : x5 = m ((c.tc : Thread Cert.Kernel4Ideal.nD Cert.Kernel4Ideal.τ).loc Cert.Kernel4Ideal.main_arg5))
    (e6 : x6 = m ((c.tc : Thread Cert.Kernel4Ideal.nD Cert.Kernel4Ideal.τ).loc Cert.Kernel4Ideal.main_arg6))
    (e7 : x7 = m ((c.tc : Thread Cert.Kernel4Ideal.nD Cert.Kernel4Ideal.τ).loc Cert.Kernel4Ideal.main_arg7))
    (e8 : x8 = m ((c.tc : Thread Cert.Kernel4Ideal.nD Cert.Kernel4Ideal.τ).loc Cert.Kernel4Ideal.main_arg8))
    (e9 : x9 = m ((c.tc : Thread Cert.Kernel4Ideal.nD Cert.Kernel4Ideal.τ).loc Cert.Kernel4Ideal.main_arg9))
    (e10 : x10 = m ((c.tc : Thread Cert.Kernel4Ideal.nD Cert.Kernel4Ideal.τ).loc Cert.Kernel4Ideal.main_arg10))
    (e11 : x11 = m ((c.tc : Thread Cert.Kernel4Ideal.nD Cert.Kernel4Ideal.τ).loc Cert.Kernel4Ideal.main_arg11))
    (e12 : x12 = m ((c.tc : Thread Cert.Kernel4Ideal.nD Cert.Kernel4Ideal.τ).loc Cert.Kernel4Ideal.main_arg12)) :
    Cert.Reference4Ideal.Read.val_main_v37 (F := Ideal) x0 x1 x2 x3 x4 x5 x6 x7 x8 x9 x10 x11 x12
      = Cert.Kernel4Ideal.Merge.array m c := by
  subst e0 e1 e2 e3 e4 e5 e6 e7 e8 e9 e10 e11 e12
  exact funext fun (y : Cert.Reference4Ideal.S16384x1024.Idx) =>
    (congrArg _ (ValueIdx.eq_ix2 y)).trans (Cert.Reference4Ideal.Merge.result_apply _ _ _ _ _ _ _ _ _ _ _ _ _ (y 0) (y 1))

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Merge.array m c, ?_, ?_⟩
  · exact (θ_run Cert.Kernel4Ideal.defs _ _).mono (fun r h c => ⟨(h c).1.trans (Cert.Kernel4Ideal.Merge.final m c), (h c).2.2.2.2⟩)
      (Cert.Kernel4Ideal.Value.run_blocks m g)
  · refine (θ_run Cert.Reference4Ideal.defs _ _).mono (fun r h c => ?_) (Cert.Reference4Ideal.Value.run (F := Ideal) m' g')
    obtain ⟨a0, a1, a2, a3, a4, a5, a6, a7, a8, a9, a10, a11, a12, _, _⟩ := hagree c
    obtain ⟨h0, h1⟩ := h c
    rw [Cert.Reference4Ideal.Read.val_main_v37_eq] at h0
    exact ⟨h0.trans (array_eq m c _ _ _ _ _ _ _ _ _ _ _ _ _ a0 a1 a2 a3 a4 a5 a6 a7 a8 a9 a10 a11 a12), h1⟩

end Cert.Merge

end
-- ==== Proof.Proj.Spec.lean ====
/-
  The projections of the latent attention as mathematics, on arrays of extended reals: a row is multiplied down to two
  latents, each latent is divided by its root mean square and multiplied by a gain, the queries are products of the one
  and the values of the other, and 32 of a head's 128 query features are rotated in pairs.  No program is mentioned here.
-/
module

public import Idealize.ShloMosaic.PureOps.Ideal
public import Idealize.ShloMosaic.Lib.ValueIdx

@[expose] public section

noncomputable section

namespace Cert.ProjSpec

open Idealize.ShloMosaic
open Idealize.ShloMosaic.ValueIdx (ix2)
open scoped BigOperators

/-- A latent: the product of a row with the latent's columns of the weights. -/
def latent {n : ℕ} (x : Fin 1024 → EReal) (w : Fin 1024 → Fin n → EReal) (j : Fin n) : EReal := ∑ k, x k * w k j

/-- The norm by the root mean square, where `count` is the number of entries; what is added to the mean of the squares is
    the float nearest to `1e-6`. -/
def normal {n : ℕ} (count : EReal) (z gain : Fin n → EReal) (j : Fin n) : EReal :=
  z j * Ideal.rsqrt (Ideal.div (∑ k, z k * z k) count + Ideal.ofBits .f32 0x358637BD#32) * gain j

/-- A feature of a query or of a value: the product of a normalised latent with the feature's weights. -/
def feature {n : ℕ} (count : EReal) (z gain w : Fin n → EReal) : EReal := ∑ k, normal count z gain k * w k

/-- A head's query: the features 64 to 79 and 80 to 95 are the two halves of 16 pairs, which turn; the others stay. -/
def rotated (q : Fin 128 → EReal) (cos sin : Fin 16 → EReal) (l : Fin 128) : EReal :=
  if h : 64 ≤ l.val ∧ l.val < 80 then q l * cos ⟨l.val - 64, by omega⟩ - q ⟨l.val + 16, by omega⟩ * sin ⟨l.val - 64, by omega⟩
  else if h : 80 ≤ l.val ∧ l.val < 96 then q l * cos ⟨l.val - 80, by omega⟩ + q ⟨l.val - 16, by omega⟩ * sin ⟨l.val - 80, by omega⟩
  else q l

/-- Feature `l` of head `h` among the features of all eight heads. -/
def lane (h : Fin 8) (l : Fin 128) : Fin 1024 := ⟨128 * h.val + l.val, by omega⟩

/-- The heads' queries, by the feature among all. -/
def queries (q : Fin 1024 → EReal) (cos sin : Fin 16 → EReal) (j : Fin 1024) : EReal :=
  rotated (fun l => q (lane ⟨j.val / 128, by omega⟩ l)) cos sin ⟨j.val % 128, by omega⟩

theorem queries_lane (q : Fin 1024 → EReal) (cos sin : Fin 16 → EReal) (h : Fin 8) (l : Fin 128) :
    queries q cos sin (lane h l) = rotated (fun l => q (lane h l)) cos sin l := by
  have e : (⟨(128 * h.val + l.val) / 128, by omega⟩ : Fin 8) = h := Fin.ext (by simp only; omega)
  have f : (⟨(128 * h.val + l.val) % 128, by omega⟩ : Fin 128) = l := Fin.ext (by simp only; omega)
  exact congrArg₂ (fun h l => rotated (fun l => q (lane h l)) cos sin l) e f

theorem exists_lane (j : Fin 1024) : ∃ h l, j = lane h l :=
  ⟨⟨j.val / 128, by omega⟩, ⟨j.val % 128, by omega⟩, Fin.ext (by simp only [lane]; omega)⟩

variable (q : Fin 128 → EReal) (cos sin : Fin 16 → EReal)

/-- The two halves of a pair. -/
def first (i : Fin 16) : Fin 128 := ⟨64 + i.val, by omega⟩
def second (i : Fin 16) : Fin 128 := ⟨80 + i.val, by omega⟩

theorem rotated_first (i : Fin 16) : rotated q cos sin (first i) = q (first i) * cos i - q (second i) * sin i := by
  have e : (⟨64 + i.val - 64, by omega⟩ : Fin 16) = i := Fin.ext (by simp only; omega)
  have f : (⟨64 + i.val + 16, by omega⟩ : Fin 128) = second i := Fin.ext (by simp only [second]; omega)
  refine (dif_pos (show 64 ≤ 64 + i.val ∧ 64 + i.val < 80 by omega)).trans ?_
  exact congrArg₂ (fun a b : EReal => a - b) (congrArg (fun j => q (first i) * cos j) e) (congrArg₂ (fun k j => q k * sin j) f e)

theorem rotated_second (i : Fin 16) : rotated q cos sin (second i) = q (second i) * cos i + q (first i) * sin i := by
  have e : (⟨80 + i.val - 80, by omega⟩ : Fin 16) = i := Fin.ext (by simp only; omega)
  have f : (⟨80 + i.val - 16, by omega⟩ : Fin 128) = first i := Fin.ext (by simp only [first]; omega)
  refine (dif_neg (show ¬(64 ≤ 80 + i.val ∧ 80 + i.val < 80) by omega)).trans
    ((dif_pos (show 80 ≤ 80 + i.val ∧ 80 + i.val < 96 by omega)).trans ?_)
  exact congrArg₂ (fun a b : EReal => a + b) (congrArg (fun j => q (second i) * cos j) e) (congrArg₂ (fun k j => q k * sin j) f e)

theorem rotated_other (l : Fin 128) (h : l.val < 64 ∨ 96 ≤ l.val) : rotated q cos sin l = q l :=
  (dif_neg (by omega)).trans (dif_neg (by omega))

/-! ### The results -/

/-- The columns of the queries' latent and of the values' in the weights. -/
def qcol (j : Fin 384) : Fin 768 := ⟨j.val, by omega⟩
def vcol (j : Fin 256) : Fin 768 := ⟨384 + j.val, by omega⟩

/-- The weights of the latents, the gains of the two norms, and the weights of the queries and of the values. -/
structure Weights where
  down : Fin 1024 → Fin 768 → EReal
  qgain : Fin 384 → EReal
  vgain : Fin 256 → EReal
  query : Fin 1024 → Fin 384 → EReal
  value : Fin 512 → Fin 256 → EReal

/-- They are given as arrays. -/
def weightsOf (w : Vec Ideal ⟨2, ![1024, 768]⟩ .bf16) (qg : Vec Ideal ⟨2, ![1, 384]⟩ .f32) (vg : Vec Ideal ⟨2, ![1, 256]⟩ .f32)
    (wq : Vec Ideal ⟨2, ![1024, 384]⟩ .bf16) (wv : Vec Ideal ⟨2, ![512, 256]⟩ .bf16) : Weights :=
  ⟨fun k j => w (ix2 k j), fun j => qg (ix2 (0 : Fin 1) j), fun j => vg (ix2 (0 : Fin 1) j), fun j k => wq (ix2 j k), fun j k => wv (ix2 j k)⟩

/-- The position of a row in its sequence of 2048, -/
def pos (r : Fin 16384) : Fin 2048 := ⟨r.val % 2048, by omega⟩

/-- and row `n` of part `s` of 64, each of 256 rows. -/
def partRow (s : Fin 64) (n : Fin 256) : Fin 16384 := ⟨256 * s.val + n.val, by omega⟩

/-- The queries of a row, with the cosines and sines of its position, -/
def query (W : Weights) (x : Fin 1024 → EReal) (cos sin : Fin 16 → EReal) (j : Fin 1024) : EReal :=
  queries (fun j => feature (Ideal.ofBits .f32 0x43C00000#32) (latent x fun k j => W.down k (qcol j)) W.qgain (W.query j)) cos sin j

/-- and its values; `0x43C00000` is the float 384, `0x43800000` is 256. -/
def value (W : Weights) (x : Fin 1024 → EReal) (j : Fin 512) : EReal :=
  feature (Ideal.ofBits .f32 0x43800000#32) (latent x fun k j => W.down k (vcol j)) W.vgain (W.value j)

end Cert.ProjSpec

end
-- ==== Proof.Proj.Tile.lean ====
/-
  What the body of the projections computes from its blocks, in exact arithmetic: at every row of a tile, the latents, their
  norms and the features of `Spec`.
-/
module

public import proofs.«01_k».proof.Proof.Proj.Spec
public import proofs.«01_k».proof.Proof.Gen.Kernel5Ideal.Skeleton
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.Kernel5Ideal.Proj

open Cert.Kernel5Ideal Cert.Kernel5Ideal.Gen
open Idealize.ShloMosaic
open Idealize.ShloMosaic.ValueIdx (ix1 ix2 ix3)
open Cert.ProjSpec (qcol vcol)
open scoped BigOperators

/-! ### The norm -/

section

variable {b : ℕ} (y : FVec Ideal ⟨2, ![512, b]⟩ .f32) (count : BitVec 32) (gain : FVec Ideal ⟨2, ![1, b]⟩ .f32)
  (hr : (⟨2, ![512, b]⟩ : Shape).Reduces [1] S512) (hb : S512x1.Broadcasts ⟨2, ![512, b]⟩)
  (hg : (⟨2, ![1, b]⟩ : Shape).Broadcasts ⟨2, ![512, b]⟩)

/-- One over the root mean square of every row, -/
def scales : FVec Ideal S512x1 .f32 :=
  rsqrt (addf (divf (shapeCast S512x1 (multiReduction .add [1] S512 (mulf y y) 0x00000000#32 hr (.inl rfl) rfl) shapeCasts_S512_S512x1)
    (broadcast S512x1 (Scalar.ofBits .f32 count))) (broadcast S512x1 (Scalar.ofBits .f32 0x358637BD#32)))

theorem scales_apply (n : Fin 512) :
    scales y count hr (ix2 n (0 : Fin 1))
      = Ideal.rsqrt (Ideal.div (∑ k : Fin b, y (ix2 n k) * y (ix2 n k)) (Ideal.ofBits .f32 count) + Ideal.ofBits .f32 0x358637BD#32) := by
  refine congrArg (fun s => Ideal.rsqrt (Ideal.div s (Ideal.ofBits .f32 count) + Ideal.ofBits .f32 0x358637BD#32)) ?_
  refine (shapeCast_apply _ shapeCasts_S512_S512x1 _ (ix1 n) ?_).trans ?_
  · rw [Shape.rowMajor_val_one, Shape.rowMajor_val_two]
    show n.val = n.val * 1 + 0; omega
  · refine (Ideal.multiReduction_add_single (mulf y y) _ hr (.inl rfl) rfl (ix1 n)).trans ?_
    refine Finset.sum_congr rfl fun k _ => congrArg (mulf y y) (funext fun a => Fin.ext ?_)
    match a with | ⟨0, _⟩ => rfl | ⟨1, _⟩ => rfl

/-- and the tile multiplied by them and by the gain. -/
def normTile : FVec Ideal ⟨2, ![512, b]⟩ .f32 :=
  mulf (mulf y (broadcastTo ⟨2, ![512, b]⟩ (scales y count hr) hb)) (broadcastTo ⟨2, ![512, b]⟩ gain hg)

theorem normTile_apply (n : Fin 512) (j : Fin b) :
    normTile y count gain hr hb hg (ix2 n j)
      = ProjSpec.normal (Ideal.ofBits .f32 count) (fun k => y (ix2 n k)) (fun k => gain (ix2 (0 : Fin 1) k)) j := by
  have e : broadcastTo ⟨2, ![512, b]⟩ (scales y count hr) hb (ix2 n j) = scales y count hr (ix2 n (0 : Fin 1)) :=
    broadcastTo_apply _ _ _ _ fun a => match a with | ⟨0, _⟩ => rfl | ⟨1, _⟩ => rfl
  exact congrArg₂ (fun p q : EReal => p * q) (congrArg (fun p : EReal => y (ix2 n j) * p) (e.trans (scales_apply y count hr n)))
    (ValueIdx.broadcastTo_1b_ab_apply gain hg n j)

end

/-! ### The products -/

/-- The product with the weights of the latents, -/
theorem down_apply (x : FVec Ideal S512x1024 .bf16) (w : FVec Ideal S1024x768 .bf16) (n : Fin 512) (j : Fin 768) :
    k0_pay7 (F := Ideal) x w (ix2 n j) = ∑ k : Fin 1024, x (ix2 n k) * w (ix2 k j) := by
  refine (Ideal.matmul_plain_apply (φ₁ := .bf16) (φ₂ := .bf16) none x w (constant S512x768 .f32 0x00000000#32) n j).trans ?_
  change Ideal.ofBits .f32 0x00000000#32 + _ = _
  rw [Ideal.ofBits_zero_f32, zero_add]

/-- with the weights of the queries, -/
theorem up_apply (w : FVec Ideal S1024x384 .bf16) (z : FVec Ideal S512x384 .bf16) (j : Fin 1024) (n : Fin 512) :
    matmul dot_S1024x384_S512x384_S1024x512_1_1_0_0_n_n none w z (constant S1024x512 .f32 0x00000000#32) (ix2 j n)
      = ∑ k : Fin 384, w (ix2 j k) * z (ix2 n k) := by
  refine (Ideal.matmul_transposedRhs_apply (φ₁ := .bf16) (φ₂ := .bf16) none w z (constant S1024x512 .f32 0x00000000#32) j n).trans ?_
  change Ideal.ofBits .f32 0x00000000#32 + _ = _
  rw [Ideal.ofBits_zero_f32, zero_add]

/-- and with those of the values. -/
theorem up_apply' (z : FVec Ideal S512x256 .bf16) (w : FVec Ideal S512x256 .bf16) (j n : Fin 512) :
    k0_pay4 (F := Ideal) z w (ix2 j n) = ∑ k : Fin 256, w (ix2 j k) * z (ix2 n k) := by
  refine (Ideal.matmul_transposedRhs_apply (φ₁ := .bf16) (φ₂ := .bf16) none w z (constant S512x512 .f32 0x00000000#32) j n).trans ?_
  change Ideal.ofBits .f32 0x00000000#32 + _ = _
  rw [Ideal.ofBits_zero_f32, zero_add]

/-! ### The latents -/

variable (x : FVec Ideal S512x1024 .bf16) (w : FVec Ideal S1024x768 .bf16)

theorem qlatent_apply (n : Fin 512) (j : Fin 384) :
    extractStridedSlice S512x384 ![0, 0] (k0_pay7 (F := Ideal) x w) slices_S512x768_o0_0_S512x384 (ix2 n j)
      = ProjSpec.latent (fun k => x (ix2 n k)) (fun k j => w (ix2 k (qcol j))) j := by
  refine (extractStridedSlice_apply _ _ _ _ (ix2 n (qcol j)) fun a => ?_).trans (down_apply x w n (qcol j))
  match a with
  | ⟨0, _⟩ => exact (Nat.zero_add _).symm
  | ⟨1, _⟩ => exact (Nat.zero_add _).symm

theorem vlatent_apply (n : Fin 512) (j : Fin 256) :
    extractStridedSlice S512x256 ![0, 384] (k0_pay7 (F := Ideal) x w) slices_S512x768_o0_384_S512x256 (ix2 n j)
      = ProjSpec.latent (fun k => x (ix2 n k)) (fun k j => w (ix2 k (vcol j))) j := by
  refine (extractStridedSlice_apply _ _ _ _ (ix2 n (vcol j)) fun a => ?_).trans (down_apply x w n (vcol j))
  match a with
  | ⟨0, _⟩ => exact (Nat.zero_add _).symm
  | ⟨1, _⟩ => rfl

/-! ### The features -/

/-- The features of a tile are products with its normalised latents. -/
theorem query_eq (g : FVec Ideal S1x384 .f32) (wq : FVec Ideal S1024x384 .bf16) :
    k0_pay10 (F := Ideal) x w g wq
      = matmul (F := Ideal) (φ₁ := .bf16) (φ₂ := .bf16) dot_S1024x384_S512x384_S1024x512_1_1_0_0_n_n none wq
          (normTile (b := 384) (extractStridedSlice S512x384 ![0, 0] (k0_pay7 (F := Ideal) x w) slices_S512x768_o0_0_S512x384)
            0x43C00000#32 g reduces_S512x384_S512 broadcasts_S512x1_S512x384 broadcasts_S1x384_S512x384)
          (constant S1024x512 .f32 0x00000000#32) := by
  unfold k0_pay10; rfl

theorem vnorm_eq (g : FVec Ideal S1x256 .f32) :
    k0_pay9 (F := Ideal) x w g
      = normTile (b := 256) (extractStridedSlice S512x256 ![0, 384] (k0_pay7 (F := Ideal) x w) slices_S512x768_o0_384_S512x256)
          0x43800000#32 g reduces_S512x256_S512 broadcasts_S512x1_S512x256 broadcasts_S1x256_S512x256 := by
  unfold k0_pay9; rfl

/-- The features of the queries before the rotation, -/
theorem query_apply (g : FVec Ideal S1x384 .f32) (wq : FVec Ideal S1024x384 .bf16) (j : Fin 1024) (n : Fin 512) :
    k0_pay10 (F := Ideal) x w g wq (ix2 j n)
      = ProjSpec.feature (Ideal.ofBits .f32 0x43C00000#32) (ProjSpec.latent (fun k => x (ix2 n k)) (fun k j => w (ix2 k (qcol j))))
          (fun k => g (ix2 (0 : Fin 1) k)) (fun k => wq (ix2 j k)) := by
  refine (congrFun (query_eq x w g wq) (ix2 j n)).trans ((up_apply wq _ j n).trans (Finset.sum_congr rfl fun k _ => ?_))
  refine (mul_comm _ _).trans (congrArg (fun p : EReal => p * (wq (ix2 j k) : EReal)) ((normTile_apply ..).trans ?_))
  exact congrArg (fun z => ProjSpec.normal (Ideal.ofBits .f32 0x43C00000#32) z (fun k => g (ix2 (0 : Fin 1) k)) k)
    (funext fun k => qlatent_apply x w n k)

/-- and those of the values. -/
theorem value_apply (g : FVec Ideal S1x256 .f32) (wv : FVec Ideal S512x256 .bf16) (j n : Fin 512) :
    k0_pay4 (F := Ideal) (k0_pay9 x w g) wv (ix2 j n)
      = ProjSpec.feature (Ideal.ofBits .f32 0x43800000#32) (ProjSpec.latent (fun k => x (ix2 n k)) (fun k j => w (ix2 k (vcol j))))
          (fun k => g (ix2 (0 : Fin 1) k)) (fun k => wv (ix2 j k)) := by
  refine (up_apply' _ wv j n).trans (Finset.sum_congr rfl fun k _ => ?_)
  refine (mul_comm _ _).trans (congrArg (fun p : EReal => p * (wv (ix2 j k) : EReal)) ((congrFun (vnorm_eq x w g) (ix2 n k)).trans ((normTile_apply ..).trans ?_)))
  exact congrArg (fun z => ProjSpec.normal (Ideal.ofBits .f32 0x43800000#32) z (fun k => g (ix2 (0 : Fin 1) k)) k)
    (funext fun k => vlatent_apply x w n k)

end Cert.Kernel5Ideal.Proj

end
-- ==== Proof.Proj.Stored.lean ====
/-
  What a point of the projections' grid leaves in the blocks of its queries and of its values: every head's features,
  the rotated ones among them, are stored in four pieces, and the values in one piece for each of the two sequences of
  256 positions.
-/
module

public import proofs.«01_k».proof.Proof.Proj.Tile
public import proofs.«01_k».proof.Proof.Gen.Kernel5Ideal.Frame
public import Idealize.ShloMosaic.Lib.VecWindow

@[expose] public section

set_option maxRecDepth 65536

noncomputable section

namespace Cert.Kernel5Ideal.Proj

open Cert.Kernel5Ideal Cert.Kernel5Ideal.Gen Cert.ProjSpec
open Idealize.ShloMosaic Idealize.ShloMosaic.TcCoe
open Idealize.ShloMosaic.ValueIdx (ix1 ix2 ix3)

section

variable {F : FTy → Type} [FloatOps F]

/-- What a load of the whole of a block reads, when the block holds `x`: `x`. -/
def load {s : Shape} {e : EltTy} (a : Memref sig .tc .vmem s e) (ha : a.IsWhole) (x : Vec F s e) {off : Fin s.rank → ℕ}
    (inb : ∀ b, off b + s.size b ≤ s.size b) : Vec F s e :=
  a.view.readAt (Elt F) (Rect.unit off s.size inb).toLoadRect (ha.unread x)

theorem load_eq {s : Shape} {e : EltTy} (a : Memref sig .tc .vmem s e) (ha : a.IsWhole) (x : Vec F s e) {off : Fin s.rank → ℕ}
    (inb : ∀ b, off b + s.size b ≤ s.size b) : load a ha x inb = x :=
  (View.readAt_full a.view (ha.unread x) inb).trans (ha.read_unread x)

/-! ### The pieces -/

/-- The rows of a head from a given one on: inside the block, -/
theorem rows_inb (h : Fin 8) {o n : ℕ} (ho : o + n ≤ 128) :
    ∀ a, (![128 * h.val + o, 0] : Fin 2 → ℕ) a + (![n, 512] : Fin 2 → ℕ) a ≤ S1024x512.size a := fun a =>
  match a with
  | ⟨0, _⟩ => show 128 * h.val + o + n ≤ 1024 by omega
  | ⟨1, _⟩ => show 0 + 512 ≤ 512 by omega

/-- as the part of the block they are, -/
def box (h : Fin 8) (o n : ℕ) (ho : o + n ≤ 128) : Rect S1024x512 := Rect.unit (s := S1024x512) ![128 * h.val + o, 0] ![n, 512] (rows_inb h ho)

/-- and as they are taken from the features. -/
def rows (Q : FVec F S1024x512 .f32) (h : Fin 8) (o n : ℕ) (ho : o + n ≤ 128) : FVec F ⟨2, ![n, 512]⟩ .f32 :=
  extractStridedSlice ⟨2, ![n, 512]⟩ ![128 * h.val + o, 0] Q ⟨rfl, rows_inb h ho⟩

variable (Q : FVec F S1024x512 .f32) (ct st : FVec F S16x512 .f32)

/-- What is stored of a head: the last 32 rows, the two halves of the pairs, and the first 64 rows. -/
def pieces (h : Fin 8) : List (View.Piece (Elt F) S1024x512 .bf16) :=
  [⟨box h 96 32 (by omega), truncf .bf16 (rows Q h 96 32 (by omega)) bitsLt_bf16_f32⟩,
   ⟨box h 80 16 (by omega), truncf .bf16 (addf (mulf (rows Q h 80 16 (by omega)) ct) (mulf (rows Q h 64 16 (by omega)) st)) bitsLt_bf16_f32⟩,
   ⟨box h 64 16 (by omega), truncf .bf16 (subf (mulf (rows Q h 64 16 (by omega)) ct) (mulf (rows Q h 80 16 (by omega)) st)) bitsLt_bf16_f32⟩,
   ⟨box h 0 64 (by omega), truncf .bf16 (rows Q h 0 64 (by omega)) bitsLt_bf16_f32⟩]

variable (c : Dev nD) (i : grid0.Coords)
  (arg1 : Memref sig .tc .vmem S512x1024 .bf16) (harg1 : arg1.IsWhole) (arg2 : Memref sig .tc .vmem S1024x768 .bf16) (harg2 : arg2.IsWhole)
  (arg3 : Memref sig .tc .vmem S1x384 .f32) (harg3 : arg3.IsWhole) (arg4 : Memref sig .tc .vmem S1x256 .f32) (harg4 : arg4.IsWhole)
  (arg5 : Memref sig .tc .vmem S1024x384 .bf16) (harg5 : arg5.IsWhole) (arg6 : Memref sig .tc .vmem S256x1024 .bf16) (harg6 : arg6.IsWhole)
  (arg7 : Memref sig .tc .vmem S512x256 .bf16) (harg7 : arg7.IsWhole) (arg8 : Memref sig .tc .vmem S16x512 .f32) (harg8 : arg8.IsWhole)
  (arg9 : Memref sig .tc .vmem S16x512 .f32) (harg9 : arg9.IsWhole) (arg10 : Memref sig .tc .vmem S512x128 .f32) (harg10 : arg10.IsWhole)
  (arg11 : Memref sig .tc .vmem S512x128 .f32) (harg11 : arg11.IsWhole) (arg12 : Memref sig .tc .vmem S1024x512 .bf16) (harg12 : arg12.IsWhole)
  (arg13 : Memref sig .tc .vmem S512x1024 .bf16) (harg13 : arg13.IsWhole) (arg14 : Memref sig .tc .vmem S2x512x256 .bf16) (harg14 : arg14.IsWhole)
  (x0 : Vec F S512x1024 .bf16) (x1 : Vec F S1024x768 .bf16) (x2 : Vec F S1x384 .f32) (x3 : Vec F S1x256 .f32) (x4 : Vec F S1024x384 .bf16)
  (x5 : Vec F S256x1024 .bf16) (x6 : Vec F S512x256 .bf16) (x7 : Vec F S16x512 .f32) (x8 : Vec F S16x512 .f32) (x9 : Vec F S512x128 .f32)
  (x10 : Vec F S512x128 .f32)

theorem run_queries :
    (kernelRun0_A c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 x8 x9 x10).1
      = ([7, 6, 5, 4, 3, 2, 1, 0] : List (Fin 8)).flatMap (pieces
          (k0_pay10 (load arg1 harg1 x0 inb_S512x1024_S512x1024_0_0) (load arg2 harg2 x1 inb_S1024x768_S1024x768_0_0)
            (load arg3 harg3 x2 inb_S1x384_S1x384_0_0) (load arg5 harg5 x4 inb_S1024x384_S1024x384_0_0))
          (load arg8 harg8 x7 inb_S16x512_S16x512_0_0) (load arg9 harg9 x8 inb_S16x512_S16x512_0_0)) := by
  unfold kernelRun0_A; rfl

theorem run_values :
    (kernelRun0_A c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 x8 x9 x10).2.2.1
      = [⟨Rect.unit (s := S2x512x256) ![1, 0, 0] S1x512x256.size inb_S2x512x256_S1x512x256_1_0_0,
          k0_pay6 (k0_pay9 (load arg1 harg1 x0 inb_S512x1024_S512x1024_0_0) (load arg2 harg2 x1 inb_S1024x768_S1024x768_0_0)
            (load arg4 harg4 x3 inb_S1x256_S1x256_0_0)) (load arg7 harg7 x6 inb_S512x256_S512x256_0_0)⟩,
         ⟨Rect.unit (s := S2x512x256) ![0, 0, 0] S1x512x256.size inb_S2x512x256_S1x512x256_0_0_0,
          k0_pay5 (k0_pay9 (load arg1 harg1 x0 inb_S512x1024_S512x1024_0_0) (load arg2 harg2 x1 inb_S1024x768_S1024x768_0_0)
            (load arg4 harg4 x3 inb_S1x256_S1x256_0_0)) (load arg7 harg7 x6 inb_S512x256_S512x256_0_0)⟩] := by
  unfold kernelRun0_A; rfl

end

/-! ### The queries -/

theorem rows_apply (Q : FVec Ideal S1024x512 .f32) (h : Fin 8) (o n : ℕ) (ho : o + n ≤ 128) (r : Fin n) (t : Fin 512) :
    rows Q h o n ho (ix2 r t) = Q (ix2 (lane h ⟨o + r.val, by omega⟩) t) :=
  extractStridedSlice_apply _ _ _ _ (ix2 (lane h ⟨o + r.val, by omega⟩) t) fun a =>
    match a with
    | ⟨0, _⟩ => (Nat.add_assoc _ _ _).symm
    | ⟨1, _⟩ => (Nat.zero_add _).symm

theorem box_emb (h : Fin 8) (o n : ℕ) (ho : o + n ≤ 128) (r : Fin n) (t : Fin 512) :
    (box h o n ho).emb (ix2 r t : (⟨2, ![n, 512]⟩ : Shape).Idx) = (ix2 (lane h ⟨o + r.val, by omega⟩) t : S1024x512.Idx) :=
  Rect.emb_eq_of_coords _ _ _ fun a =>
    match a with
    | ⟨0, _⟩ => show 128 * h.val + (o + r.val) = 128 * h.val + o + 1 * r.val by omega
    | ⟨1, _⟩ => show t.val = 0 + 1 * t.val by omega

variable (Q : FVec Ideal S1024x512 .f32) (ct st : FVec Ideal S16x512 .f32)

/-- The block of the queries. -/
def queryBlock : Vec Ideal S1024x512 .bf16 := fun y =>
  queries (fun j => Q (ix2 j (y 1))) (fun i => ct (ix2 i (y 1))) (fun i => st (ix2 i (y 1))) (y 0)

theorem queryBlock_lane (h : Fin 8) (l : Fin 128) (t : Fin 512) :
    queryBlock Q ct st (ix2 (lane h l) t)
      = rotated (fun l => Q (ix2 (lane h l) t)) (fun i => ct (ix2 i t)) (fun i => st (ix2 i t)) l :=
  queries_lane _ _ _ h l

/-- Every piece of a head is its part of that block. -/
theorem pieces_apply (h : Fin 8) : ∀ p ∈ pieces Q ct st h, ∀ x, p.2 x = queryBlock Q ct st (p.1.emb x) := by
  have other : ∀ (o n : ℕ) (ho : o + n ≤ 128), o + n ≤ 64 ∨ 96 ≤ o → ∀ x : (⟨2, ![n, 512]⟩ : Shape).Idx,
      rows Q h o n ho x = queryBlock Q ct st ((box h o n ho).emb x) := fun o n ho hl x => by
    obtain ⟨r, t, rfl⟩ : ∃ (r : Fin n) (t : Fin 512), x = ix2 r t := ⟨x 0, x 1, ValueIdx.eq_ix2 x⟩
    have hr := r.isLt
    rw [rows_apply, box_emb, queryBlock_lane]
    exact (rotated_other (fun l => Q (ix2 (lane h l) t)) (fun i => ct (ix2 i t)) (fun i => st (ix2 i t)) ⟨o + r.val, by omega⟩
      (show o + r.val < 64 ∨ 96 ≤ o + r.val by omega)).symm
  intro p hp
  simp only [pieces, List.mem_cons, List.not_mem_nil, or_false] at hp
  rcases hp with rfl | rfl | rfl | rfl
  · exact other 96 32 (by omega) (.inr (le_refl _))
  · intro (x : S16x512.Idx)
    obtain ⟨r, t, rfl⟩ : ∃ (r : Fin 16) (t : Fin 512), x = ix2 r t := ⟨x 0, x 1, ValueIdx.eq_ix2 x⟩
    refine Eq.trans ?_ ((congrArg (queryBlock Q ct st) (box_emb h 80 16 (by omega) r t)).trans
      ((queryBlock_lane Q ct st h (second r) t).trans (rotated_second _ _ _ r))).symm
    exact congrArg₂ (fun p q : EReal => p * ct (ix2 r t) + q * st (ix2 r t)) (rows_apply Q h 80 16 _ r t) (rows_apply Q h 64 16 _ r t)
  · intro (x : S16x512.Idx)
    obtain ⟨r, t, rfl⟩ : ∃ (r : Fin 16) (t : Fin 512), x = ix2 r t := ⟨x 0, x 1, ValueIdx.eq_ix2 x⟩
    refine Eq.trans ?_ ((congrArg (queryBlock Q ct st) (box_emb h 64 16 (by omega) r t)).trans
      ((queryBlock_lane Q ct st h (first r) t).trans (rotated_first _ _ _ r))).symm
    exact congrArg₂ (fun p q : EReal => p * ct (ix2 r t) - q * st (ix2 r t)) (rows_apply Q h 64 16 _ r t) (rows_apply Q h 80 16 _ r t)
  · exact other 0 64 (by omega) (.inl (le_refl _))

/-! ### The values -/

/-- Column `n` of half `e` of a tile's 512. -/
def col (e : Fin 2) (n : Fin 256) : Fin 512 := ⟨256 * e.val + n.val, by omega⟩

theorem half_apply (y : FVec Ideal S512x512 .f32) (e : Fin 2) (o : ℕ) (ho : o = 256 * e.val) (hs : S512x512.Slices ![0, o] S512x256)
    (j : Fin 512) (n : Fin 256) : extractStridedSlice S512x256 ![0, o] y hs (ix2 j n) = y (ix2 j (col e n)) :=
  extractStridedSlice_apply _ _ _ _ (ix2 j (col e n)) fun a =>
    match a with
    | ⟨0, _⟩ => (Nat.zero_add _).symm
    | ⟨1, _⟩ => show 256 * e.val + n.val = o + n.val by rw [ho]

theorem pay5_apply (z w : FVec Ideal S512x256 .bf16) (u : Fin 1) (j : Fin 512) (n : Fin 256) :
    k0_pay5 (F := Ideal) z w (ix3 u j n) = k0_pay4 z w (ix2 j (col 0 n)) := by
  unfold k0_pay5
  generalize k0_pay4 (F := Ideal) z w = y
  exact (ValueIdx.shapeCast_ab_1ab_apply (extractStridedSlice S512x256 ![0, 0] y slices_S512x512_o0_0_S512x256) shapeCasts_S512x256_S1x512x256 u j n).trans
    (half_apply y 0 0 rfl _ j n)

theorem pay6_apply (z w : FVec Ideal S512x256 .bf16) (u : Fin 1) (j : Fin 512) (n : Fin 256) :
    k0_pay6 (F := Ideal) z w (ix3 u j n) = k0_pay4 z w (ix2 j (col 1 n)) := by
  unfold k0_pay6
  generalize k0_pay4 (F := Ideal) z w = y
  exact (ValueIdx.shapeCast_ab_1ab_apply (extractStridedSlice S512x256 ![0, 256] y slices_S512x512_o0_256_S512x256) shapeCasts_S512x256_S1x512x256 u j n).trans
    (half_apply y 1 256 rfl _ j n)

/-- The block of the values. -/
def valueBlock (z w : FVec Ideal S512x256 .bf16) : Vec Ideal S2x512x256 .bf16 := fun y => k0_pay4 (F := Ideal) z w (ix2 (y 1) (col (y 0) (y 2)))

theorem queryBlock_apply (x : FVec Ideal S512x1024 .bf16) (w : FVec Ideal S1024x768 .bf16) (qg : FVec Ideal S1x384 .f32) (vg : FVec Ideal S1x256 .f32)
    (wq : FVec Ideal S1024x384 .bf16) (wv : FVec Ideal S512x256 .bf16) (j : Fin 1024) (n : Fin 512) :
    queryBlock (k0_pay10 x w qg wq) ct st (ix2 j n)
      = query (weightsOf w qg vg wq wv) (fun k => x (ix2 n k)) (fun i => ct (ix2 i n)) (fun i => st (ix2 i n)) j :=
  congrArg (fun q => queries q (fun i => ct (ix2 i n)) (fun i => st (ix2 i n)) j) (funext fun j => query_apply x w qg wq j n)

theorem valueBlock_apply (x : FVec Ideal S512x1024 .bf16) (w : FVec Ideal S1024x768 .bf16) (qg : FVec Ideal S1x384 .f32) (vg : FVec Ideal S1x256 .f32)
    (wq : FVec Ideal S1024x384 .bf16) (wv : FVec Ideal S512x256 .bf16) (e : Fin 2) (j : Fin 512) (n : Fin 256) :
    valueBlock (k0_pay9 x w vg) wv (ix3 e j n) = value (weightsOf w qg vg wq wv) (fun k => x (ix2 (col e n) k)) j :=
  value_apply x w vg wv j (col e n)

/-! ### The blocks that a point leaves -/

variable (c : Dev nD) (i : grid0.Coords)
  (arg1 : Memref sig .tc .vmem S512x1024 .bf16) (harg1 : arg1.IsWhole) (arg2 : Memref sig .tc .vmem S1024x768 .bf16) (harg2 : arg2.IsWhole)
  (arg3 : Memref sig .tc .vmem S1x384 .f32) (harg3 : arg3.IsWhole) (arg4 : Memref sig .tc .vmem S1x256 .f32) (harg4 : arg4.IsWhole)
  (arg5 : Memref sig .tc .vmem S1024x384 .bf16) (harg5 : arg5.IsWhole) (arg6 : Memref sig .tc .vmem S256x1024 .bf16) (harg6 : arg6.IsWhole)
  (arg7 : Memref sig .tc .vmem S512x256 .bf16) (harg7 : arg7.IsWhole) (arg8 : Memref sig .tc .vmem S16x512 .f32) (harg8 : arg8.IsWhole)
  (arg9 : Memref sig .tc .vmem S16x512 .f32) (harg9 : arg9.IsWhole) (arg10 : Memref sig .tc .vmem S512x128 .f32) (harg10 : arg10.IsWhole)
  (arg11 : Memref sig .tc .vmem S512x128 .f32) (harg11 : arg11.IsWhole) (arg12 : Memref sig .tc .vmem S1024x512 .bf16) (harg12 : arg12.IsWhole)
  (arg13 : Memref sig .tc .vmem S512x1024 .bf16) (harg13 : arg13.IsWhole) (arg14 : Memref sig .tc .vmem S2x512x256 .bf16) (harg14 : arg14.IsWhole)
  (x0 : Vec Ideal S512x1024 .bf16) (x1 : Vec Ideal S1024x768 .bf16) (x2 : Vec Ideal S1x384 .f32) (x3 : Vec Ideal S1x256 .f32)
  (x4 : Vec Ideal S1024x384 .bf16) (x5 : Vec Ideal S256x1024 .bf16) (x6 : Vec Ideal S512x256 .bf16) (x7 x8 : Vec Ideal S16x512 .f32)
  (x9 x10 : Vec Ideal S512x128 .f32)

theorem out_queries :
    out0_A_11 (F := Ideal) c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 x8 x9 x10
      = queryBlock (k0_pay10 x0 x1 x2 x4) x7 x8 := by
  refine funext fun y => View.read_writes_apply_of_pieces _ _ _ _ ?_ y (cover0_A_11 c i arg1 harg1 arg2 harg2 arg3 harg3 arg4 harg4 arg5 harg5
    arg6 harg6 arg7 harg7 arg8 harg8 arg9 harg9 arg10 harg10 arg11 harg11 arg12 harg12 arg13 harg13 arg14 harg14 x0 x1 x2 x3 x4 x5 x6 x7 x8 x9 x10 y)
  rw [run_queries]
  simp only [load_eq]
  intro p hp
  obtain ⟨h, -, hp⟩ := List.mem_flatMap.mp hp
  exact pieces_apply _ _ _ h p hp

theorem out_values :
    out0_A_13 (F := Ideal) c i arg1 harg1 arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 x8 x9 x10
      = valueBlock (k0_pay9 x0 x1 x3) x6 := by
  refine funext fun y => View.read_writes_apply_of_pieces _ _ _ _ ?_ y (cover0_A_13 c i arg1 harg1 arg2 harg2 arg3 harg3 arg4 harg4 arg5 harg5
    arg6 harg6 arg7 harg7 arg8 harg8 arg9 harg9 arg10 harg10 arg11 harg11 arg12 harg12 arg13 harg13 arg14 harg14 x0 x1 x2 x3 x4 x5 x6 x7 x8 x9 x10 y)
  rw [run_values]
  simp only [load_eq]
  intro p hp
  simp only [List.mem_cons, List.not_mem_nil, or_false] at hp
  rcases hp with rfl | rfl
  · intro (x : S1x512x256.Idx)
    obtain ⟨u, j, n, rfl⟩ : ∃ (u : Fin 1) (j : Fin 512) (n : Fin 256), x = ix3 u j n := ⟨x 0, x 1, x 2, ValueIdx.eq_ix3 x⟩
    have e : (Rect.unit (s := S2x512x256) ![1, 0, 0] S1x512x256.size inb_S2x512x256_S1x512x256_1_0_0).emb (ix3 u j n : S1x512x256.Idx)
        = (ix3 (1 : Fin 2) j n : S2x512x256.Idx) := Rect.emb_eq_of_coords _ _ _ fun a =>
      match a with
      | ⟨0, _⟩ => show 1 = 1 + 1 * u.val by have := u.isLt; omega
      | ⟨1, _⟩ => show j.val = 0 + 1 * j.val by omega
      | ⟨2, _⟩ => show n.val = 0 + 1 * n.val by omega
    exact (pay6_apply _ _ u j n).trans (congrArg (valueBlock (k0_pay9 x0 x1 x3) x6) e).symm
  · intro (x : S1x512x256.Idx)
    obtain ⟨u, j, n, rfl⟩ : ∃ (u : Fin 1) (j : Fin 512) (n : Fin 256), x = ix3 u j n := ⟨x 0, x 1, x 2, ValueIdx.eq_ix3 x⟩
    have e : (Rect.unit (s := S2x512x256) ![0, 0, 0] S1x512x256.size inb_S2x512x256_S1x512x256_0_0_0).emb (ix3 u j n : S1x512x256.Idx)
        = (ix3 (0 : Fin 2) j n : S2x512x256.Idx) := Rect.emb_eq_of_coords _ _ _ fun a =>
      match a with
      | ⟨0, _⟩ => show 0 = 0 + 1 * u.val by have := u.isLt; omega
      | ⟨1, _⟩ => show j.val = 0 + 1 * j.val by omega
      | ⟨2, _⟩ => show n.val = 0 + 1 * n.val by omega
    exact (pay5_apply _ _ u j n).trans (congrArg (valueBlock (k0_pay9 x0 x1 x3) x6) e).symm

end Cert.Kernel5Ideal.Proj

end
-- ==== Proof.Proj.KernelValue.lean ====
/-
  The queries and the values that the projections' call leaves, in exact arithmetic: every grid point writes those of 512
  rows, as `Spec` has them, and the tiles cover the two arrays.
-/
module

public import proofs.«01_k».proof.Proof.Proj.Stored
public import proofs.«01_k».proof.Proof.Gen.Kernel5Ideal.Value
public import Idealize.ShloMosaic.Lib.Pipeline.ValueKit.Basic

@[expose] public section

set_option maxRecDepth 16384

noncomputable section

namespace Cert.Kernel5Ideal.Proj

open Cert.Kernel5Ideal Cert.Kernel5Ideal.Gen Cert.ProjSpec
open Idealize.ShloMosaic Idealize.ShloMosaic.TcCoe Idealize.SL.Sem
open Idealize.ShloMosaic.ValueIdx (ix2 ix3)

variable (m : (ℓ : Loc nD τ sig) → Buf (Elt Ideal) ℓ) (c : Dev nD)

/-! ### The arguments and the results -/

def rowAt (r : Fin 16384) (k : Fin 1024) : EReal := (m ((c : Thread nD τ).loc main_arg0) : Vec Ideal S16384x1024 .bf16) (ix2 r k)

def weights : Weights :=
  weightsOf (m ((c : Thread nD τ).loc main_arg1)) (m ((c : Thread nD τ).loc main_arg2)) (m ((c : Thread nD τ).loc main_arg3))
    (m ((c : Thread nD τ).loc main_arg4)) (m ((c : Thread nD τ).loc main_arg6))

/-- The cosines and the sines of a position. -/
def cosAt (p : Fin 2048) (i : Fin 16) : EReal := (m ((c : Thread nD τ).loc main_arg7) : Vec Ideal S16x2048 .f32) (ix2 i p)
def sinAt (p : Fin 2048) (i : Fin 16) : EReal := (m ((c : Thread nD τ).loc main_arg8) : Vec Ideal S16x2048 .f32) (ix2 i p)

/-- The array of the queries, by feature and row, -/
def queryArray : Vec Ideal S1024x16384 .bf16 := fun y =>
  query (weights m c) (rowAt m c (y 1)) (cosAt m c (pos (y 1))) (sinAt m c (pos (y 1))) (y 0)

/-- and that of the values, by part, feature and row of the part. -/
def valueArray : Vec Ideal S64x512x256 .bf16 := fun y => value (weights m c) (rowAt m c (partRow (y 0) (y 2))) (y 1)

/-! ### The grid -/

theorem t_lt (t : Fin grid0.N) : t.val < 32 := lt_of_lt_of_eq t.isLt N_0

theorem rows_transform : ∀ t : Fin grid0.N, cc0_transform_0 (grid0.coords t) = ![t.val, 0] := by decide +kernel
theorem cos_transform : ∀ t : Fin grid0.N, cc0_transform_7 (grid0.coords t) = ![0, t.val % 4] := by decide +kernel
theorem sin_transform : ∀ t : Fin grid0.N, cc0_transform_8 (grid0.coords t) = ![0, t.val % 4] := by decide +kernel
theorem query_transform : ∀ t : Fin grid0.N, cc0_transform_11 (grid0.coords t) = ![0, t.val] := by decide +kernel
theorem value_transform : ∀ t : Fin grid0.N, cc0_transform_13 (grid0.coords t) = ![t.val, 0, 0] := by decide +kernel

/-- Row `n` of the tile of point `t`, -/
def row (t : Fin grid0.N) (n : Fin 512) : Fin 16384 := ⟨512 * t.val + n.val, by have := t_lt t; omega⟩

/-- and the two parts that the tile is. -/
def part (t : Fin grid0.N) (e : Fin 2) : Fin 64 := ⟨2 * t.val + e.val, by have := t_lt t; omega⟩

theorem partRow_part (t : Fin grid0.N) (e : Fin 2) (n : Fin 256) : partRow (part t e) n = row t (col e n) :=
  Fin.ext (by show 256 * (2 * t.val + e.val) + n.val = 512 * t.val + (256 * e.val + n.val); omega)

/-- The places of the entries of a tile: of the rows, -/
theorem row_place (t : Fin grid0.N) (n : Fin 512) (k : Fin 1024) :
    (win0_0.rect t).emb (ix2 n k : S512x1024.Idx) = (ix2 (row t n) k : S16384x1024.Idx) := by
  refine Rect.emb_eq_of_coords _ _ _ fun a => ?_
  match a with
  | ⟨0, _⟩ =>
    show 512 * t.val + n.val = cc0_transform_0 (grid0.coords t) 0 * 512 + 1 * n.val
    rw [rows_transform]; show _ = t.val * 512 + 1 * n.val; omega
  | ⟨1, _⟩ =>
    show k.val = cc0_transform_0 (grid0.coords t) 1 * 1024 + 1 * k.val
    rw [rows_transform]; show _ = 0 * 1024 + 1 * k.val; omega

/-- of the two tables, -/
theorem cos_place (t : Fin grid0.N) (i : Fin 16) (n : Fin 512) :
    (win0_7.rect t).emb (ix2 i n : S16x512.Idx) = (ix2 i (pos (row t n)) : S16x2048.Idx) := by
  refine Rect.emb_eq_of_coords _ _ _ fun a => ?_
  match a with
  | ⟨0, _⟩ =>
    show i.val = cc0_transform_7 (grid0.coords t) 0 * 16 + 1 * i.val
    rw [cos_transform]; show _ = 0 * 16 + 1 * i.val; omega
  | ⟨1, _⟩ =>
    show (512 * t.val + n.val) % 2048 = cc0_transform_7 (grid0.coords t) 1 * 512 + 1 * n.val
    rw [cos_transform]; show _ = t.val % 4 * 512 + 1 * n.val; omega

theorem sin_place (t : Fin grid0.N) (i : Fin 16) (n : Fin 512) :
    (win0_8.rect t).emb (ix2 i n : S16x512.Idx) = (ix2 i (pos (row t n)) : S16x2048.Idx) := by
  refine Rect.emb_eq_of_coords _ _ _ fun a => ?_
  match a with
  | ⟨0, _⟩ =>
    show i.val = cc0_transform_8 (grid0.coords t) 0 * 16 + 1 * i.val
    rw [sin_transform]; show _ = 0 * 16 + 1 * i.val; omega
  | ⟨1, _⟩ =>
    show (512 * t.val + n.val) % 2048 = cc0_transform_8 (grid0.coords t) 1 * 512 + 1 * n.val
    rw [sin_transform]; show _ = t.val % 4 * 512 + 1 * n.val; omega

/-- of the queries, -/
theorem query_place (t : Fin grid0.N) (j : Fin 1024) (n : Fin 512) :
    (win0_11.rect t).emb (ix2 j n : S1024x512.Idx) = (ix2 j (row t n) : S1024x16384.Idx) := by
  refine Rect.emb_eq_of_coords _ _ _ fun a => ?_
  match a with
  | ⟨0, _⟩ =>
    show j.val = cc0_transform_11 (grid0.coords t) 0 * 1024 + 1 * j.val
    rw [query_transform]; show _ = 0 * 1024 + 1 * j.val; omega
  | ⟨1, _⟩ =>
    show 512 * t.val + n.val = cc0_transform_11 (grid0.coords t) 1 * 512 + 1 * n.val
    rw [query_transform]; show _ = t.val * 512 + 1 * n.val; omega

/-- and of the values. -/
theorem value_place (t : Fin grid0.N) (e : Fin 2) (j : Fin 512) (n : Fin 256) :
    (win0_13.rect t).emb (ix3 e j n : S2x512x256.Idx) = (ix3 (part t e) j n : S64x512x256.Idx) := by
  refine Rect.emb_eq_of_coords _ _ _ fun a => ?_
  match a with
  | ⟨0, _⟩ =>
    show 2 * t.val + e.val = cc0_transform_13 (grid0.coords t) 0 * 2 + 1 * e.val
    rw [value_transform]; show _ = t.val * 2 + 1 * e.val; omega
  | ⟨1, _⟩ =>
    show j.val = cc0_transform_13 (grid0.coords t) 1 * 512 + 1 * j.val
    rw [value_transform]; show _ = 0 * 512 + 1 * j.val; omega
  | ⟨2, _⟩ =>
    show n.val = cc0_transform_13 (grid0.coords t) 2 * 256 + 1 * n.val
    rw [value_transform]; show _ = 0 * 256 + 1 * n.val; omega

/-- Every index of the queries is in the tile of some point, -/
theorem query_covered (i : S1024x16384.Idx) : ∃ t : Fin grid0.N, i ∈ (win0_11.rect t).set := by
  have h1 : (i 1 : Nat) < 16384 := (i 1).isLt
  have hN : grid0.N = 32 := N_0
  let t : Fin grid0.N := ⟨(i 1 : Nat) / 512, by omega⟩
  have e : (win0_11.rect t).emb (ix2 (i 0) ⟨(i 1 : Nat) % 512, by omega⟩ : S1024x512.Idx) = i := by
    refine (query_place t _ _).trans (Eq.trans ?_ (ValueIdx.eq_ix2 i).symm)
    exact congrArg (ix2 (i 0)) (Fin.ext (by show 512 * ((i 1 : Nat) / 512) + (i 1 : Nat) % 512 = (i 1 : Nat); omega))
  exact ⟨t, e ▸ (win0_11.rect t).map_emb_univ ▸ Finset.mem_map_of_mem _ (Finset.mem_univ _)⟩

/-- and so is every index of the values. -/
theorem value_covered (i : S64x512x256.Idx) : ∃ t : Fin grid0.N, i ∈ (win0_13.rect t).set := by
  have h0 : (i 0 : Nat) < 64 := (i 0).isLt
  have hN : grid0.N = 32 := N_0
  let t : Fin grid0.N := ⟨(i 0 : Nat) / 2, by omega⟩
  have e : (win0_13.rect t).emb (ix3 ⟨(i 0 : Nat) % 2, by omega⟩ (i 1) (i 2) : S2x512x256.Idx) = i := by
    refine (value_place t _ _ _).trans (Eq.trans ?_ (ValueIdx.eq_ix3 i).symm)
    exact congrArg (fun s => ix3 s (i 1) (i 2)) (Fin.ext (by show 2 * ((i 0 : Nat) / 2) + (i 0 : Nat) % 2 = (i 0 : Nat); omega))
  exact ⟨t, e ▸ (win0_13.rect t).map_emb_univ ▸ Finset.mem_map_of_mem _ (Finset.mem_univ _)⟩

/-! ### The blocks -/

theorem row_block (t : Fin grid0.N) (n : Fin 512) : (fun k => (iblk m c 0 t : Vec Ideal S512x1024 .bf16) (ix2 n k)) = rowAt m c (row t n) :=
  funext fun k => congrArg (V m c main_arg0) (row_place t n k)

theorem cos_block (t : Fin grid0.N) (n : Fin 512) :
    (fun i => (iblk m c 7 t : Vec Ideal S16x512 .f32) (ix2 i n)) = cosAt m c (pos (row t n)) :=
  funext fun i => congrArg (V m c main_arg7) (cos_place t i n)

theorem sin_block (t : Fin grid0.N) (n : Fin 512) :
    (fun i => (iblk m c 8 t : Vec Ideal S16x512 .f32) (ix2 i n)) = sinAt m c (pos (row t n)) :=
  funext fun i => congrArg (V m c main_arg8) (sin_place t i n)

/-- A block of an array's own sizes has every entry in its own place, -/
theorem whole_emb {s : Shape} {off : Fin s.rank → ℕ} (h : ∀ a, off a = 0) (inb : ∀ a, off a + s.size a ≤ s.size a) (y : s.Idx) :
    (Rect.unit off s.size inb).emb y = y :=
  funext fun a => Fin.ext (by show off a + 1 * (y a).val = (y a).val; rw [h a]; omega)

theorem zero_offset (sz : Fin 2 → ℕ) : ∀ a : Fin 2, (![0, 0] : Fin 2 → ℕ) a * sz a = 0
  | 0 => Nat.zero_mul _
  | 1 => Nat.zero_mul _

/-- so that the blocks of the weights are the weights. -/
theorem weights_block (t : Fin grid0.N) :
    weightsOf (iblk m c 1 t) (iblk m c 2 t) (iblk m c 3 t) (iblk m c 4 t) (iblk m c 6 t) = weights m c := by
  unfold weights
  congr 1
  · exact funext fun y => congrArg (V m c main_arg1) (whole_emb (zero_offset _) _ y)
  · exact funext fun y => congrArg (V m c main_arg2) (whole_emb (zero_offset _) _ y)
  · exact funext fun y => congrArg (V m c main_arg3) (whole_emb (zero_offset _) _ y)
  · exact funext fun y => congrArg (V m c main_arg4) (whole_emb (zero_offset _) _ y)
  · exact funext fun y => congrArg (V m c main_arg6) (whole_emb (zero_offset _) _ y)

/-! ### The arrays -/

/-- What a point computes is its tile of the queries, -/
theorem query_tile (t : Fin grid0.N) :
    queryBlock (k0_pay10 (iblk m c 0 t) (iblk m c 1 t) (iblk m c 2 t) (iblk m c 4 t)) (iblk m c 7 t) (iblk m c 8 t)
      = fun j => queryArray m c ((win0_11.rect t).emb j) := by
  refine funext fun (y : S1024x512.Idx) => ?_
  obtain ⟨j, n, rfl⟩ : ∃ (j : Fin 1024) (n : Fin 512), y = ix2 j n := ⟨y 0, y 1, ValueIdx.eq_ix2 y⟩
  refine Eq.trans ?_ (congrArg (queryArray m c) (query_place t j n)).symm
  refine (queryBlock_apply (iblk m c 7 t) (iblk m c 8 t) (iblk m c 0 t) (iblk m c 1 t) (iblk m c 2 t) (iblk m c 3 t) (iblk m c 4 t)
    (iblk m c 6 t) j n).trans ?_
  exact congrFun (congr (congr (congr (congrArg query (weights_block m c t)) (row_block m c t n)) (cos_block m c t n)) (sin_block m c t n)) j

/-- and its tile of the values. -/
theorem value_tile (t : Fin grid0.N) :
    valueBlock (k0_pay9 (iblk m c 0 t) (iblk m c 1 t) (iblk m c 3 t)) (iblk m c 6 t)
      = fun j => valueArray m c ((win0_13.rect t).emb j) := by
  refine funext fun (y : S2x512x256.Idx) => ?_
  obtain ⟨e, j, n, rfl⟩ : ∃ (e : Fin 2) (j : Fin 512) (n : Fin 256), y = ix3 e j n := ⟨y 0, y 1, y 2, ValueIdx.eq_ix3 y⟩
  refine Eq.trans ?_ (congrArg (valueArray m c) (value_place t e j n)).symm
  refine (valueBlock_apply (iblk m c 0 t) (iblk m c 1 t) (iblk m c 2 t) (iblk m c 3 t) (iblk m c 4 t) (iblk m c 6 t) e j n).trans ?_
  exact congrFun (congr (congrArg value (weights_block m c t))
    ((row_block m c t (col e n)).trans (congrArg (rowAt m c) (partRow_part t e n).symm))) j

/-- What a point writes back. -/
theorem query_flushed (t : Fin grid0.N) : (dats m 0 c).flushed 11 t = fun j => queryArray m c ((win0_11.rect t).emb j) :=
  (Value.flushed11_A m c t).trans ((congrArg ((cfg0.win 11).cut (grid0.coords t)) (out_queries ..)).trans (query_tile m c t))

theorem value_flushed (t : Fin grid0.N) : (dats m 0 c).flushed 13 t = fun j => valueArray m c ((win0_13.rect t).emb j) :=
  (Value.flushed13_A m c t).trans ((congrArg ((cfg0.win 13).cut (grid0.coords t)) (out_values ..)).trans (value_tile m c t))

/-- The final arrays. -/
theorem query_final : (dats m 0 c).arrAt 11 cfg0.N = queryArray m c :=
  (dats m 0 c).arrAt_eq_of_cover 11 (queryArray m c) (fun t _ => query_flushed m c t) fun (i : S1024x16384.Idx) => by
    obtain ⟨t, ht⟩ := query_covered i
    exact ⟨t, flush0_11 t, Eq.mpr (congrArg (i ∈ ·) (View.set_slice_whole main_v0_0 (win0_11.rect t))) ht⟩

theorem value_final : (dats m 0 c).arrAt 13 cfg0.N = valueArray m c :=
  (dats m 0 c).arrAt_eq_of_cover 13 (valueArray m c) (fun t _ => value_flushed m c t) fun (i : S64x512x256.Idx) => by
    obtain ⟨t, ht⟩ := value_covered i
    exact ⟨t, flush0_13 t, Eq.mpr (congrArg (i ∈ ·) (View.set_slice_whole main_v0_2 (win0_13.rect t))) ht⟩

end Cert.Kernel5Ideal.Proj

end
-- ==== Proof.Proj.RefValue.lean ====
/-
  The projections' reference at an index: the latents, their norms, the features, the rotation of 32 of a head's 128.  An
  element of its results is the query or the value of `Spec`.
-/
module

public import proofs.«01_k».proof.Proof.Proj.Spec
public import proofs.«01_k».proof.Proof.Gen.Reference5Ideal.Read
public import Idealize.ShloMosaic.Lib.IdealHost
public import Idealize.ShloMosaic.Lib.Pipeline.Value

@[expose] public section

set_option maxRecDepth 16384

noncomputable section

namespace Cert.Reference5Ideal.Proj

open Idealize.ShloMosaic Cert.Reference5Ideal Cert.Reference5Ideal.Gen Cert.Reference5Ideal.Read Cert.ProjSpec
open Idealize.ShloMosaic.ValueIdx (ix1 ix2 ix3 ix4)
open scoped BigOperators

/-- An index with two coordinates is known by them, -/
theorem idx_eq {a b : ℕ} {i j : (⟨2, ![a, b]⟩ : Shape).Idx} (h0 : (i 0).val = (j 0).val) (h1 : (i 1).val = (j 1).val) : i = j :=
  funext fun x => Fin.ext (match x with | ⟨0, _⟩ => h0 | ⟨1, _⟩ => h1)

/-- and so is one with four. -/
theorem idx4_eq {a b d e : ℕ} {i j : (⟨4, ![a, b, d, e]⟩ : Shape).Idx} (h0 : (i 0).val = (j 0).val) (h1 : (i 1).val = (j 1).val)
    (h2 : (i 2).val = (j 2).val) (h3 : (i 3).val = (j 3).val) : i = j :=
  funext fun x => Fin.ext (match x with | ⟨0, _⟩ => h0 | ⟨1, _⟩ => h1 | ⟨2, _⟩ => h2 | ⟨3, _⟩ => h3)

variable (x0 : Vec Ideal S16384x1024 .bf16) (x1 : Vec Ideal S1024x768 .bf16) (x2 : Vec Ideal S1x384 .f32) (x3 : Vec Ideal S1x256 .f32)
  (x4 : Vec Ideal S1024x384 .bf16) (x6 : Vec Ideal S512x256 .bf16) (x7 x8 : Vec Ideal S16x2048 .f32)

/-! ### The latents and their norms -/

def qlatent (r : Fin 16384) : Fin 384 → EReal := latent (fun k => x0 (ix2 r k)) fun k j => x1 (ix2 k (qcol j))
def vlatent (r : Fin 16384) : Fin 256 → EReal := latent (fun k => x0 (ix2 r k)) fun k j => x1 (ix2 k (vcol j))

theorem qlatent_apply (r : Fin 16384) (j : Fin 384) : val_main_v1 (F := Ideal) x0 x1 (ix2 r j) = qlatent x0 x1 r j := by
  unfold qlatent latent
  rw [val_main_v1_apply]
  exact Finset.sum_congr rfl fun k _ => congrArg₂ (fun p q : EReal => p * q) (congrArg x0 (idx_eq rfl rfl))
    ((val_main_v0_apply x1 (ridx_main_v1 (ix2 r j) k)).trans (congrArg x1 (idx_eq (j := ix2 k (qcol j)) rfl rfl)))

theorem vlatent_apply (r : Fin 16384) (j : Fin 256) : val_main_v3 (F := Ideal) x0 x1 (ix2 r j) = vlatent x0 x1 r j := by
  unfold vlatent latent
  rw [val_main_v3_apply]
  exact Finset.sum_congr rfl fun k _ => congrArg₂ (fun p q : EReal => p * q) (congrArg x0 (idx_eq rfl rfl))
    ((val_main_v2_apply x1 (ridx_main_v3 (ix2 r j) k)).trans (congrArg x1 (idx_eq (j := ix2 k (vcol j)) rfl rfl)))

theorem qscale_apply (r : Fin 16384) :
    val_main_v11 (F := Ideal) x0 x1 (ix2 r (0 : Fin 1))
      = Ideal.rsqrt (Ideal.div (∑ k, qlatent x0 x1 r k * qlatent x0 x1 r k) (Ideal.ofBits .f32 0x43C00000#32) + Ideal.ofBits .f32 0x358637BD#32) := by
  rw [val_main_v11_apply, val_main_v10_apply, val_main_v8_apply, val_main_v6_apply, val_main_v5_apply, val_main_v7_apply, val_main_v9_apply]
  refine congrArg (fun p => Ideal.rsqrt (Ideal.div p (Ideal.ofBits .f32 0x43C00000#32) + Ideal.ofBits .f32 0x358637BD#32)) ?_
  refine (congrArg (fun p : EReal => p + _) Ideal.ofBits_zero_f32).trans ((zero_add _).trans (Finset.sum_congr rfl fun k _ => ?_))
  have e := (congrArg (val_main_v1 (F := Ideal) x0 x1) (idx_eq rfl rfl :
    idx_main_v5 (idx_main_v6 (ix2 r (0 : Fin 1))) k = ix2 r k)).trans (qlatent_apply x0 x1 r k)
  exact congrArg₂ (fun p q : EReal => p * q) e e

theorem vscale_apply (r : Fin 16384) :
    val_main_v50 (F := Ideal) x0 x1 (ix2 r (0 : Fin 1))
      = Ideal.rsqrt (Ideal.div (∑ k, vlatent x0 x1 r k * vlatent x0 x1 r k) (Ideal.ofBits .f32 0x43800000#32) + Ideal.ofBits .f32 0x358637BD#32) := by
  rw [val_main_v50_apply, val_main_v49_apply, val_main_v47_apply, val_main_v45_apply, val_main_v44_apply, val_main_v46_apply, val_main_v48_apply]
  refine congrArg (fun p => Ideal.rsqrt (Ideal.div p (Ideal.ofBits .f32 0x43800000#32) + Ideal.ofBits .f32 0x358637BD#32)) ?_
  refine (congrArg (fun p : EReal => p + _) Ideal.ofBits_zero_f32).trans ((zero_add _).trans (Finset.sum_congr rfl fun k _ => ?_))
  have e := (congrArg (val_main_v3 (F := Ideal) x0 x1) (idx_eq rfl rfl :
    idx_main_v44 (idx_main_v45 (ix2 r (0 : Fin 1))) k = ix2 r k)).trans (vlatent_apply x0 x1 r k)
  exact congrArg₂ (fun p q : EReal => p * q) e e

theorem qnormal_apply (r : Fin 16384) (j : Fin 384) :
    val_main_v15 (F := Ideal) x0 x1 x2 (ix2 r j)
      = normal (Ideal.ofBits .f32 0x43C00000#32) (qlatent x0 x1 r) (fun k => x2 (ix2 (0 : Fin 1) k)) j := by
  rw [val_main_v15_apply, val_main_v13_apply, val_main_v12_apply, val_main_v14_apply]
  refine congrArg₂ (fun p q : EReal => p * q) (congrArg₂ (fun p q : EReal => p * q) (qlatent_apply x0 x1 r j) ?_) (congrArg x2 (idx_eq rfl rfl))
  exact (congrArg (val_main_v11 (F := Ideal) x0 x1) (idx_eq rfl rfl : idx_main_v12 (ix2 r j) = ix2 r (0 : Fin 1))).trans (qscale_apply x0 x1 r)

theorem vnormal_apply (r : Fin 16384) (j : Fin 256) :
    val_main_v54 (F := Ideal) x0 x1 x3 (ix2 r j)
      = normal (Ideal.ofBits .f32 0x43800000#32) (vlatent x0 x1 r) (fun k => x3 (ix2 (0 : Fin 1) k)) j := by
  rw [val_main_v54_apply, val_main_v52_apply, val_main_v51_apply, val_main_v53_apply]
  refine congrArg₂ (fun p q : EReal => p * q) (congrArg₂ (fun p q : EReal => p * q) (vlatent_apply x0 x1 r j) ?_) (congrArg x3 (idx_eq rfl rfl))
  exact (congrArg (val_main_v50 (F := Ideal) x0 x1) (idx_eq rfl rfl : idx_main_v51 (ix2 r j) = ix2 r (0 : Fin 1))).trans (vscale_apply x0 x1 r)

/-! ### The features -/

theorem qfeature_apply (r : Fin 16384) (j : Fin 1024) :
    val_main_v18 (F := Ideal) x0 x1 x2 x4 (ix2 r j)
      = feature (Ideal.ofBits .f32 0x43C00000#32) (qlatent x0 x1 r) (fun k => x2 (ix2 (0 : Fin 1) k)) (fun k => x4 (ix2 j k)) := by
  rw [val_main_v18_apply]
  refine Finset.sum_congr rfl fun k _ => congrArg₂ (fun p q : EReal => p * q) ?_ ?_
  · exact (congrArg (val_main_v15 (F := Ideal) x0 x1 x2) (idx_eq rfl rfl : lidx_main_v18 (ix2 r j) k = ix2 r k)).trans (qnormal_apply x0 x1 x2 r k)
  · exact (val_main_v16_apply x4 (ridx_main_v18 (ix2 r j) k)).trans (congrArg x4 (idx_eq (j := ix2 j k) rfl rfl))

theorem vfeature_apply (r : Fin 16384) (j : Fin 512) :
    val_main_v57 (F := Ideal) x0 x1 x3 x6 (ix2 r j)
      = feature (Ideal.ofBits .f32 0x43800000#32) (vlatent x0 x1 r) (fun k => x3 (ix2 (0 : Fin 1) k)) (fun k => x6 (ix2 j k)) := by
  rw [val_main_v57_apply]
  refine Finset.sum_congr rfl fun k _ => congrArg₂ (fun p q : EReal => p * q) ?_ ?_
  · exact (congrArg (val_main_v54 (F := Ideal) x0 x1 x3) (idx_eq rfl rfl : lidx_main_v57 (ix2 r j) k = ix2 r k)).trans (vnormal_apply x0 x1 x3 r k)
  · exact (val_main_v55_apply x6 (ridx_main_v57 (ix2 r j) k)).trans (congrArg x6 (idx_eq (j := ix2 j k) rfl rfl))

/-! ### The rotation -/

/-- The row of position `p` of sequence `b`. -/
def seqRow (b : Fin 8) (p : Fin 2048) : Fin 16384 := ⟨2048 * b.val + p.val, by omega⟩

/-- A head's features, from those of all heads. -/
theorem head_apply (b : Fin 8) (p : Fin 2048) (h : Fin 8) (l : Fin 128) :
    val_main_v19 (F := Ideal) x0 x1 x2 x4 (ix4 b p h l) = val_main_v18 (F := Ideal) x0 x1 x2 x4 (ix2 (seqRow b p) (lane h l)) := by
  rw [val_main_v19_apply]
  refine congrArg (val_main_v18 (F := Ideal) x0 x1 x2 x4) (idx_eq ?_ ?_)
  · show (((b.val * 2048 + p.val) * 8 + h.val) * 128 + l.val) / 1024 = 2048 * b.val + p.val; omega
  · show (((b.val * 2048 + p.val) * 8 + h.val) * 128 + l.val) % 1024 = 128 * h.val + l.val; omega

variable (b : Fin 8) (p : Fin 2048) (h : Fin 8)

theorem first_apply (i : Fin 16) :
    val_main_v24 (F := Ideal) x0 x1 x2 x4 (ix4 b p h i) = val_main_v19 (F := Ideal) x0 x1 x2 x4 (ix4 b p h (first i)) := by
  rw [val_main_v24_apply]; exact congrArg (val_main_v19 (F := Ideal) x0 x1 x2 x4) (idx4_eq rfl rfl rfl rfl)

theorem second_apply (i : Fin 16) :
    val_main_v25 (F := Ideal) x0 x1 x2 x4 (ix4 b p h i) = val_main_v19 (F := Ideal) x0 x1 x2 x4 (ix4 b p h (second i)) := by
  rw [val_main_v25_apply]; exact congrArg (val_main_v19 (F := Ideal) x0 x1 x2 x4) (idx4_eq rfl rfl rfl rfl)

/-- The tables; each is read twice. -/
theorem cos_apply (i : Fin 16) : val_main_v28 (F := Ideal) x7 (ix4 b p h i) = x7 (ix2 i p) := by
  rw [val_main_v28_apply, val_main_v27_apply, val_main_v21_apply, val_main_v20_apply]; exact congrArg x7 (idx_eq rfl rfl)

theorem sin_apply (i : Fin 16) : val_main_v31 (F := Ideal) x8 (ix4 b p h i) = x8 (ix2 i p) := by
  rw [val_main_v31_apply, val_main_v30_apply, val_main_v23_apply, val_main_v22_apply]; exact congrArg x8 (idx_eq rfl rfl)

theorem cos_apply' (i : Fin 16) : val_main_v35 (F := Ideal) x7 (ix4 b p h i) = x7 (ix2 i p) := by
  rw [val_main_v35_apply, val_main_v34_apply, val_main_v21_apply, val_main_v20_apply]; exact congrArg x7 (idx_eq rfl rfl)

theorem sin_apply' (i : Fin 16) : val_main_v38 (F := Ideal) x8 (ix4 b p h i) = x8 (ix2 i p) := by
  rw [val_main_v38_apply, val_main_v37_apply, val_main_v23_apply, val_main_v22_apply]; exact congrArg x8 (idx_eq rfl rfl)

section

variable (y : FVec Ideal S8x2048x8x64 .f32) (u v : FVec Ideal S8x2048x8x16 .f32) (w : FVec Ideal S8x2048x8x32 .f32)

/-- A head's features put together: 64, the two halves of the 16 pairs, and 32. -/
def joined : FVec Ideal S8x2048x8x128 .f32 :=
  concatenate S8x2048x8x128 3 [⟨S8x2048x8x64, y⟩, ⟨S8x2048x8x16, u⟩, ⟨S8x2048x8x16, v⟩, ⟨S8x2048x8x32, w⟩]
    concatenates_S8x2048x8x64_S8x2048x8x16_S8x2048x8x16_S8x2048x8x32_S8x2048x8x128_d3

theorem joined_start (i : Fin 64) (l : Fin 128) (hl : 0 + i.val = l.val) : joined y u v w (ix4 b p h l) = y (ix4 b p h i) :=
  concatenate_apply_piece (t := S8x2048x8x128) 3 [⟨S8x2048x8x64, y⟩, ⟨S8x2048x8x16, u⟩, ⟨S8x2048x8x16, v⟩, ⟨S8x2048x8x32, w⟩]
    concatenates_S8x2048x8x64_S8x2048x8x16_S8x2048x8x16_S8x2048x8x32_S8x2048x8x128_d3 (ix4 b p h l) 0 (by decide : 0 < 4) S8x2048x8x64 y rfl rfl 0 rfl
    (ix4 b p h i) (by intro a ha; fin_cases a <;> first | rfl | exact absurd rfl ha) hl

theorem joined_first (i : Fin 16) (l : Fin 128) (hl : 64 + i.val = l.val) : joined y u v w (ix4 b p h l) = u (ix4 b p h i) :=
  concatenate_apply_piece (t := S8x2048x8x128) 3 [⟨S8x2048x8x64, y⟩, ⟨S8x2048x8x16, u⟩, ⟨S8x2048x8x16, v⟩, ⟨S8x2048x8x32, w⟩]
    concatenates_S8x2048x8x64_S8x2048x8x16_S8x2048x8x16_S8x2048x8x32_S8x2048x8x128_d3 (ix4 b p h l) 1 (by decide : 1 < 4) S8x2048x8x16 u rfl rfl 64 rfl
    (ix4 b p h i) (by intro a ha; fin_cases a <;> first | rfl | exact absurd rfl ha) hl

theorem joined_second (i : Fin 16) (l : Fin 128) (hl : 80 + i.val = l.val) : joined y u v w (ix4 b p h l) = v (ix4 b p h i) :=
  concatenate_apply_piece (t := S8x2048x8x128) 3 [⟨S8x2048x8x64, y⟩, ⟨S8x2048x8x16, u⟩, ⟨S8x2048x8x16, v⟩, ⟨S8x2048x8x32, w⟩]
    concatenates_S8x2048x8x64_S8x2048x8x16_S8x2048x8x16_S8x2048x8x32_S8x2048x8x128_d3 (ix4 b p h l) 2 (by decide : 2 < 4) S8x2048x8x16 v rfl rfl 80 rfl
    (ix4 b p h i) (by intro a ha; fin_cases a <;> first | rfl | exact absurd rfl ha) hl

theorem joined_end (i : Fin 32) (l : Fin 128) (hl : 96 + i.val = l.val) : joined y u v w (ix4 b p h l) = w (ix4 b p h i) :=
  concatenate_apply_piece (t := S8x2048x8x128) 3 [⟨S8x2048x8x64, y⟩, ⟨S8x2048x8x16, u⟩, ⟨S8x2048x8x16, v⟩, ⟨S8x2048x8x32, w⟩]
    concatenates_S8x2048x8x64_S8x2048x8x16_S8x2048x8x16_S8x2048x8x32_S8x2048x8x128_d3 (ix4 b p h l) 3 (by decide : 3 < 4) S8x2048x8x32 w rfl rfl 96 rfl
    (ix4 b p h i) (by intro a ha; fin_cases a <;> first | rfl | exact absurd rfl ha) hl

end

/-- A head's features after the rotation. -/
theorem rotated_apply (l : Fin 128) :
    val_main_v42 (F := Ideal) x0 x1 x2 x4 x7 x8 (ix4 b p h l)
      = rotated (fun l => val_main_v19 (F := Ideal) x0 x1 x2 x4 (ix4 b p h l)) (fun i => x7 (ix2 i p)) (fun i => x8 (ix2 i p)) l := by
  change joined (val_main_v26 (F := Ideal) x0 x1 x2 x4) (val_main_v33 (F := Ideal) x0 x1 x2 x4 x7 x8) (val_main_v40 (F := Ideal) x0 x1 x2 x4 x7 x8)
    (val_main_v41 (F := Ideal) x0 x1 x2 x4) (ix4 b p h l) = _
  by_cases h0 : l.val < 64
  · rw [joined_start b p h _ _ _ _ ⟨l.val, h0⟩ l (Nat.zero_add _), rotated_other _ _ _ l (.inl h0), val_main_v26_apply]
    exact congrArg (val_main_v19 (F := Ideal) x0 x1 x2 x4) (idx4_eq rfl rfl rfl rfl)
  by_cases h1 : l.val < 80
  · obtain ⟨i, rfl⟩ : ∃ i, l = first i := ⟨⟨l.val - 64, by omega⟩, Fin.ext (by show l.val = 64 + (l.val - 64); omega)⟩
    rw [joined_first b p h _ _ _ _ i (first i) rfl, rotated_first, val_main_v33_apply, val_main_v29_apply, val_main_v32_apply,
      first_apply, second_apply, cos_apply, sin_apply]
    rfl
  by_cases h2 : l.val < 96
  · obtain ⟨i, rfl⟩ : ∃ i, l = second i := ⟨⟨l.val - 80, by omega⟩, Fin.ext (by show l.val = 80 + (l.val - 80); omega)⟩
    rw [joined_second b p h _ _ _ _ i (second i) rfl, rotated_second, val_main_v40_apply, val_main_v36_apply, val_main_v39_apply,
      first_apply, second_apply, cos_apply', sin_apply']
    rfl
  · have e : 96 + (l.val - 96) = l.val := by omega
    rw [joined_end b p h _ _ _ _ ⟨l.val - 96, by omega⟩ l e, rotated_other _ _ _ l (.inr (by omega)), val_main_v41_apply]
    exact congrArg (val_main_v19 (F := Ideal) x0 x1 x2 x4) (idx4_eq rfl rfl rfl e)

/-! ### The results -/

/-- A query. -/
theorem query_apply (j : Fin 1024) (r : Fin 16384) :
    val_main_v60 (F := Ideal) x0 x1 x2 x4 x7 x8 (ix2 j r)
      = query (weightsOf x1 x2 x3 x4 x6) (fun k => x0 (ix2 r k)) (fun i => x7 (ix2 i (pos r))) (fun i => x8 (ix2 i (pos r))) j := by
  have hj := j.isLt
  have hr := r.isLt
  refine (val_main_v59_apply x0 x1 x2 x4 x7 x8 (ix2 j r)).trans ((val_main_v58_apply ..).trans ?_)
  refine (congrArg (val_main_v42 (F := Ideal) x0 x1 x2 x4 x7 x8) (idx4_eq
    (j := ix4 (⟨r.val / 2048, by omega⟩ : Fin 8) (pos r) (⟨j.val / 128, by omega⟩ : Fin 8) (⟨j.val % 128, by omega⟩ : Fin 128)) ?_ ?_ ?_ ?_)).trans ?_
  · show (r.val * 1024 + j.val) / 2097152 = r.val / 2048; omega
  · show (r.val * 1024 + j.val) / 1024 % 2048 = r.val % 2048; omega
  · show (r.val * 1024 + j.val) / 128 % 8 = j.val / 128; omega
  · show (r.val * 1024 + j.val) % 128 = j.val % 128; omega
  unfold query queries
  refine (rotated_apply ..).trans (congrArg (fun q => rotated q (fun i => x7 (ix2 i (pos r))) (fun i => x8 (ix2 i (pos r))) (⟨j.val % 128, by omega⟩ : Fin 128)) (funext fun l => ?_))
  refine (head_apply ..).trans (Eq.trans ?_ (qfeature_apply x0 x1 x2 x4 r (lane ⟨j.val / 128, by omega⟩ l)))
  exact congrArg (fun r => val_main_v18 (F := Ideal) x0 x1 x2 x4 (ix2 r (lane ⟨j.val / 128, by omega⟩ l)))
    (Fin.ext (by show 2048 * (r.val / 2048) + r.val % 2048 = r.val; omega))

/-- A value. -/
theorem value_apply (s : Fin 64) (j : Fin 512) (n : Fin 256) :
    val_main_v63 (F := Ideal) x0 x1 x3 x6 (ix3 s j n) = value (weightsOf x1 x2 x3 x4 x6) (fun k => x0 (ix2 (partRow s n) k)) j := by
  have hj := j.isLt
  refine (val_main_v62_apply x0 x1 x3 x6 (ix3 s j n)).trans ((val_main_v61_apply ..).trans ?_)
  refine (congrArg (val_main_v57 (F := Ideal) x0 x1 x3 x6) (idx_eq (j := ix2 (partRow s n) j) ?_ ?_)).trans (vfeature_apply x0 x1 x3 x6 (partRow s n) j)
  · show ((s.val * 256 + n.val) * 512 + j.val) / 512 = 256 * s.val + n.val; omega
  · show ((s.val * 256 + n.val) * 512 + j.val) % 512 = j.val; omega

end Cert.Reference5Ideal.Proj

end
-- ==== Proof.Proj.Agree.lean ====
/-
  The claims about the projections: kernel and reference run and leave their arguments and semaphores as they found them,
  and both leave the queries and the values of `Spec`.
-/
module

public import proofs.«01_k».proof.Defs
public import proofs.«01_k».proof.Proof.Gen.Kernel5.Frame
public import proofs.«01_k».proof.Proof.Gen.Reference5Ideal.Run
public import proofs.«01_k».proof.Proof.Proj.KernelValue
public import proofs.«01_k».proof.Proof.Proj.RefValue

@[expose] public section

noncomputable section

namespace Cert.Proj

open Idealize.ShloMosaic Idealize.SL.Sem
open Idealize.ShloMosaic.ValueIdx (ix2 ix3)

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) :=
  fun m ρ _ => Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The projections' kernel is its own idealized reading. -/
theorem preserves : Cert.preserves_Kernel5_Kernel5Ideal := trivial

/-- The two pairs of results agree, when the arguments do. -/
theorem arrays_eq (m : (ℓ : Loc Cert.Kernel5Ideal.nD Cert.Kernel5Ideal.τ Cert.Kernel5Ideal.sig) → Buf (Elt Ideal) ℓ) (c : Dev Cert.Kernel5Ideal.nD)
    (x0 : Vec Ideal Cert.Reference5Ideal.S16384x1024 .bf16) (x1 : Vec Ideal Cert.Reference5Ideal.S1024x768 .bf16)
    (x2 : Vec Ideal Cert.Reference5Ideal.S1x384 .f32) (x3 : Vec Ideal Cert.Reference5Ideal.S1x256 .f32)
    (x4 : Vec Ideal Cert.Reference5Ideal.S1024x384 .bf16) (x6 : Vec Ideal Cert.Reference5Ideal.S512x256 .bf16)
    (x7 x8 : Vec Ideal Cert.Reference5Ideal.S16x2048 .f32)
    (e0 : x0 = m ((c.tc : Thread Cert.Kernel5Ideal.nD Cert.Kernel5Ideal.τ).loc Cert.Kernel5Ideal.main_arg0))
    (e1 : x1 = m ((c.tc : Thread Cert.Kernel5Ideal.nD Cert.Kernel5Ideal.τ).loc Cert.Kernel5Ideal.main_arg1))
    (e2 : x2 = m ((c.tc : Thread Cert.Kernel5Ideal.nD Cert.Kernel5Ideal.τ).loc Cert.Kernel5Ideal.main_arg2))
    (e3 : x3 = m ((c.tc : Thread Cert.Kernel5Ideal.nD Cert.Kernel5Ideal.τ).loc Cert.Kernel5Ideal.main_arg3))
    (e4 : x4 = m ((c.tc : Thread Cert.Kernel5Ideal.nD Cert.Kernel5Ideal.τ).loc Cert.Kernel5Ideal.main_arg4))
    (e6 : x6 = m ((c.tc : Thread Cert.Kernel5Ideal.nD Cert.Kernel5Ideal.τ).loc Cert.Kernel5Ideal.main_arg6))
    (e7 : x7 = m ((c.tc : Thread Cert.Kernel5Ideal.nD Cert.Kernel5Ideal.τ).loc Cert.Kernel5Ideal.main_arg7))
    (e8 : x8 = m ((c.tc : Thread Cert.Kernel5Ideal.nD Cert.Kernel5Ideal.τ).loc Cert.Kernel5Ideal.main_arg8)) :
    Cert.Reference5Ideal.Read.val_main_v60 (F := Ideal) x0 x1 x2 x4 x7 x8 = Cert.Kernel5Ideal.Proj.queryArray m c
    ∧ Cert.Reference5Ideal.Read.val_main_v63 (F := Ideal) x0 x1 x3 x6 = Cert.Kernel5Ideal.Proj.valueArray m c := by
  subst e0 e1 e2 e3 e4 e6 e7 e8
  constructor
  · exact funext fun (y : Cert.Reference5Ideal.S1024x16384.Idx) =>
      (congrArg _ (ValueIdx.eq_ix2 y)).trans (Cert.Reference5Ideal.Proj.query_apply _ _ _ _ _ _ _ _ (y 0) (y 1))
  · exact funext fun (y : Cert.Reference5Ideal.S64x512x256.Idx) =>
      (congrArg _ (ValueIdx.eq_ix3 y)).trans (Cert.Reference5Ideal.Proj.value_apply _ _ _ _ _ _ (y 0) (y 1) (y 2))

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Proj.queryArray m c, fun c => Cert.Kernel5Ideal.Proj.valueArray m c, ?_, ?_⟩
  · exact (θ_run Cert.Kernel5Ideal.defs _ _).mono (fun r h c => ⟨(h c).1.trans (Cert.Kernel5Ideal.Proj.query_final m c),
      (h c).2.2.1.trans (Cert.Kernel5Ideal.Proj.value_final m c), (h c).2.2.2⟩) (Cert.Kernel5Ideal.Value.run_blocks m g)
  · refine (θ_run Cert.Reference5Ideal.defs _ _).mono (fun r h c => ?_) (Cert.Reference5Ideal.Value.run (F := Ideal) m' g')
    obtain ⟨a0, a1, a2, a3, a4, _, a6, a7, a8, _, _⟩ := hagree c
    obtain ⟨r0, r1⟩ := arrays_eq m c _ _ _ _ _ _ _ _ a0 a1 a2 a3 a4 a6 a7 a8
    obtain ⟨h0, h1, h2⟩ := h c
    rw [Cert.Reference5Ideal.Read.val_main_v60_eq] at h0
    rw [Cert.Reference5Ideal.Read.val_main_v63_eq] at h1
    exact ⟨h0.trans r0, h1.trans r1, h2⟩

end Cert.Proj

end
-- ==== Proof.lean ====
/-
  The claims about the latent attention: the kernel and its idealized reading run and leave their arguments and
  semaphores as they found them, so does the reference; the idealized kernel is the kernel but for the named mask; and
  the idealized kernel and the reference compute the same array.  The mathematics is in the modules beside this one:
  `Online` is the kernel's running softmax against the reference's, `KernelValue` is what the kernel's grid writes, and
  `RefValue` is the reference at an index.

  And the same claims about the experts' layer, where every tile's expert is one of the 32: its modules are in `Experts`,
  and `Experts.Agree` joins them.  And the same claims about the gates, whose modules are in `Gates`, about the rows of
  the merging, whose modules are in `Merge`, and about the queries and values of the latent attention's projections,
  whose modules are in `Proj`.
-/
module

public import proofs.«01_k».proof.Defs
public import proofs.«01_k».proof.Proof.Gen.Kernel.Frame
public import proofs.«01_k».proof.Proof.Gen.Kernel2Ideal.Launch
public import proofs.«01_k».proof.Proof.Gen.Kernel2.Launch
public import proofs.«01_k».proof.Proof.Gen.Kernel2Ideal.Skeleton
public import proofs.«01_k».proof.Proof.Gen.Kernel2.Skeleton
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.KernelValue
public import proofs.«01_k».proof.Proof.RefValue
public import proofs.«01_k».proof.Proof.Finite
public import proofs.«01_k».proof.Proof.Experts.Agree
public import proofs.«01_k».proof.Proof.Gates.Agree
public import proofs.«01_k».proof.Proof.Merge.Agree
public import proofs.«01_k».proof.Proof.Proj.Agree

@[expose] public section

noncomputable section

namespace Cert.Proof

open Idealize.ShloMosaic Idealize.SL.Sem
open Idealize.ShloMosaic.ValueIdx (ix1 ix2 ix3)

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask is `-∞` in the idealized kernel. -/
theorem preserves : Cert.preserves_Kernel_KernelIdeal :=
  IdealRules.named_const.statement Cert.KernelIdeal.κ "mask" .f32 0xF149F2CA#32 ⊥ rfl

/-- The experts' kernel is its own idealized reading. -/
theorem preserves_experts : Cert.preserves_Kernel2_Kernel2Ideal := trivial

/-- An index of the result is a token of a batch row and an entry of a head. -/
theorem index_split (y : Cert.ReferenceIdeal.S16384x512.Idx) : ∃ (b : Fin 8) (q : Fin 2048) (h : Fin 8) (d : Fin 64),
    y = ix2 (Cert.ReferenceIdeal.Attn.tok b q) (Spec.vrow h d) := by
  have h0 : (y 0).val < 16384 := (y 0).isLt
  have h1 : (y 1).val < 512 := (y 1).isLt
  refine ⟨⟨(y 0).val / 2048, by omega⟩, ⟨(y 0).val % 2048, by omega⟩, ⟨(y 1).val / 64, by omega⟩, ⟨(y 1).val % 64, by omega⟩, ?_⟩
  refine (ValueIdx.eq_ix2 y).trans (congrArg₂ ix2 (Fin.ext ?_) (Fin.ext ?_))
  · show (y 0).val = 2048 * ((y 0).val / 2048) + (y 0).val % 2048; omega
  · show (y 1).val = 64 * ((y 1).val / 64) + (y 1).val % 64; omega

/-- The two arrays of results agree, when the arguments do and every query and key is finite. -/
theorem arrays_eq (m : (ℓ : Loc Cert.KernelIdeal.nD Cert.KernelIdeal.τ Cert.KernelIdeal.sig) → Buf (Elt Ideal) ℓ) (c : Dev Cert.KernelIdeal.nD)
    (x0 : Vec Ideal Cert.ReferenceIdeal.S1024x16384 .bf16) (x1 : Vec Ideal Cert.ReferenceIdeal.S16384x1024 .bf16)
    (x2 : Vec Ideal Cert.ReferenceIdeal.S64x512x256 .bf16)
    (e0 : x0 = m ((c.tc : Thread Cert.KernelIdeal.nD Cert.KernelIdeal.τ).loc Cert.KernelIdeal.main_arg0))
    (e1 : x1 = m ((c.tc : Thread Cert.KernelIdeal.nD Cert.KernelIdeal.τ).loc Cert.KernelIdeal.main_arg1))
    (e2 : x2 = m ((c.tc : Thread Cert.KernelIdeal.nD Cert.KernelIdeal.τ).loc Cert.KernelIdeal.main_arg2))
    (hf : @Cert.Pre_finite_scores.fn Cert.Finite.facts Ideal _ x0 x1 x2 = fun _ => 1#1) :
    (Cert.KernelIdeal.Gen.dats m 0 c).arrAt 3 Cert.KernelIdeal.cfg0.N = Cert.ReferenceIdeal.Read.val_main_v35 (F := Ideal) x0 x1 x2 := by
  have hq : ∀ a r, ∃ y : ℝ, Cert.ReferenceIdeal.Attn.argQ x0 a r = y := fun a r => (Cert.Finite.both hf a r).1
  have hk : ∀ r a, ∃ y : ℝ, Cert.ReferenceIdeal.Attn.argK x1 r a = y := fun r a => (Cert.Finite.both hf a r).2
  have eq : Cert.KernelIdeal.Attn.argQ m c = Cert.ReferenceIdeal.Attn.argQ x0 := by subst e0; rfl
  have ek : Cert.KernelIdeal.Attn.argK m c = Cert.ReferenceIdeal.Attn.argK x1 := by subst e1; rfl
  have ev : Cert.KernelIdeal.Attn.argV m c = Cert.ReferenceIdeal.Attn.argV x2 := by subst e2; rfl
  have hs := Cert.Finite.score_ne_top hq hk
  refine (Cert.KernelIdeal.Attn.final_array m c (by rw [eq, ek]; exact hs)).trans (funext fun y => ?_)
  obtain ⟨b, q, h, d, rfl⟩ := index_split y
  refine Eq.trans ?_ (Cert.ReferenceIdeal.Attn.reference_eq x0 x1 x2 hs (Cert.Finite.own_ne_bot hq hk) b h d q).symm
  show Spec.result (Cert.KernelIdeal.Attn.argQ m c) (Cert.KernelIdeal.Attn.argK m c) (Cert.KernelIdeal.Attn.argV m c) _ _ _ = _
  rw [eq, ek, ev]
  exact congrArg₂ (Spec.result _ _ _ _) (Fin.ext (by show (64 * h.val + d.val) / 64 = h.val; omega))
    (Fin.ext (by show (64 * h.val + d.val) % 64 = d.val; omega))

theorem algebraic : Cert.algebraic_KernelIdeal_ReferenceIdeal_pre_finite_scores (hKernelIdeal := Cert.KernelIdeal.Gen.facts)
    (hReferenceIdeal := Cert.ReferenceIdeal.Gen.facts) (hPre_finite_scores := Cert.Finite.facts) := by
  intro m g m' g' hpre hagree
  refine ⟨fun c => (Cert.KernelIdeal.Gen.dats m 0 c).arrAt 3 Cert.KernelIdeal.cfg0.N,
    Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v35_eq]
  obtain ⟨a0, a1, a2⟩ := hagree c
  refine (arrays_eq m c _ _ _ a0 a1 a2 ?_).symm
  rw [a0, a1, a2]
  exact hpre c

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Finite.facts, Cert.ExpertRange.facts,
    frame_kernel, frame_ideal, fun m ρ _ => frame_ideal m ρ trivial, frame_reference, fun m ρ _ => frame_reference m ρ trivial,
    Cert.Kernel2Ideal.Experts.frame_printed, Cert.Kernel2Ideal.Experts.frame_ideal, Cert.Experts.frame_reference,
    fun m ρ _ => Cert.Experts.frame_reference m ρ trivial,
    Cert.Gates.frame_kernel, Cert.Gates.frame_ideal, Cert.Gates.frame_reference,
    Cert.Merge.frame_kernel, Cert.Merge.frame_ideal, Cert.Merge.frame_reference,
    Cert.Proj.frame_kernel, Cert.Proj.frame_ideal, Cert.Proj.frame_reference,
    preserves, algebraic, preserves_experts, Cert.Experts.algebraic, Cert.Gates.preserves, Cert.Gates.algebraic,
    Cert.Merge.preserves, Cert.Merge.algebraic, Cert.Proj.preserves, Cert.Proj.algebraic⟩

end Cert.Proof

end
